-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v126_0)) (v1 : (c : Dev Cert.Kernel2Ideal.nD) → Buf (Elt Ideal) ((c.tc : Thread Cert.Kernel2Ideal.nD Cert.Kernel2Ideal.τ).loc Cert.Kernel2Ideal.main_v126_1)) (v2 : (c : Dev Cert.Kernel2Ideal.nD) → Buf (Elt Ideal) ((c.tc : Thread Cert.Kernel2Ideal.nD Cert.Kernel2Ideal.τ).loc Cert.Kernel2Ideal.main_v126_2)) (v3 : (c : Dev Cert.Kernel2Ideal.nD) → Buf (Elt Ideal) ((c.tc : Thread Cert.Kernel2Ideal.nD Cert.Kernel2Ideal.τ).loc Cert.Kernel2Ideal.main_v126_3)) (v4 : (c : Dev Cert.Kernel2Ideal.nD) → Buf (Elt Ideal) ((c.tc : Thread Cert.Kernel2Ideal.nD Cert.Kernel2Ideal.τ).loc Cert.Kernel2Ideal.main_v126_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v126_0) = v0 c
          ∧ r.2.mem ((c.tc : Thread Cert.Kernel2Ideal.nD Cert.Kernel2Ideal.τ).loc Cert.Kernel2Ideal.main_v126_1) = v1 c
          ∧ r.2.mem ((c.tc : Thread Cert.Kernel2Ideal.nD Cert.Kernel2Ideal.τ).loc Cert.Kernel2Ideal.main_v126_2) = v2 c
          ∧ r.2.mem ((c.tc : Thread Cert.Kernel2Ideal.nD Cert.Kernel2Ideal.τ).loc Cert.Kernel2Ideal.main_v126_3) = v3 c
          ∧ r.2.mem ((c.tc : Thread Cert.Kernel2Ideal.nD Cert.Kernel2Ideal.τ).loc Cert.Kernel2Ideal.main_v126_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v305) = v0 c
          ∧ r.2.mem ((c.tc : Thread Cert.Reference2Ideal.nD Cert.Reference2Ideal.τ).loc Cert.Reference2Ideal.main_v315) = v1 c
          ∧ r.2.mem ((c.tc : Thread Cert.Reference2Ideal.nD Cert.Reference2Ideal.τ).loc Cert.Reference2Ideal.main_v316) = v2 c
          ∧ r.2.mem ((c.tc : Thread Cert.Reference2Ideal.nD Cert.Reference2Ideal.τ).loc Cert.Reference2Ideal.main_v317) = v3 c
          ∧ r.2.mem ((c.tc : Thread Cert.Reference2Ideal.nD Cert.Reference2Ideal.τ).loc Cert.Reference2Ideal.main_v318) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v96) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S4x256x8x64 : Shape := ⟨4, ![4, 256, 8, 64]⟩
abbrev S4x256x32 : Shape := ⟨3, ![4, 256, 32]⟩
abbrev S_ : Shape := ⟨0, ![]⟩
abbrev S4x8x4096x64 : Shape := ⟨4, ![4, 8, 4096, 64]⟩
abbrev S4x8x4096x32 : Shape := ⟨4, ![4, 8, 4096, 32]⟩
abbrev S4x8x4096x128 : Shape := ⟨4, ![4, 8, 4096, 128]⟩
abbrev S4x1x4096x32 : Shape := ⟨4, ![4, 1, 4096, 32]⟩
abbrev S4x8x256x64 : Shape := ⟨4, ![4, 8, 256, 64]⟩
abbrev S4x8x256x32 : Shape := ⟨4, ![4, 8, 256, 32]⟩
abbrev S4x1x256x32 : Shape := ⟨4, ![4, 1, 256, 32]⟩
abbrev S4x8x256x128 : Shape := ⟨4, ![4, 8, 256, 128]⟩
abbrev S4x8x4352x64 : Shape := ⟨4, ![4, 8, 4352, 64]⟩
abbrev S4x8x4352x1 : Shape := ⟨4, ![4, 8, 4352, 1]⟩
abbrev S4x8x4352x63 : Shape := ⟨4, ![4, 8, 4352, 63]⟩
abbrev S4x8x4352x128 : Shape := ⟨4, ![4, 8, 4352, 128]⟩
abbrev S4x4096x512 : Shape := ⟨3, ![4, 4096, 512]⟩
abbrev S1x4x1024x128 : Shape := ⟨4, ![1, 4, 1024, 128]⟩
abbrev S1x4x4352x128 : Shape := ⟨4, ![1, 4, 4352, 128]⟩
abbrev S1x1024x256 : Shape := ⟨3, ![1, 1024, 256]⟩
abbrev S1024x1 : Shape := ⟨2, ![1024, 1]⟩
abbrev S1024x128 : Shape := ⟨2, ![1024, 128]⟩
abbrev S1x1x1024x128 : Shape := ⟨4, ![1, 1, 1024, 128]⟩
abbrev S1x1x2048x128 : Shape := ⟨4, ![1, 1, 2048, 128]⟩
abbrev S2048x128 : Shape := ⟨2, ![2048, 128]⟩
abbrev S1024x2048 : Shape := ⟨2, ![1024, 2048]⟩
abbrev S1024 : Shape := ⟨1, ![1024]⟩
abbrev S1x1x2304x128 : Shape := ⟨4, ![1, 1, 2304, 128]⟩
abbrev S2304x128 : Shape := ⟨2, ![2304, 128]⟩
abbrev S1024x2304 : Shape := ⟨2, ![1024, 2304]⟩
abbrev S1024x64 : Shape := ⟨2, ![1024, 64]⟩
abbrev S1024x256 : Shape := ⟨2, ![1024, 256]⟩

abbrev nBuf : Space → Nat
  | .hbm => 47
  | .vmem => 8
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x32, .f32⟩
  | .hbm, ⟨2, _⟩ => ⟨S4x4096x8x32, .f32⟩
  | .hbm, ⟨3, _⟩ => ⟨S4x4096x8x64, .f32⟩
  | .hbm, ⟨4, _⟩ => ⟨S4x4096x32, .f32⟩
  | .hbm, ⟨5, _⟩ => ⟨S4x4096x8x64, .f32⟩
  | .hbm, ⟨6, _⟩ => ⟨S4x256x8x64, .f32⟩
  | .hbm, ⟨7, _⟩ => ⟨S4x256x32, .f32⟩
  | .hbm, ⟨8, _⟩ => ⟨S4x256x8x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8x4096x64, .f32⟩
  | .hbm, ⟨17, _⟩ => ⟨S4x8x4096x32, .f32⟩
  | .hbm, ⟨18, _⟩ => ⟨S4x8x4096x32, .f32⟩
  | .hbm, ⟨19, _⟩ => ⟨S4x8x4096x128, .f32⟩
  | .hbm, ⟨20, _⟩ => ⟨S4x8x4096x128, .f32⟩
  | .hbm, ⟨21, _⟩ => ⟨S4x8x4096x128, .f32⟩
  | .hbm, ⟨22, _⟩ => ⟨S4x8x4096x64, .f32⟩
  | .hbm, ⟨23, _⟩ => ⟨S4x1x4096x32, .f32⟩
  | .hbm, ⟨24, _⟩ => ⟨S4x8x4096x32, .f32⟩
  | .hbm, ⟨25, _⟩ => ⟨S_, .f32⟩
  | .hbm, ⟨26, _⟩ => ⟨S4x8x4096x32, .f32⟩
  | .hbm, ⟨27, _⟩ => ⟨S4x8x4096x128, .f32⟩
  | .hbm, ⟨28, _⟩ => ⟨S4x8x256x64, .f32⟩
  | .hbm, ⟨29, _⟩ => ⟨S_, .f32⟩
  | .hbm, ⟨30, _⟩ => ⟨S4x8x256x32, .f32⟩
  | .hbm, ⟨31, _⟩ => ⟨S4x1x256x32, .f32⟩
  | .hbm, ⟨32, _⟩ => ⟨S4x8x256x32, .f32⟩
  | .hbm, ⟨33, _⟩ => ⟨S4x8x256x128, .f32⟩
  | .hbm, ⟨34, _⟩ => ⟨S4x8x4096x64, .f32⟩
  | .hbm, ⟨35, _⟩ => ⟨S4x8x256x64, .f32⟩
  | .hbm, ⟨36, _⟩ => ⟨S4x8x4352x64, .f32⟩
  | .hbm, ⟨37, _⟩ => ⟨S_, .f32⟩
  | .hbm, ⟨38, _⟩ => ⟨S4x8x4352x1, .f32⟩
  | .hbm, ⟨39, _⟩ => ⟨S_, .f32⟩
  | .hbm, ⟨40, _⟩ => ⟨S4x8x4352x63, .f32⟩
  | .hbm, ⟨41, _⟩ => ⟨S4x8x4352x128, .f32⟩
  | .hbm, ⟨42, _⟩ => ⟨S4x8x4096x128, .bf16⟩
  | .hbm, ⟨43, _⟩ => ⟨S4x8x4352x128, .f32⟩
  | .hbm, ⟨44, _⟩ => ⟨S4x8x4352x128, .bf16⟩
  | .hbm, ⟨45, _⟩ => ⟨S4x8x4352x128, .bf16⟩
  | .hbm, ⟨46, _⟩ => ⟨S4x4096x512, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x4352x128, .bf16⟩
  | .local _ .vmem, ⟨3, _⟩ => ⟨S1x4x4352x128, .bf16⟩
  | .local _ .vmem, ⟨4, _⟩ => ⟨S1x4x4352x128, .bf16⟩
  | .local _ .vmem, ⟨5, _⟩ => ⟨S1x4x4352x128, .bf16⟩
  | .local _ .vmem, ⟨6, _⟩ => ⟨S1x1024x256, .bf16⟩
  | .local _ .vmem, ⟨7, _⟩ => ⟨S1x1024x256, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, arg1.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S4x256x8x64 : Shape := ⟨4, ![4, 256, 8, 64]⟩
abbrev S4x256x32 : Shape := ⟨3, ![4, 256, 32]⟩
abbrev S4x8x4096x4096 : Shape := ⟨4, ![4, 8, 4096, 4096]⟩
abbrev S4x4096x4096x8 : Shape := ⟨4, ![4, 4096, 4096, 8]⟩
abbrev S4x8x4096x256 : Shape := ⟨4, ![4, 8, 4096, 256]⟩
abbrev S4x256x4096x8 : Shape := ⟨4, ![4, 256, 4096, 8]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x8 : Shape := ⟨3, ![4, 4096, 8]⟩
abbrev S4x4096x8x1 : Shape := ⟨4, ![4, 4096, 8, 1]⟩
abbrev S4x4096x512 : Shape := ⟨3, ![4, 4096, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x32, .f32⟩
  | .hbm, ⟨2, _⟩ => ⟨S4x4096x8x32, .f32⟩
  | .hbm, ⟨3, _⟩ => ⟨S4x4096x8x64, .f32⟩
  | .hbm, ⟨4, _⟩ => ⟨S4x4096x32, .f32⟩
  | .hbm, ⟨5, _⟩ => ⟨S4x4096x8x64, .f32⟩
  | .hbm, ⟨6, _⟩ => ⟨S4x256x8x64, .f32⟩
  | .hbm, ⟨7, _⟩ => ⟨S4x256x32, .f32⟩
  | .hbm, ⟨8, _⟩ => ⟨S4x256x8x64, .f32⟩
  | .hbm, ⟨9, _⟩ => ⟨S4x8x4096x4096, .f32⟩
  | .hbm, ⟨10, _⟩ => ⟨S4x4096x4096x8, .f32⟩
  | .hbm, ⟨11, _⟩ => ⟨S4x8x4096x4096, .f32⟩
  | .hbm, ⟨12, _⟩ => ⟨S4x8x4096x4096, .f32⟩
  | .hbm, ⟨13, _⟩ => ⟨S4x8x4096x256, .f32⟩
  | .hbm, ⟨14, _⟩ => ⟨S4x256x4096x8, .f32⟩
  | .hbm, ⟨15, _⟩ => ⟨S4x8x4096x256, .f32⟩
  | .hbm, ⟨16, _⟩ => ⟨S4x8x4096x256, .f32⟩
  | .hbm, ⟨17, _⟩ => ⟨S4x8x4096x4352, .f32⟩
  | .hbm, ⟨18, _⟩ => ⟨S_, .f32⟩
  | .hbm, ⟨19, _⟩ => ⟨S_, .f32⟩
  | .hbm, ⟨20, _⟩ => ⟨S4x8x4096x4352, .f32⟩
  | .hbm, ⟨21, _⟩ => ⟨S4x8x4096x4352, .f32⟩
  | .hbm, ⟨22, _⟩ => ⟨S_, .f32⟩
  | .hbm, ⟨23, _⟩ => ⟨S4x8x4096, .f32⟩
  | .hbm, ⟨24, _⟩ => ⟨S4x8x4096x1, .f32⟩
  | .hbm, ⟨25, _⟩ => ⟨S4x8x4096x4352, .f32⟩
  | .hbm, ⟨26, _⟩ => ⟨S4x8x4096x4352, .f32⟩
  | .hbm, ⟨27, _⟩ => ⟨S4x8x4096x4352, .f32⟩
  | .hbm, ⟨28, _⟩ => ⟨S4x8x4096x4096, .f32⟩
  | .hbm, ⟨29, _⟩ => ⟨S4x8x64x4096, .f32⟩
  | .hbm, ⟨30, _⟩ => ⟨S4x4096x8x64, .f32⟩
  | .hbm, ⟨31, _⟩ => ⟨S4x8x4096x256, .f32⟩
  | .hbm, ⟨32, _⟩ => ⟨S4x8x64x4096, .f32⟩
  | .hbm, ⟨33, _⟩ => ⟨S4x4096x8x64, .f32⟩
  | .hbm, ⟨34, _⟩ => ⟨S4x4096x8x64, .f32⟩
  | .hbm, ⟨35, _⟩ => ⟨S_, .f32⟩
  | .hbm, ⟨36, _⟩ => ⟨S4x8x4096, .f32⟩
  | .hbm, ⟨37, _⟩ => ⟨S4x4096x8, .f32⟩
  | .hbm, ⟨38, _⟩ => ⟨S4x4096x8x1, .f32⟩
  | .hbm, ⟨39, _⟩ => ⟨S4x4096x8x64, .f32⟩
  | .hbm, ⟨40, _⟩ => ⟨S4x4096x8x64, .f32⟩
  | .hbm, ⟨41, _⟩ => ⟨S4x4096x512, .f32⟩
  | .hbm, ⟨42, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x256x1024 : Shape := ⟨3, ![4, 256, 1024]⟩
abbrev S4x8x6144 : Shape := ⟨3, ![4, 8, 6144]⟩
abbrev S4x1024 : Shape := ⟨2, ![4, 1024]⟩
abbrev S4x1024x4256 : Shape := ⟨3, ![4, 1024, 4256]⟩
abbrev S4x384 : Shape := ⟨2, ![4, 384]⟩
abbrev S4x256 : Shape := ⟨2, ![4, 256]⟩
abbrev S4x384x768 : Shape := ⟨3, ![4, 384, 768]⟩
abbrev S4x3x1536 : Shape := ⟨3, ![4, 3, 1536]⟩
abbrev S4x1536 : Shape := ⟨2, ![4, 1536]⟩
abbrev S32 : Shape := ⟨1, ![32]⟩
abbrev S4x1024x32 : Shape := ⟨3, ![4, 1024, 32]⟩
abbrev S_ : Shape := ⟨0, ![]⟩
abbrev S4x1024x64 : Shape := ⟨3, ![4, 1024, 64]⟩
abbrev S32x1 : Shape := ⟨2, ![32, 1]⟩
abbrev S4x1024x256 : Shape := ⟨3, ![4, 1024, 256]⟩
abbrev S4x384x8x96 : Shape := ⟨4, ![4, 384, 8, 96]⟩
abbrev S4x384x8x32 : Shape := ⟨4, ![4, 384, 8, 32]⟩
abbrev S4x384x8x128 : Shape := ⟨4, ![4, 384, 8, 128]⟩
abbrev S4x384x1024 : Shape := ⟨3, ![4, 384, 1024]⟩
abbrev S4x384x8x64 : Shape := ⟨4, ![4, 384, 8, 64]⟩
abbrev S4x256x8x128 : Shape := ⟨4, ![4, 256, 8, 128]⟩
abbrev S4x256x8x64 : Shape := ⟨4, ![4, 256, 8, 64]⟩
abbrev S4x1024x1536 : Shape := ⟨3, ![4, 1024, 1536]⟩
abbrev S4x1024x2048 : Shape := ⟨3, ![4, 1024, 2048]⟩
abbrev S4x1024x384 : Shape := ⟨3, ![4, 1024, 384]⟩
abbrev S4096 : Shape := ⟨1, ![4096]⟩
abbrev S4096x1 : Shape := ⟨2, ![4096, 1]⟩
abbrev S4096x2 : Shape := ⟨2, ![4096, 2]⟩
abbrev S8 : Shape := ⟨1, ![8]⟩
abbrev S4096x2x1 : Shape := ⟨3, ![4096, 2, 1]⟩
abbrev S1x1x8 : Shape := ⟨3, ![1, 1, 8]⟩
abbrev S4096x2x8 : Shape := ⟨3, ![4096, 2, 8]⟩
abbrev S4096x2x1x8 : Shape := ⟨4, ![4096, 2, 1, 8]⟩
abbrev S4096x2x2x8 : Shape := ⟨4, ![4096, 2, 2, 8]⟩
abbrev S4096x32 : Shape := ⟨2, ![4096, 32]⟩
abbrev S4096x64 : Shape := ⟨2, ![4096, 64]⟩
abbrev S4096x128 : Shape := ⟨2, ![4096, 128]⟩
abbrev S1x4096x128 : Shape := ⟨3, ![1, 4096, 128]⟩
abbrev S4x4096x128 : Shape := ⟨3, ![4, 4096, 128]⟩
abbrev S128 : Shape := ⟨1, ![128]⟩
abbrev S96 : Shape := ⟨1, ![96]⟩
abbrev S1x128 : Shape := ⟨2, ![1, 128]⟩
abbrev S4x128 : Shape := ⟨2, ![4, 128]⟩
abbrev S4x1x128 : Shape := ⟨3, ![4, 1, 128]⟩
abbrev S4x256x128 : Shape := ⟨3, ![4, 256, 128]⟩
abbrev S4x4352x128 : Shape := ⟨3, ![4, 4352, 128]⟩
abbrev S4x8x6x1024 : Shape := ⟨4, ![4, 8, 6, 1024]⟩
abbrev S4x4x6x1024 : Shape := ⟨4, ![4, 4, 6, 1024]⟩
abbrev S4x1x6x1024 : Shape := ⟨4, ![4, 1, 6, 1024]⟩
abbrev S4x4x1x6x1024 : Shape := ⟨5, ![4, 4, 1, 6, 1024]⟩
abbrev S4x4x2x6x1024 : Shape := ⟨5, ![4, 4, 2, 6, 1024]⟩
abbrev S4x4352x1024 : Shape := ⟨3, ![4, 4352, 1024]⟩
abbrev S4x1x1024 : Shape := ⟨3, ![4, 1, 1024]⟩
abbrev S4x1x384 : Shape := ⟨3, ![4, 1, 384]⟩
abbrev S4x1x256 : Shape := ⟨3, ![4, 1, 256]⟩
abbrev S4x1x1536 : Shape := ⟨3, ![4, 1, 1536]⟩
abbrev S4x4352x1536 : Shape := ⟨3, ![4, 4352, 1536]⟩
abbrev S4x4352x2048 : Shape := ⟨3, ![4, 4352, 2048]⟩
abbrev S4x8x4352x128 : Shape := ⟨4, ![4, 8, 4352, 128]⟩
abbrev S1x256x1024 : Shape := ⟨3, ![1, 256, 1024]⟩
abbrev S1x8x1024 : Shape := ⟨3, ![1, 8, 1024]⟩
abbrev S1x1x1x6x1024 : Shape := ⟨5, ![1, 1, 1, 6, 1024]⟩
abbrev S1x1x1024 : Shape := ⟨3, ![1, 1, 1024]⟩
abbrev S1x1x384 : Shape := ⟨3, ![1, 1, 384]⟩
abbrev S1x1x256 : Shape := ⟨3, ![1, 1, 256]⟩
abbrev S1x3x1536 : Shape := ⟨3, ![1, 3, 1536]⟩
abbrev S1x1x1536 : Shape := ⟨3, ![1, 1, 1536]⟩
abbrev S1x1024x1536 : Shape := ⟨3, ![1, 1024, 1536]⟩
abbrev S1x1024x2048 : Shape := ⟨3, ![1, 1024, 2048]⟩
abbrev S1x1024x384 : Shape := ⟨3, ![1, 1024, 384]⟩
abbrev S1x1024x256 : Shape := ⟨3, ![1, 1024, 256]⟩
abbrev S1x384x1024 : Shape := ⟨3, ![1, 384, 1024]⟩
abbrev S1x256x1536 : Shape := ⟨3, ![1, 256, 1536]⟩
abbrev S1x256x2048 : Shape := ⟨3, ![1, 256, 2048]⟩
abbrev S1x8x256x128 : Shape := ⟨4, ![1, 8, 256, 128]⟩
abbrev S1x1x1x1x1024 : Shape := ⟨5, ![1, 1, 1, 1, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S16x1536 : Shape := ⟨2, ![16, 1536]⟩
abbrev S1x1536 : Shape := ⟨2, ![1, 1536]⟩
abbrev S3x1536 : Shape := ⟨2, ![3, 1536]⟩
abbrev S1024x2048 : Shape := ⟨2, ![1024, 2048]⟩
abbrev S256x2048 : Shape := ⟨2, ![256, 2048]⟩
abbrev S1x256x128 : Shape := ⟨3, ![1, 256, 128]⟩
abbrev S256x128 : Shape := ⟨2, ![256, 128]⟩
abbrev S1024x384 : Shape := ⟨2, ![1024, 384]⟩
abbrev S256x384 : Shape := ⟨2, ![256, 384]⟩
abbrev S1x384 : Shape := ⟨2, ![1, 384]⟩
abbrev S384x1024 : Shape := ⟨2, ![384, 1024]⟩
abbrev S1024x256 : Shape := ⟨2, ![1024, 256]⟩
abbrev S256x256 : Shape := ⟨2, ![256, 256]⟩
abbrev S1x256 : Shape := ⟨2, ![1, 256]⟩
abbrev S1x1x256x128 : Shape := ⟨4, ![1, 1, 256, 128]⟩

abbrev nBuf : Space → Nat
  | .hbm => 207
  | .vmem => 34
  | .smem => 0
  | _ => 0

abbrev hbmTy0_0 (i : Nat) : BufTy := match i % 128 with
  | 0 => ⟨S4x4096x1024, .f32⟩
  | 1 => ⟨S4x256x1024, .f32⟩
  | 2 => ⟨S4x8x6144, .f32⟩
  | 3 => ⟨S4x1024, .f32⟩
  | 4 => ⟨S4x1024x4256, .f32⟩
  | 5 => ⟨S4x384, .f32⟩
  | 6 => ⟨S4x256, .f32⟩
  | 7 => ⟨S4x384x768, .f32⟩
  | 8 => ⟨S4x256x1024, .f32⟩
  | 9 => ⟨S4x3x1536, .f32⟩
  | 10 => ⟨S4x1536, .f32⟩
  | 11 => ⟨S32, .i32⟩
  | 12 => ⟨S32, .i1⟩
  | 13 => ⟨S32, .i1⟩
  | 14 => ⟨S4x1024x32, .f32⟩
  | 15 => ⟨S_, .f32⟩
  | 16 => ⟨S4x1024x64, .f32⟩
  | 17 => ⟨S_, .f32⟩
  | 18 => ⟨S4x1024x64, .f32⟩
  | 19 => ⟨S_, .i32⟩
  | 20 => ⟨S32, .i32⟩
  | 21 => ⟨S32, .i32⟩
  | 22 => ⟨S32, .i32⟩
  | 23 => ⟨S32x1, .i32⟩
  | 24 => ⟨S4x1024x32, .f32⟩
  | 25 => ⟨S_, .f32⟩
  | 26 => ⟨S4x1024x32, .f32⟩
  | 27 => ⟨S4x1024x256, .f32⟩
  | 28 => ⟨S4x384x8x96, .f32⟩
  | 29 => ⟨S4x384x8x32, .f32⟩
  | 30 => ⟨S4x384x8x128, .f32⟩
  | 31 => ⟨S4x384x1024, .f32⟩
  | 32 => ⟨S4x384x8x64, .f32⟩
  | 33 => ⟨S_, .f32⟩
  | 34 => ⟨S4x384x8x64, .f32⟩
  | 35 => ⟨S_, .i32⟩
  | 36 => ⟨S32, .i32⟩
  | 37 => ⟨S32, .i32⟩
  | 38 => ⟨S32, .i32⟩
  | 39 => ⟨S32x1, .i32⟩
  | 40 => ⟨S4x384x8x32, .f32⟩
  | 41 => ⟨S_, .f32⟩
  | 42 => ⟨S4x384x8x32, .f32⟩
  | 43 => ⟨S4x384x8x128, .f32⟩
  | 44 => ⟨S4x384x1024, .f32⟩
  | 45 => ⟨S4x256x8x128, .f32⟩
  | 46 => ⟨S4x256x8x64, .f32⟩
  | 47 => ⟨S_, .f32⟩
  | 48 => ⟨S4x256x8x64, .f32⟩
  | 49 => ⟨S4x256x8x64, .f32⟩
  | 50 => ⟨S4x256x8x128, .f32⟩
  | 51 => ⟨S4x256x1024, .f32⟩
  | 52 => ⟨S4x256x8x64, .f32⟩
  | 53 => ⟨S4x256x8x128, .f32⟩
  | 54 => ⟨S4x256x1024, .f32⟩
  | 55 => ⟨S4x1024x1536, .f32⟩
  | 56 => ⟨S4x1024x1536, .bf16⟩
  | 57 => ⟨S4x1024x2048, .f32⟩
  | 58 => ⟨S4x1024x2048, .bf16⟩
  | 59 => ⟨S4x1024x384, .f32⟩
  | 60 => ⟨S4x1024x384, .bf16⟩
  | 61 => ⟨S4x1024x256, .f32⟩
  | 62 => ⟨S4x1024x256, .bf16⟩
  | 63 => ⟨S4x1024x256, .bf16⟩
  | 64 => ⟨S4x384x1024, .bf16⟩
  | 65 => ⟨S4x384x1024, .bf16⟩
  | 66 => ⟨S4x256x1024, .bf16⟩
  | 67 => ⟨S4x256x1024, .bf16⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S4096, .i32⟩
  | 76 => ⟨S_, .i32⟩
  | 77 => ⟨S_, .i32⟩
  | 78 => ⟨S4096, .i32⟩
  | 79 => ⟨S4096, .i32⟩
  | 80 => ⟨S4096, .i32⟩
  | 81 => ⟨S_, .i32⟩
  | 82 => ⟨S4096, .i32⟩
  | 83 => ⟨S4096, .i1⟩
  | 84 => ⟨S4096, .i32⟩
  | 85 => ⟨S4096, .i32⟩
  | 86 => ⟨S_, .i32⟩
  | 87 => ⟨S4096, .i32⟩
  | 88 => ⟨S4096, .i1⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i1⟩
  | 108 => ⟨S_, .i32⟩
  | 109 => ⟨S_, .i1⟩
  | 110 => ⟨S4096, .i1⟩
  | 111 => ⟨S4096, .i1⟩
  | 112 => ⟨S4096, .i1⟩
  | 113 => ⟨S4096, .i32⟩
  | 114 => ⟨S4096, .i32⟩
  | 115 => ⟨S4096, .i32⟩
  | 116 => ⟨S4096x1, .i32⟩
  | 117 => ⟨S4096x1, .i32⟩
  | 118 => ⟨S4096x2, .i32⟩
  | 119 => ⟨S4096x2, .f32⟩
  | 120 => ⟨S8, .f32⟩
  | 121 => ⟨S8, .f32⟩
  | 122 => ⟨S_, .f32⟩
  | 123 => ⟨S8, .f32⟩
  | 124 => ⟨S8, .f32⟩
  | 125 => ⟨S_, .f32⟩
  | 126 => ⟨S8, .f32⟩
  | 127 => ⟨S8, .f32⟩
  | _ => ⟨S4x4096x1024, .f32⟩

abbrev hbmTy0_1 (i : Nat) : BufTy := match i % 128 with
  | 0 => ⟨S4096x2x1, .f32⟩
  | 1 => ⟨S1x1x8, .f32⟩
  | 2 => ⟨S4096x2x8, .f32⟩
  | 3 => ⟨S4096x2x8, .f32⟩
  | 4 => ⟨S4096x2x8, .f32⟩
  | 5 => ⟨S4096x2x8, .f32⟩
  | 6 => ⟨S4096x2x8, .f32⟩
  | 7 => ⟨S4096x2x1x8, .f32⟩
  | 8 => ⟨S4096x2x1x8, .f32⟩
  | 9 => ⟨S4096x2x2x8, .f32⟩
  | 10 => ⟨S4096x32, .f32⟩
  | 11 => ⟨S4096x2x8, .f32⟩
  | 12 => ⟨S4096x2x1x8, .f32⟩
  | 13 => ⟨S4096x2x1x8, .f32⟩
  | 14 => ⟨S4096x2x2x8, .f32⟩
  | 15 => ⟨S4096x32, .f32⟩
  | 16 => ⟨S_, .f32⟩
  | 17 => ⟨S4096x32, .f32⟩
  | 18 => ⟨S_, .f32⟩
  | 19 => ⟨S4096x32, .f32⟩
  | 20 => ⟨S_, .f32⟩
  | 21 => ⟨S4096x64, .f32⟩
  | 22 => ⟨S4096x128, .f32⟩
  | 23 => ⟨S4096x128, .f32⟩
  | 24 => ⟨S4096x128, .f32⟩
  | 25 => ⟨S_, .f32⟩
  | 26 => ⟨S4096x64, .f32⟩
  | 27 => ⟨S4096x128, .f32⟩
  | 28 => ⟨S4096x128, .f32⟩
  | 29 => ⟨S4096x128, .f32⟩
  | 30 => ⟨S_, .f32⟩
  | 31 => ⟨S4096x64, .f32⟩
  | 32 => ⟨S4096x128, .f32⟩
  | 33 => ⟨S_, .f32⟩
  | 34 => ⟨S4096x64, .f32⟩
  | 35 => ⟨S4096x128, .f32⟩
  | 36 => ⟨S1x4096x128, .f32⟩
  | 37 => ⟨S1x4096x128, .f32⟩
  | 38 => ⟨S1x4096x128, .f32⟩
  | 39 => ⟨S1x4096x128, .f32⟩
  | 40 => ⟨S4x4096x128, .f32⟩
  | 41 => ⟨S_, .f32⟩
  | 42 => ⟨S128, .f32⟩
  | 43 => ⟨S128, .f32⟩
  | 44 => ⟨S128, .f32⟩
  | 45 => ⟨S_, .f32⟩
  | 46 => ⟨S96, .f32⟩
  | 47 => ⟨S_, .f32⟩
  | 48 => ⟨S32, .f32⟩
  | 49 => ⟨S128, .f32⟩
  | 50 => ⟨S_, .f32⟩
  | 51 => ⟨S128, .f32⟩
  | 52 => ⟨S_, .f32⟩
  | 53 => ⟨S128, .f32⟩
  | 54 => ⟨S1x128, .f32⟩
  | 55 => ⟨S1x128, .f32⟩
  | 56 => ⟨S1x128, .f32⟩
  | 57 => ⟨S1x128, .f32⟩
  | 58 => ⟨S4x128, .f32⟩
  | 59 => ⟨S4x1x128, .f32⟩
  | 60 => ⟨S4x256x128, .f32⟩
  | 61 => ⟨S4x4352x128, .f32⟩
  | 62 => ⟨S4x8x6x1024, .f32⟩
  | 63 => ⟨S4x4x6x1024, .f32⟩
  | 64 => ⟨S4x1x6x1024, .f32⟩
  | 65 => ⟨S4x4x6x1024, .f32⟩
  | 66 => ⟨S4x4x1x6x1024, .f32⟩
  | 67 => ⟨S4x4x1x6x1024, .f32⟩
  | 68 => ⟨S4x4x2x6x1024, .f32⟩
  | 69 => ⟨S4x4352x1024, .f32⟩
  | 70 => ⟨S4x1x1024, .f32⟩
  | 71 => ⟨S4x1x384, .f32⟩
  | 72 => ⟨S4x1x256, .f32⟩
  | 73 => ⟨S4x1x1536, .f32⟩
  | 74 => ⟨S4x4352x1536, .f32⟩
  | 75 => ⟨S4x4352x2048, .bf16⟩
  | 76 => ⟨S4x8x4352x128, .bf16⟩
  | 77 => ⟨S4x8x4352x128, .bf16⟩
  | 78 => ⟨S4x8x4352x128, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x6x1024, .f32⟩
  | .local _ .vmem, ⟨7, _⟩ => ⟨S1x1x1x6x1024, .f32⟩
  | .local _ .vmem, ⟨8, _⟩ => ⟨S1x1x1024, .f32⟩
  | .local _ .vmem, ⟨9, _⟩ => ⟨S4x256x128, .f32⟩
  | .local _ .vmem, ⟨10, _⟩ => ⟨S4x256x128, .f32⟩
  | .local _ .vmem, ⟨11, _⟩ => ⟨S1x1x384, .f32⟩
  | .local _ .vmem, ⟨12, _⟩ => ⟨S1x1x256, .f32⟩
  | .local _ .vmem, ⟨13, _⟩ => ⟨S1x3x1536, .f32⟩
  | .local _ .vmem, ⟨14, _⟩ => ⟨S1x1x1536, .f32⟩
  | .local _ .vmem, ⟨15, _⟩ => ⟨S1x1024x1536, .bf16⟩
  | .local _ .vmem, ⟨16, _⟩ => ⟨S1x1024x2048, .bf16⟩
  | .local _ .vmem, ⟨17, _⟩ => ⟨S1x1024x384, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x384x1024, .bf16⟩
  | .local _ .vmem, ⟨21, _⟩ => ⟨S1x384x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1536, .f32⟩
  | .local _ .vmem, ⟨25, _⟩ => ⟨S1x256x1536, .f32⟩
  | .local _ .vmem, ⟨26, _⟩ => ⟨S1x256x2048, .bf16⟩
  | .local _ .vmem, ⟨27, _⟩ => ⟨S1x256x2048, .bf16⟩
  | .local _ .vmem, ⟨28, _⟩ => ⟨S1x8x256x128, .bf16⟩
  | .local _ .vmem, ⟨29, _⟩ => ⟨S1x8x256x128, .bf16⟩
  | .local _ .vmem, ⟨30, _⟩ => ⟨S1x8x256x128, .bf16⟩
  | .local _ .vmem, ⟨31, _⟩ => ⟨S1x8x256x128, .bf16⟩
  | .local _ .vmem, ⟨32, _⟩ => ⟨S1x8x256x128, .bf16⟩
  | .local _ .vmem, ⟨33, _⟩ => ⟨S1x8x256x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_2 : Ref sig .tc := ⟨.hbm, 17, rfl⟩
abbrev main_v2 : Ref sig .tc := ⟨.hbm, 18, rfl⟩
abbrev main_c_3 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_c_6 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_c : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_c_0 : Ref sig .tc := ⟨.hbm, 90, rfl⟩
abbrev main_call0_v12 : Ref sig .tc := ⟨.hbm, 91, rfl⟩
abbrev main_call0_v13 : Ref sig .tc := ⟨.hbm, 92, rfl⟩
abbrev main_v51 : Ref sig .tc := ⟨.hbm, 93, rfl⟩
abbrev main_c_13 : Ref sig .tc := ⟨.hbm, 94, rfl⟩
abbrev main_call1_v0 : Ref sig .tc := ⟨.hbm, 95, rfl⟩
abbrev main_call1_c : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_c_1 : Ref sig .tc := ⟨.hbm, 102, rfl⟩
abbrev main_call1_v5 : Ref sig .tc := ⟨.hbm, 103, rfl⟩
abbrev main_call1_v6 : Ref sig .tc := ⟨.hbm, 104, rfl⟩
abbrev main_call1_c_2 : Ref sig .tc := ⟨.hbm, 105, rfl⟩
abbrev main_call1_v7 : Ref sig .tc := ⟨.hbm, 106, rfl⟩
abbrev main_call1_v8 : Ref sig .tc := ⟨.hbm, 107, rfl⟩
abbrev main_call1_c_3 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_v12 : Ref sig .tc := ⟨.hbm, 112, rfl⟩
abbrev main_call1_v13 : Ref sig .tc := ⟨.hbm, 113, rfl⟩
abbrev main_call1_v14 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_cst_14 : Ref sig .tc := ⟨.hbm, 122, rfl⟩
abbrev main_v59 : Ref sig .tc := ⟨.hbm, 123, rfl⟩
abbrev main_v60 : Ref sig .tc := ⟨.hbm, 124, rfl⟩
abbrev main_cst_15 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_cst_16 : Ref sig .tc := ⟨.hbm, 144, rfl⟩
abbrev main_v79 : Ref sig .tc := ⟨.hbm, 145, rfl⟩
abbrev main_cst_17 : Ref sig .tc := ⟨.hbm, 146, rfl⟩
abbrev main_v80 : Ref sig .tc := ⟨.hbm, 147, rfl⟩
abbrev main_cst_18 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_19 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_20 : Ref sig .tc := ⟨.hbm, 158, rfl⟩
abbrev main_v89 : Ref sig .tc := ⟨.hbm, 159, rfl⟩
abbrev main_v90 : Ref sig .tc := ⟨.hbm, 160, rfl⟩
abbrev main_cst_21 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_22 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_cst_23 : Ref sig .tc := ⟨.hbm, 173, rfl⟩
abbrev main_v101 : Ref sig .tc := ⟨.hbm, 174, rfl⟩
abbrev main_cst_24 : Ref sig .tc := ⟨.hbm, 175, rfl⟩
abbrev main_v102 : Ref sig .tc := ⟨.hbm, 176, rfl⟩
abbrev main_v103 : Ref sig .tc := ⟨.hbm, 177, rfl⟩
abbrev main_cst_25 : Ref sig .tc := ⟨.hbm, 178, rfl⟩
abbrev main_v104 : Ref sig .tc := ⟨.hbm, 179, rfl⟩
abbrev main_cst_26 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126_0 : Ref sig .tc := ⟨.hbm, 202, rfl⟩
abbrev main_v126_1 : Ref sig .tc := ⟨.hbm, 203, rfl⟩
abbrev main_v126_2 : Ref sig .tc := ⟨.hbm, 204, rfl⟩
abbrev main_v126_3 : Ref sig .tc := ⟨.hbm, 205, rfl⟩
abbrev main_v126_4 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, arg0.toNat, v16.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x384x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x384x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x256x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference2Ideal.lean ====
abbrev S4x4096x1024 : Shape := ⟨3, ![4, 4096, 1024]⟩
abbrev S4x256x1024 : Shape := ⟨3, ![4, 256, 1024]⟩
abbrev S4x8x6144 : Shape := ⟨3, ![4, 8, 6144]⟩
abbrev S4x1024 : Shape := ⟨2, ![4, 1024]⟩
abbrev S4x1024x4256 : Shape := ⟨3, ![4, 1024, 4256]⟩
abbrev S4x384 : Shape := ⟨2, ![4, 384]⟩
abbrev S4x256 : Shape := ⟨2, ![4, 256]⟩
abbrev S4x384x768 : Shape := ⟨3, ![4, 384, 768]⟩
abbrev S4x3x1536 : Shape := ⟨3, ![4, 3, 1536]⟩
abbrev S4x1536 : Shape := ⟨2, ![4, 1536]⟩
abbrev S1x4x6144 : Shape := ⟨3, ![1, 4, 6144]⟩
abbrev S4x6144 : Shape := ⟨2, ![4, 6144]⟩
abbrev S4x1x6144 : Shape := ⟨3, ![4, 1, 6144]⟩
abbrev S1x1x6144 : Shape := ⟨3, ![1, 1, 6144]⟩
abbrev S6144 : Shape := ⟨1, ![6144]⟩
abbrev S4x1x1024 : Shape := ⟨3, ![4, 1, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4256 : Shape := ⟨3, ![1, 1024, 4256]⟩
abbrev S1024x4256 : Shape := ⟨2, ![1024, 4256]⟩
abbrev S4x4096x4256 : Shape := ⟨3, ![4, 4096, 4256]⟩
abbrev S4x256x1 : Shape := ⟨3, ![4, 256, 1]⟩
abbrev S4x256x4256 : Shape := ⟨3, ![4, 256, 4256]⟩
abbrev S4x4096x384 : Shape := ⟨3, ![4, 4096, 384]⟩
abbrev S4x4096x256 : Shape := ⟨3, ![4, 4096, 256]⟩
abbrev S1x384 : Shape := ⟨2, ![1, 384]⟩
abbrev S384 : Shape := ⟨1, ![384]⟩
abbrev S1x1x384 : Shape := ⟨3, ![1, 1, 384]⟩
abbrev S1x384x768 : Shape := ⟨3, ![1, 384, 768]⟩
abbrev S384x768 : Shape := ⟨2, ![384, 768]⟩
abbrev S4x4096x768 : Shape := ⟨3, ![4, 4096, 768]⟩
abbrev S4x4096x8x96 : Shape := ⟨4, ![4, 4096, 8, 96]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S4x4096x8x128 : Shape := ⟨4, ![4, 4096, 8, 128]⟩
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S4x256x384 : Shape := ⟨3, ![4, 256, 384]⟩
abbrev S4x256x256 : Shape := ⟨3, ![4, 256, 256]⟩
abbrev S4x256x768 : Shape := ⟨3, ![4, 256, 768]⟩
abbrev S4x256x8x96 : Shape := ⟨4, ![4, 256, 8, 96]⟩
abbrev S4x256x8x128 : Shape := ⟨4, ![4, 256, 8, 128]⟩
abbrev S4x256x8x64 : Shape := ⟨4, ![4, 256, 8, 64]⟩
abbrev S4x256x8x32 : Shape := ⟨4, ![4, 256, 8, 32]⟩
abbrev S4x256x32 : Shape := ⟨3, ![4, 256, 32]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x2 : Shape := ⟨2, ![4096, 2]⟩
abbrev S8 : Shape := ⟨1, ![8]⟩
abbrev S4096x2x1 : Shape := ⟨3, ![4096, 2, 1]⟩
abbrev S1x1x8 : Shape := ⟨3, ![1, 1, 8]⟩
abbrev S4096x2x8 : Shape := ⟨3, ![4096, 2, 8]⟩
abbrev S4x4096x8x2x2x8 : Shape := ⟨6, ![4, 4096, 8, 2, 2, 8]⟩
abbrev S4x4096x8x2x1x8 : Shape := ⟨6, ![4, 4096, 8, 2, 1, 8]⟩
abbrev S4x4096x8x2x8 : Shape := ⟨5, ![4, 4096, 8, 2, 8]⟩
abbrev S4096x1x2x8 : Shape := ⟨4, ![4096, 1, 2, 8]⟩
abbrev S1x4096x1x2x8 : Shape := ⟨5, ![1, 4096, 1, 2, 8]⟩
abbrev S4x4352x8x128 : Shape := ⟨4, ![4, 4352, 8, 128]⟩
abbrev S4x8x4352x128 : Shape := ⟨4, ![4, 8, 4352, 128]⟩
abbrev S4x4096x2x2x8 : Shape := ⟨5, ![4, 4096, 2, 2, 8]⟩
abbrev S4x4096x2x1x8 : Shape := ⟨5, ![4, 4096, 2, 1, 8]⟩
abbrev S4x4096x2x8 : Shape := ⟨4, ![4, 4096, 2, 8]⟩
abbrev S1x4096x2x8 : Shape := ⟨4, ![1, 4096, 2, 8]⟩
abbrev S4x4096x1x32 : Shape := ⟨4, ![4, 4096, 1, 32]⟩
abbrev S4x256x1x32 : Shape := ⟨4, ![4, 256, 1, 32]⟩
abbrev S4x4096x8x1 : Shape := ⟨4, ![4, 4096, 8, 1]⟩
abbrev S4x4096x8x63 : Shape := ⟨4, ![4, 4096, 8, 63]⟩
abbrev S4x256x8x1 : Shape := ⟨4, ![4, 256, 8, 1]⟩
abbrev S4x256x8x63 : Shape := ⟨4, ![4, 256, 8, 63]⟩
abbrev S4x4096x1536 : Shape := ⟨3, ![4, 4096, 1536]⟩
abbrev S1x3x1536 : Shape := ⟨3, ![1, 3, 1536]⟩
abbrev S3x1536 : Shape := ⟨2, ![3, 1536]⟩
abbrev S1x1536 : Shape := ⟨2, ![1, 1536]⟩
abbrev S1536 : Shape := ⟨1, ![1536]⟩
abbrev S4x4098x1536 : Shape := ⟨3, ![4, 4098, 1536]⟩
abbrev S1x1x1536 : Shape := ⟨3, ![1, 1, 1536]⟩
abbrev S4x256x1536 : Shape := ⟨3, ![4, 256, 1536]⟩
abbrev S4x258x1536 : Shape := ⟨3, ![4, 258, 1536]⟩
abbrev S4x4352x1536 : Shape := ⟨3, ![4, 4352, 1536]⟩
abbrev S4x4096x2048 : Shape := ⟨3, ![4, 4096, 2048]⟩
abbrev S4x256x2048 : Shape := ⟨3, ![4, 256, 2048]⟩
abbrev S4x4352x2048 : Shape := ⟨3, ![4, 4352, 2048]⟩

abbrev nBuf : Space → Nat
  | .hbm => 366
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x8x6144, .f32⟩
  | 3 => ⟨S4x1024, .f32⟩
  | 4 => ⟨S4x1024x4256, .f32⟩
  | 5 => ⟨S4x384, .f32⟩
  | 6 => ⟨S4x256, .f32⟩
  | 7 => ⟨S4x384x768, .f32⟩
  | 8 => ⟨S4x256x1024, .f32⟩
  | 9 => ⟨S4x3x1536, .f32⟩
  | 10 => ⟨S4x1536, .f32⟩
  | 11 => ⟨S1x4x6144, .f32⟩
  | 12 => ⟨S4x6144, .f32⟩
  | 13 => ⟨S4x1x6144, .f32⟩
  | 14 => ⟨S1x1x6144, .f32⟩
  | 15 => ⟨S6144, .f32⟩
  | 16 => ⟨S4x1x1024, .f32⟩
  | 17 => ⟨S4x1x1024, .f32⟩
  | 18 => ⟨S1024, .f32⟩
  | 19 => ⟨S1024, .f32⟩
  | 20 => ⟨S1x1024, .f32⟩
  | 21 => ⟨S1024, .f32⟩
  | 22 => ⟨S4x4096x1024, .f32⟩
  | 23 => ⟨S_, .f32⟩
  | 24 => ⟨S4x4096, .f32⟩
  | 25 => ⟨S4x4096x1, .f32⟩
  | 26 => ⟨S_, .f32⟩
  | 27 => ⟨S4x4096x1, .f32⟩
  | 28 => ⟨S4x4096x1, .f32⟩
  | 29 => ⟨S_, .f32⟩
  | 30 => ⟨S4x4096x1, .f32⟩
  | 31 => ⟨S4x4096x1, .f32⟩
  | 32 => ⟨S4x4096x1, .f32⟩
  | 33 => ⟨S4x4096x1024, .f32⟩
  | 34 => ⟨S4x4096x1024, .f32⟩
  | 35 => ⟨S1x1x1024, .f32⟩
  | 36 => ⟨S4x4096x1024, .f32⟩
  | 37 => ⟨S4x4096x1024, .f32⟩
  | 38 => ⟨S_, .f32⟩
  | 39 => ⟨S4x1x1024, .f32⟩
  | 40 => ⟨S4x1x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S1x1024x4256, .f32⟩
  | 46 => ⟨S1024x4256, .f32⟩
  | 47 => ⟨S4x4096x4256, .f32⟩
  | 48 => ⟨S1x1024, .f32⟩
  | 49 => ⟨S1024, .f32⟩
  | 50 => ⟨S4x256x1024, .f32⟩
  | 51 => ⟨S_, .f32⟩
  | 52 => ⟨S4x256, .f32⟩
  | 53 => ⟨S4x256x1, .f32⟩
  | 54 => ⟨S_, .f32⟩
  | 55 => ⟨S4x256x1, .f32⟩
  | 56 => ⟨S4x256x1, .f32⟩
  | 57 => ⟨S_, .f32⟩
  | 58 => ⟨S4x256x1, .f32⟩
  | 59 => ⟨S4x256x1, .f32⟩
  | 60 => ⟨S4x256x1, .f32⟩
  | 61 => ⟨S4x256x1024, .f32⟩
  | 62 => ⟨S4x256x1024, .f32⟩
  | 63 => ⟨S1x1x1024, .f32⟩
  | 64 => ⟨S4x256x1024, .f32⟩
  | 65 => ⟨S4x256x1024, .f32⟩
  | 66 => ⟨S_, .f32⟩
  | 67 => ⟨S1024, .f32⟩
  | 68 => ⟨S1024, .f32⟩
  | 69 => ⟨S1x1x1024, .f32⟩
  | 70 => ⟨S4x256x1024, .f32⟩
  | 71 => ⟨S4x256x1024, .f32⟩
  | 72 => ⟨S1x1x1024, .f32⟩
  | 73 => ⟨S4x256x1024, .f32⟩
  | 74 => ⟨S4x256x1024, .f32⟩
  | 75 => ⟨S1x1024x4256, .f32⟩
  | 76 => ⟨S1024x4256, .f32⟩
  | 77 => ⟨S4x256x4256, .f32⟩
  | 78 => ⟨S4x4096x384, .f32⟩
  | 79 => ⟨S4x4096x256, .f32⟩
  | 80 => ⟨S1x384, .f32⟩
  | 81 => ⟨S384, .f32⟩
  | 82 => ⟨S4x4096x384, .f32⟩
  | 83 => ⟨S_, .f32⟩
  | 84 => ⟨S4x4096, .f32⟩
  | 85 => ⟨S4x4096x1, .f32⟩
  | 86 => ⟨S_, .f32⟩
  | 87 => ⟨S4x4096x1, .f32⟩
  | 88 => ⟨S4x4096x1, .f32⟩
  | 89 => ⟨S_, .f32⟩
  | 90 => ⟨S4x4096x1, .f32⟩
  | 91 => ⟨S4x4096x1, .f32⟩
  | 92 => ⟨S4x4096x1, .f32⟩
  | 93 => ⟨S4x4096x384, .f32⟩
  | 94 => ⟨S4x4096x384, .f32⟩
  | 95 => ⟨S1x1x384, .f32⟩
  | 96 => ⟨S4x4096x384, .f32⟩
  | 97 => ⟨S4x4096x384, .f32⟩
  | 98 => ⟨S1x384x768, .f32⟩
  | 99 => ⟨S384x768, .f32⟩
  | 100 => ⟨S4x4096x768, .f32⟩
  | 101 => ⟨S4x4096x8x96, .f32⟩
  | 102 => ⟨S1x256, .f32⟩
  | 103 => ⟨S256, .f32⟩
  | 104 => ⟨S4x4096x256, .f32⟩
  | 105 => ⟨S_, .f32⟩
  | 106 => ⟨S4x4096, .f32⟩
  | 107 => ⟨S4x4096x1, .f32⟩
  | 108 => ⟨S_, .f32⟩
  | 109 => ⟨S4x4096x1, .f32⟩
  | 110 => ⟨S4x4096x1, .f32⟩
  | 111 => ⟨S_, .f32⟩
  | 112 => ⟨S4x4096x1, .f32⟩
  | 113 => ⟨S4x4096x1, .f32⟩
  | 114 => ⟨S4x4096x1, .f32⟩
  | 115 => ⟨S4x4096x256, .f32⟩
  | 116 => ⟨S4x4096x256, .f32⟩
  | 117 => ⟨S1x1x256, .f32⟩
  | 118 => ⟨S4x4096x256, .f32⟩
  | 119 => ⟨S4x4096x256, .f32⟩
  | 120 => ⟨S1x256x1024, .f32⟩
  | 121 => ⟨S256x1024, .f32⟩
  | 122 => ⟨S4x4096x1024, .f32⟩
  | 123 => ⟨S4x4096x8x128, .f32⟩
  | 124 => ⟨S4x4096x8x64, .f32⟩
  | 125 => ⟨S4x4096x8x32, .f32⟩
  | 126 => ⟨S4x4096x8x64, .f32⟩
  | 127 => ⟨S4x4096x8x64, .f32⟩
  | _ => ⟨S4x4096x1024, .f32⟩

abbrev hbmTy0_1 (i : Nat) : BufTy := match i % 128 with
  | 0 => ⟨S4x4096x32, .f32⟩
  | 1 => ⟨S4x256x384, .f32⟩
  | 2 => ⟨S4x256x256, .f32⟩
  | 3 => ⟨S1x384, .f32⟩
  | 4 => ⟨S384, .f32⟩
  | 5 => ⟨S4x256x384, .f32⟩
  | 6 => ⟨S_, .f32⟩
  | 7 => ⟨S4x256, .f32⟩
  | 8 => ⟨S4x256x1, .f32⟩
  | 9 => ⟨S_, .f32⟩
  | 10 => ⟨S4x256x1, .f32⟩
  | 11 => ⟨S4x256x1, .f32⟩
  | 12 => ⟨S_, .f32⟩
  | 13 => ⟨S4x256x1, .f32⟩
  | 14 => ⟨S4x256x1, .f32⟩
  | 15 => ⟨S4x256x1, .f32⟩
  | 16 => ⟨S4x256x384, .f32⟩
  | 17 => ⟨S4x256x384, .f32⟩
  | 18 => ⟨S1x1x384, .f32⟩
  | 19 => ⟨S4x256x384, .f32⟩
  | 20 => ⟨S4x256x384, .f32⟩
  | 21 => ⟨S1x384x768, .f32⟩
  | 22 => ⟨S384x768, .f32⟩
  | 23 => ⟨S4x256x768, .f32⟩
  | 24 => ⟨S4x256x8x96, .f32⟩
  | 25 => ⟨S1x256, .f32⟩
  | 26 => ⟨S256, .f32⟩
  | 27 => ⟨S4x256x256, .f32⟩
  | 28 => ⟨S_, .f32⟩
  | 29 => ⟨S4x256, .f32⟩
  | 30 => ⟨S4x256x1, .f32⟩
  | 31 => ⟨S_, .f32⟩
  | 32 => ⟨S4x256x1, .f32⟩
  | 33 => ⟨S4x256x1, .f32⟩
  | 34 => ⟨S_, .f32⟩
  | 35 => ⟨S4x256x1, .f32⟩
  | 36 => ⟨S4x256x1, .f32⟩
  | 37 => ⟨S4x256x1, .f32⟩
  | 38 => ⟨S4x256x256, .f32⟩
  | 39 => ⟨S4x256x256, .f32⟩
  | 40 => ⟨S1x1x256, .f32⟩
  | 41 => ⟨S4x256x256, .f32⟩
  | 42 => ⟨S4x256x256, .f32⟩
  | 43 => ⟨S1x256x1024, .f32⟩
  | 44 => ⟨S256x1024, .f32⟩
  | 45 => ⟨S4x256x1024, .f32⟩
  | 46 => ⟨S4x256x8x128, .f32⟩
  | 47 => ⟨S4x256x8x64, .f32⟩
  | 48 => ⟨S4x256x8x32, .f32⟩
  | 49 => ⟨S4x256x8x64, .f32⟩
  | 50 => ⟨S4x256x8x64, .f32⟩
  | 51 => ⟨S4x256x32, .f32⟩
  | 52 => ⟨S64, .i32⟩
  | 53 => ⟨S64, .i32⟩
  | 54 => ⟨S64x64, .i32⟩
  | 55 => ⟨S64x64, .i32⟩
  | 56 => ⟨S4096, .i32⟩
  | 57 => ⟨S4096, .i32⟩
  | 58 => ⟨S4096x1, .i32⟩
  | 59 => ⟨S4096x1, .i32⟩
  | 60 => ⟨S4096x2, .i32⟩
  | 61 => ⟨S4096x2, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S4096x2x1, .f32⟩
  | 71 => ⟨S1x1x8, .f32⟩
  | 72 => ⟨S4096x2x8, .f32⟩
  | 73 => ⟨S4096x2x8, .f32⟩
  | 74 => ⟨S4096x2x8, .f32⟩
  | 75 => ⟨S4096x2x8, .f32⟩
  | 76 => ⟨S4096x2x8, .f32⟩
  | 77 => ⟨S4x4096x8x2x2x8, .f32⟩
  | 78 => ⟨S4x4096x8x2x1x8, .f32⟩
  | 79 => ⟨S4x4096x8x2x8, .f32⟩
  | 80 => ⟨S4x4096x8x2x1x8, .f32⟩
  | 81 => ⟨S4x4096x8x2x8, .f32⟩
  | 82 => ⟨S4096x1x2x8, .f32⟩
  | 83 => ⟨S4096x1x2x8, .f32⟩
  | 84 => ⟨S1x4096x1x2x8, .f32⟩
  | 85 => ⟨S4x4096x8x2x8, .f32⟩
  | 86 => ⟨S4x4096x8x2x8, .f32⟩
  | 87 => ⟨S1x4096x1x2x8, .f32⟩
  | 88 => ⟨S4x4096x8x2x8, .f32⟩
  | 89 => ⟨S4x4096x8x2x8, .f32⟩
  | 90 => ⟨S4x4096x8x2x8, .f32⟩
  | 91 => ⟨S1x4096x1x2x8, .f32⟩
  | 92 => ⟨S4x4096x8x2x8, .f32⟩
  | 93 => ⟨S4x4096x8x2x8, .f32⟩
  | 94 => ⟨S1x4096x1x2x8, .f32⟩
  | 95 => ⟨S4x4096x8x2x8, .f32⟩
  | 96 => ⟨S4x4096x8x2x8, .f32⟩
  | 97 => ⟨S4x4096x8x2x8, .f32⟩
  | 98 => ⟨S4x4096x8x2x1x8, .f32⟩
  | 99 => ⟨S4x4096x8x2x1x8, .f32⟩
  | 100 => ⟨S4x4096x8x2x2x8, .f32⟩
  | 101 => ⟨S4x4096x8x32, .f32⟩
  | 102 => ⟨S4x4096x8x128, .f32⟩
  | 103 => ⟨S4x256x8x128, .f32⟩
  | 104 => ⟨S4x4352x8x128, .f32⟩
  | 105 => ⟨S4x8x4352x128, .f32⟩
  | 106 => ⟨S_, .f32⟩
  | 107 => ⟨S_, .f32⟩
  | 108 => ⟨S_, .f32⟩
  | 109 => ⟨S_, .f32⟩
  | 110 => ⟨S_, .f32⟩
  | 111 => ⟨S4x8x4352x128, .f32⟩
  | 112 => ⟨S4x8x4352x128, .f32⟩
  | 113 => ⟨S4x4096x2x2x8, .f32⟩
  | 114 => ⟨S4x4096x2x1x8, .f32⟩
  | 115 => ⟨S4x4096x2x8, .f32⟩
  | 116 => ⟨S4x4096x2x1x8, .f32⟩
  | 117 => ⟨S4x4096x2x8, .f32⟩
  | 118 => ⟨S1x4096x2x8, .f32⟩
  | 119 => ⟨S4x4096x2x8, .f32⟩
  | 120 => ⟨S4x4096x2x8, .f32⟩
  | 121 => ⟨S1x4096x2x8, .f32⟩
  | 122 => ⟨S4x4096x2x8, .f32⟩
  | 123 => ⟨S4x4096x2x8, .f32⟩
  | 124 => ⟨S4x4096x2x8, .f32⟩
  | 125 => ⟨S1x4096x2x8, .f32⟩
  | 126 => ⟨S4x4096x2x8, .f32⟩
  | 127 => ⟨S4x4096x2x8, .f32⟩
  | _ => ⟨S4x4096x1024, .f32⟩

abbrev hbmTy0_2 (i : Nat) : BufTy := match i % 128 with
  | 0 => ⟨S1x4096x2x8, .f32⟩
  | 1 => ⟨S4x4096x2x8, .f32⟩
  | 2 => ⟨S4x4096x2x8, .f32⟩
  | 3 => ⟨S4x4096x2x8, .f32⟩
  | 4 => ⟨S4x4096x2x1x8, .f32⟩
  | 5 => ⟨S4x4096x2x1x8, .f32⟩
  | 6 => ⟨S4x4096x2x2x8, .f32⟩
  | 7 => ⟨S4x4096x32, .f32⟩
  | 8 => ⟨S4x4096x1x32, .f32⟩
  | 9 => ⟨S4x4096x8x32, .f32⟩
  | 10 => ⟨S_, .f32⟩
  | 11 => ⟨S4x4096x8x32, .f32⟩
  | 12 => ⟨S4x4096x8x128, .f32⟩
  | 13 => ⟨S_, .f32⟩
  | 14 => ⟨S4x256x8x32, .f32⟩
  | 15 => ⟨S4x256x1x32, .f32⟩
  | 16 => ⟨S4x256x8x32, .f32⟩
  | 17 => ⟨S4x256x8x128, .f32⟩
  | 18 => ⟨S4x4352x8x128, .f32⟩
  | 19 => ⟨S4x8x4352x128, .f32⟩
  | 20 => ⟨S_, .f32⟩
  | 21 => ⟨S4x4096x8x1, .f32⟩
  | 22 => ⟨S_, .f32⟩
  | 23 => ⟨S4x4096x8x63, .f32⟩
  | 24 => ⟨S4x4096x8x128, .f32⟩
  | 25 => ⟨S_, .f32⟩
  | 26 => ⟨S4x256x8x1, .f32⟩
  | 27 => ⟨S_, .f32⟩
  | 28 => ⟨S4x256x8x63, .f32⟩
  | 29 => ⟨S4x256x8x128, .f32⟩
  | 30 => ⟨S4x4352x8x128, .f32⟩
  | 31 => ⟨S4x8x4352x128, .f32⟩
  | 32 => ⟨S4x4096x1536, .f32⟩
  | 33 => ⟨S1x3x1536, .f32⟩
  | 34 => ⟨S3x1536, .f32⟩
  | 35 => ⟨S1x1536, .f32⟩
  | 36 => ⟨S1536, .f32⟩
  | 37 => ⟨S_, .i32⟩
  | 38 => ⟨S_, .f32⟩
  | 39 => ⟨S4x4098x1536, .f32⟩
  | 40 => ⟨S4x4096x1536, .f32⟩
  | 41 => ⟨S1x1536, .f32⟩
  | 42 => ⟨S1536, .f32⟩
  | 43 => ⟨S1x1x1536, .f32⟩
  | 44 => ⟨S4x4096x1536, .f32⟩
  | 45 => ⟨S4x4096x1536, .f32⟩
  | 46 => ⟨S1x1x1536, .f32⟩
  | 47 => ⟨S4x4096x1536, .f32⟩
  | 48 => ⟨S4x4096x1536, .f32⟩
  | 49 => ⟨S4x4096x1536, .f32⟩
  | 50 => ⟨S1x1536, .f32⟩
  | 51 => ⟨S1536, .f32⟩
  | 52 => ⟨S1x1x1536, .f32⟩
  | 53 => ⟨S4x4096x1536, .f32⟩
  | 54 => ⟨S4x4096x1536, .f32⟩
  | 55 => ⟨S4x4096x1536, .f32⟩
  | 56 => ⟨S4x4096x1536, .f32⟩
  | 57 => ⟨S1x1536, .f32⟩
  | 58 => ⟨S1536, .f32⟩
  | 59 => ⟨S1x1x1536, .f32⟩
  | 60 => ⟨S4x4096x1536, .f32⟩
  | 61 => ⟨S4x4096x1536, .f32⟩
  | 62 => ⟨S4x4096x1536, .f32⟩
  | 63 => ⟨S4x256x1536, .f32⟩
  | 64 => ⟨S1x3x1536, .f32⟩
  | 65 => ⟨S3x1536, .f32⟩
  | 66 => ⟨S1x1536, .f32⟩
  | 67 => ⟨S1536, .f32⟩
  | 68 => ⟨S_, .i32⟩
  | 69 => ⟨S_, .f32⟩
  | 70 => ⟨S4x258x1536, .f32⟩
  | 71 => ⟨S4x256x1536, .f32⟩
  | 72 => ⟨S1x1536, .f32⟩
  | 73 => ⟨S1536, .f32⟩
  | 74 => ⟨S1x1x1536, .f32⟩
  | 75 => ⟨S4x256x1536, .f32⟩
  | 76 => ⟨S4x256x1536, .f32⟩
  | 77 => ⟨S1x1x1536, .f32⟩
  | 78 => ⟨S4x256x1536, .f32⟩
  | 79 => ⟨S4x256x1536, .f32⟩
  | 80 => ⟨S4x256x1536, .f32⟩
  | 81 => ⟨S1x1536, .f32⟩
  | 82 => ⟨S1536, .f32⟩
  | 83 => ⟨S1x1x1536, .f32⟩
  | 84 => ⟨S4x256x1536, .f32⟩
  | 85 => ⟨S4x256x1536, .f32⟩
  | 86 => ⟨S4x256x1536, .f32⟩
  | 87 => ⟨S4x256x1536, .f32⟩
  | 88 => ⟨S1x1536, .f32⟩
  | 89 => ⟨S1536, .f32⟩
  | 90 => ⟨S1x1x1536, .f32⟩
  | 91 => ⟨S4x256x1536, .f32⟩
  | 92 => ⟨S4x256x1536, .f32⟩
  | 93 => ⟨S4x256x1536, .f32⟩
  | 94 => ⟨S4x4352x1536, .f32⟩
  | 95 => ⟨S4x4096x2048, .f32⟩
  | 96 => ⟨S4x256x2048, .f32⟩
  | 97 => ⟨S4x4352x2048, .f32⟩
  | 98 => ⟨S4x4352x2048, .f32⟩
  | 99 => ⟨S4x4352x2048, .f32⟩
  | 100 => ⟨S_, .f32⟩
  | 101 => ⟨S4x4352x2048, .f32⟩
  | 102 => ⟨S4x4352x2048, .f32⟩
  | 103 => ⟨S_, .f32⟩
  | 104 => ⟨S4x4352x2048, .f32⟩
  | 105 => ⟨S4x4352x2048, .f32⟩
  | 106 => ⟨S4x4352x2048, .bf16⟩
  | 107 => ⟨S4x8x4352x128, .bf16⟩
  | 108 => ⟨S4x8x4352x128, .bf16⟩
  | 109 => ⟨S4x8x4352x128, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_13 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_v112 : Ref sig .tc := ⟨.hbm, 139, rfl⟩
abbrev main_cst_15 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_16 : Ref sig .tc := ⟨.hbm, 156, rfl⟩
abbrev main_v128 : Ref sig .tc := ⟨.hbm, 157, rfl⟩
abbrev main_v129 : Ref sig .tc := ⟨.hbm, 158, rfl⟩
abbrev main_cst_17 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_19 : Ref sig .tc := ⟨.hbm, 192, rfl⟩
abbrev main_v161 : Ref sig .tc := ⟨.hbm, 193, rfl⟩
abbrev main_v162 : Ref sig .tc := ⟨.hbm, 194, rfl⟩
abbrev main_cst_20 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_cst_21 : Ref sig .tc := ⟨.hbm, 234, rfl⟩
abbrev main_v201 : Ref sig .tc := ⟨.hbm, 235, rfl⟩
abbrev main_cst_22 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_cst_23 : Ref sig .tc := ⟨.hbm, 266, rfl⟩
abbrev main_v231 : Ref sig .tc := ⟨.hbm, 267, rfl⟩
abbrev main_v232 : Ref sig .tc := ⟨.hbm, 268, rfl⟩
abbrev main_cst_24 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_cst_25 : Ref sig .tc := ⟨.hbm, 276, rfl⟩
abbrev main_v239 : Ref sig .tc := ⟨.hbm, 277, rfl⟩
abbrev main_cst_26 : Ref sig .tc := ⟨.hbm, 278, rfl⟩
abbrev main_v240 : Ref sig .tc := ⟨.hbm, 279, rfl⟩
abbrev main_v241 : Ref sig .tc := ⟨.hbm, 280, rfl⟩
abbrev main_cst_27 : Ref sig .tc := ⟨.hbm, 281, rfl⟩
abbrev main_v242 : Ref sig .tc := ⟨.hbm, 282, rfl⟩
abbrev main_cst_28 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_c : Ref sig .tc := ⟨.hbm, 293, rfl⟩
abbrev main_call0_v0 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_c_29 : Ref sig .tc := ⟨.hbm, 324, rfl⟩
abbrev main_call1_v0 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_cst_30 : Ref sig .tc := ⟨.hbm, 356, rfl⟩
abbrev main_v311 : Ref sig .tc := ⟨.hbm, 357, rfl⟩
abbrev main_v312 : Ref sig .tc := ⟨.hbm, 358, rfl⟩
abbrev main_cst_31 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_v318 : Ref sig .tc := ⟨.hbm, 365, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x1024 : Shape := ⟨3, ![4, 256, 1024]⟩
abbrev S4x4352x2048 : Shape := ⟨3, ![4, 4352, 2048]⟩
abbrev S4x4096x512 : Shape := ⟨3, ![4, 4096, 512]⟩
abbrev S4x256x512 : Shape := ⟨3, ![4, 256, 512]⟩
abbrev S4x8x6144 : Shape := ⟨3, ![4, 8, 6144]⟩
abbrev S4x1024 : Shape := ⟨2, ![4, 1024]⟩
abbrev S4x512x1024 : Shape := ⟨3, ![4, 512, 1024]⟩
abbrev S4x1024x1024 : Shape := ⟨3, ![4, 1024, 1024]⟩
abbrev S4x1024x8 : Shape := ⟨3, ![4, 1024, 8]⟩
abbrev S4x8 : Shape := ⟨2, ![4, 8]⟩
abbrev S4x1024x64 : Shape := ⟨3, ![4, 1024, 64]⟩
abbrev S4x64 : Shape := ⟨2, ![4, 64]⟩
abbrev S4x8x6x1024 : Shape := ⟨4, ![4, 8, 6, 1024]⟩
abbrev S4x4x6x1024 : Shape := ⟨4, ![4, 4, 6, 1024]⟩
abbrev S4x1x6x1024 : Shape := ⟨4, ![4, 1, 6, 1024]⟩
abbrev S4x4x1x6x1024 : Shape := ⟨5, ![4, 4, 1, 6, 1024]⟩
abbrev S4x4x2x6x1024 : Shape := ⟨5, ![4, 4, 2, 6, 1024]⟩
abbrev S4x1x1024 : Shape := ⟨3, ![4, 1, 1024]⟩
abbrev S_ : Shape := ⟨0, ![]⟩
abbrev S4x1024x56 : Shape := ⟨3, ![4, 1024, 56]⟩
abbrev S4x1024x128 : Shape := ⟨3, ![4, 1024, 128]⟩
abbrev S4x56 : Shape := ⟨2, ![4, 56]⟩
abbrev S4x128 : Shape := ⟨2, ![4, 128]⟩
abbrev S4x1x128 : Shape := ⟨3, ![4, 1, 128]⟩
abbrev S4x4352x1024 : Shape := ⟨3, ![4, 4352, 1024]⟩
abbrev S4x4352x2 : Shape := ⟨3, ![4, 4352, 2]⟩
abbrev S4x17x1x128 : Shape := ⟨4, ![4, 17, 1, 128]⟩
abbrev S1x256x1024 : Shape := ⟨3, ![1, 256, 1024]⟩
abbrev S1x256x2048 : Shape := ⟨3, ![1, 256, 2048]⟩
abbrev S1x256x512 : Shape := ⟨3, ![1, 256, 512]⟩
abbrev S1x1x1x6x1024 : Shape := ⟨5, ![1, 1, 1, 6, 1024]⟩
abbrev S1x1x1024 : Shape := ⟨3, ![1, 1, 1024]⟩
abbrev S1x512x1024 : Shape := ⟨3, ![1, 512, 1024]⟩
abbrev S1x1024x1024 : Shape := ⟨3, ![1, 1024, 1024]⟩
abbrev S1x1024x128 : Shape := ⟨3, ![1, 1024, 128]⟩
abbrev S1x1x128 : Shape := ⟨3, ![1, 1, 128]⟩
abbrev S1x256x2 : Shape := ⟨3, ![1, 256, 2]⟩
abbrev S1x1x1x128 : Shape := ⟨4, ![1, 1, 1, 128]⟩
abbrev S256x512 : Shape := ⟨2, ![256, 512]⟩
abbrev S256x2048 : Shape := ⟨2, ![256, 2048]⟩
abbrev S256x1024 : Shape := ⟨2, ![256, 1024]⟩
abbrev S512x1024 : Shape := ⟨2, ![512, 1024]⟩
abbrev S1024x1024 : Shape := ⟨2, ![1024, 1024]⟩
abbrev S1x1x1x1x1024 : Shape := ⟨5, ![1, 1, 1, 1, 1024]⟩
abbrev S1x1024 : Shape := ⟨2, ![1, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1x128 : Shape := ⟨2, ![1, 128]⟩
abbrev S1x256x1 : Shape := ⟨3, ![1, 256, 1]⟩
abbrev S128 : Shape := ⟨1, ![128]⟩

abbrev nBuf : Space → Nat
  | .hbm => 40
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x4352x2048, .bf16⟩
  | .hbm, ⟨3, _⟩ => ⟨S4x4096x512, .f32⟩
  | .hbm, ⟨4, _⟩ => ⟨S4x256x512, .f32⟩
  | .hbm, ⟨5, _⟩ => ⟨S4x4096x512, .bf16⟩
  | .hbm, ⟨6, _⟩ => ⟨S4x256x512, .bf16⟩
  | .hbm, ⟨7, _⟩ => ⟨S4x8x6144, .f32⟩
  | .hbm, ⟨8, _⟩ => ⟨S4x1024, .f32⟩
  | .hbm, ⟨9, _⟩ => ⟨S4x512x1024, .f32⟩
  | .hbm, ⟨10, _⟩ => ⟨S4x512x1024, .f32⟩
  | .hbm, ⟨11, _⟩ => ⟨S4x1024x1024, .f32⟩
  | .hbm, ⟨12, _⟩ => ⟨S4x1024x8, .f32⟩
  | .hbm, ⟨13, _⟩ => ⟨S4x8, .f32⟩
  | .hbm, ⟨14, _⟩ => ⟨S4x1024x64, .f32⟩
  | .hbm, ⟨15, _⟩ => ⟨S4x64, .f32⟩
  | .hbm, ⟨16, _⟩ => ⟨S4x8x6x1024, .f32⟩
  | .hbm, ⟨17, _⟩ => ⟨S4x4x6x1024, .f32⟩
  | .hbm, ⟨18, _⟩ => ⟨S4x1x6x1024, .f32⟩
  | .hbm, ⟨19, _⟩ => ⟨S4x4x6x1024, .f32⟩
  | .hbm, ⟨20, _⟩ => ⟨S4x4x1x6x1024, .f32⟩
  | .hbm, ⟨21, _⟩ => ⟨S4x4x1x6x1024, .f32⟩
  | .hbm, ⟨22, _⟩ => ⟨S4x4x2x6x1024, .f32⟩
  | .hbm, ⟨23, _⟩ => ⟨S4x1x1024, .f32⟩
  | .hbm, ⟨24, _⟩ => ⟨S_, .f32⟩
  | .hbm, ⟨25, _⟩ => ⟨S4x1024x56, .f32⟩
  | .hbm, ⟨26, _⟩ => ⟨S4x1024x128, .f32⟩
  | .hbm, ⟨27, _⟩ => ⟨S_, .f32⟩
  | .hbm, ⟨28, _⟩ => ⟨S4x56, .f32⟩
  | .hbm, ⟨29, _⟩ => ⟨S4x128, .f32⟩
  | .hbm, ⟨30, _⟩ => ⟨S4x1x128, .f32⟩
  | .hbm, ⟨31, _⟩ => ⟨S4x4352x1024, .f32⟩
  | .hbm, ⟨32, _⟩ => ⟨S4x512x1024, .bf16⟩
  | .hbm, ⟨33, _⟩ => ⟨S4x512x1024, .bf16⟩
  | .hbm, ⟨34, _⟩ => ⟨S4x1024x1024, .bf16⟩
  | .hbm, ⟨35, _⟩ => ⟨S4x4352x1024, .f32⟩
  | .hbm, ⟨36, _⟩ => ⟨S4x4352x1024, .f32⟩
  | .hbm, ⟨37, _⟩ => ⟨S4x4352x2, .i32⟩
  | .hbm, ⟨38, _⟩ => ⟨S4x4352x2, .f32⟩
  | .hbm, ⟨39, _⟩ => ⟨S4x17x1x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x1x1x6x1024, .f32⟩
  | .local _ .vmem, ⟨13, _⟩ => ⟨S1x1x1x6x1024, .f32⟩
  | .local _ .vmem, ⟨14, _⟩ => ⟨S1x1x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024x128, .f32⟩
  | .local _ .vmem, ⟨19, _⟩ => ⟨S1x1x128, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x2, .i32⟩
  | .local _ .vmem, ⟨25, _⟩ => ⟨S1x256x2, .i32⟩
  | .local _ .vmem, ⟨26, _⟩ => ⟨S1x256x2, .f32⟩
  | .local _ .vmem, ⟨27, _⟩ => ⟨S1x256x2, .f32⟩
  | .local _ .vmem, ⟨28, _⟩ => ⟨S1x1x1x128, .f32⟩
  | .local _ .vmem, ⟨29, _⟩ => ⟨S1x1x1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v17_3 : Ref sig .tc := ⟨.hbm, 38, rfl⟩
abbrev main_v17_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, arg0.toNat, v16.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x2 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x4096x1024 : Shape := ⟨3, ![4, 4096, 1024]⟩
abbrev S4x256x1024 : Shape := ⟨3, ![4, 256, 1024]⟩
abbrev S4x4352x2048 : Shape := ⟨3, ![4, 4352, 2048]⟩
abbrev S4x4096x512 : Shape := ⟨3, ![4, 4096, 512]⟩
abbrev S4x256x512 : Shape := ⟨3, ![4, 256, 512]⟩
abbrev S4x8x6144 : Shape := ⟨3, ![4, 8, 6144]⟩
abbrev S4x1024 : Shape := ⟨2, ![4, 1024]⟩
abbrev S4x512x1024 : Shape := ⟨3, ![4, 512, 1024]⟩
abbrev S4x1024x1024 : Shape := ⟨3, ![4, 1024, 1024]⟩
abbrev S4x1024x8 : Shape := ⟨3, ![4, 1024, 8]⟩
abbrev S4x8 : Shape := ⟨2, ![4, 8]⟩
abbrev S4x1024x64 : Shape := ⟨3, ![4, 1024, 64]⟩
abbrev S4x64 : Shape := ⟨2, ![4, 64]⟩
abbrev S1x4x6144 : Shape := ⟨3, ![1, 4, 6144]⟩
abbrev S4x6144 : Shape := ⟨2, ![4, 6144]⟩
abbrev S4x1x6144 : Shape := ⟨3, ![4, 1, 6144]⟩
abbrev S1x1x6144 : Shape := ⟨3, ![1, 1, 6144]⟩
abbrev S6144 : Shape := ⟨1, ![6144]⟩
abbrev S4x1x1024 : Shape := ⟨3, ![4, 1, 1024]⟩
abbrev S4x4096x2048 : Shape := ⟨3, ![4, 4096, 2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1024 : Shape := ⟨1, ![1024]⟩
abbrev S4x256x2048 : Shape := ⟨3, ![4, 256, 2048]⟩
abbrev S1x1x1024 : Shape := ⟨3, ![1, 1, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S4x256 : Shape := ⟨2, ![4, 256]⟩
abbrev S4x256x1 : Shape := ⟨3, ![4, 256, 1]⟩
abbrev S4x4352x1024 : Shape := ⟨3, ![4, 4352, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x4352x2048, .bf16⟩
  | .hbm, ⟨3, _⟩ => ⟨S4x4096x512, .f32⟩
  | .hbm, ⟨4, _⟩ => ⟨S4x256x512, .f32⟩
  | .hbm, ⟨5, _⟩ => ⟨S4x4096x512, .bf16⟩
  | .hbm, ⟨6, _⟩ => ⟨S4x256x512, .bf16⟩
  | .hbm, ⟨7, _⟩ => ⟨S4x8x6144, .f32⟩
  | .hbm, ⟨8, _⟩ => ⟨S4x1024, .f32⟩
  | .hbm, ⟨9, _⟩ => ⟨S4x512x1024, .f32⟩
  | .hbm, ⟨10, _⟩ => ⟨S4x512x1024, .f32⟩
  | .hbm, ⟨11, _⟩ => ⟨S4x1024x1024, .f32⟩
  | .hbm, ⟨12, _⟩ => ⟨S4x1024x8, .f32⟩
  | .hbm, ⟨13, _⟩ => ⟨S4x8, .f32⟩
  | .hbm, ⟨14, _⟩ => ⟨S4x1024x64, .f32⟩
  | .hbm, ⟨15, _⟩ => ⟨S4x64, .f32⟩
  | .hbm, ⟨16, _⟩ => ⟨S1x4x6144, .f32⟩
  | .hbm, ⟨17, _⟩ => ⟨S4x6144, .f32⟩
  | .hbm, ⟨18, _⟩ => ⟨S4x1x6144, .f32⟩
  | .hbm, ⟨19, _⟩ => ⟨S1x1x6144, .f32⟩
  | .hbm, ⟨20, _⟩ => ⟨S6144, .f32⟩
  | .hbm, ⟨21, _⟩ => ⟨S4x4352x2048, .f32⟩
  | .hbm, ⟨22, _⟩ => ⟨S4x1x1024, .f32⟩
  | .hbm, ⟨23, _⟩ => ⟨S4x4096x2048, .f32⟩
  | .hbm, ⟨24, _⟩ => ⟨S4x4096x1024, .f32⟩
  | .hbm, ⟨25, _⟩ => ⟨S1x512x1024, .f32⟩
  | .hbm, ⟨26, _⟩ => ⟨S512x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x512, .f32⟩
  | .hbm, ⟨31, _⟩ => ⟨S1x512x1024, .f32⟩
  | .hbm, ⟨32, _⟩ => ⟨S512x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S1x1024x1024, .f32⟩
  | .hbm, ⟨37, _⟩ => ⟨S1024x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1024, .f32⟩
  | .hbm, ⟨43, _⟩ => ⟨S4x256x2048, .f32⟩
  | .hbm, ⟨44, _⟩ => ⟨S4x256x1024, .f32⟩
  | .hbm, ⟨45, _⟩ => ⟨S1x512x1024, .f32⟩
  | .hbm, ⟨46, _⟩ => ⟨S512x1024, .f32⟩
  | .hbm, ⟨47, _⟩ => ⟨S4x256x1024, .f32⟩
  | .hbm, ⟨48, _⟩ => ⟨S4x256x1024, .f32⟩
  | .hbm, ⟨49, _⟩ => ⟨S4x256x1024, .f32⟩
  | .hbm, ⟨50, _⟩ => ⟨S4x256x512, .f32⟩
  | .hbm, ⟨51, _⟩ => ⟨S1x512x1024, .f32⟩
  | .hbm, ⟨52, _⟩ => ⟨S512x1024, .f32⟩
  | .hbm, ⟨53, _⟩ => ⟨S4x256x1024, .f32⟩
  | .hbm, ⟨54, _⟩ => ⟨S4x256x1024, .f32⟩
  | .hbm, ⟨55, _⟩ => ⟨S4x256x1024, .f32⟩
  | .hbm, ⟨56, _⟩ => ⟨S1x1024x1024, .f32⟩
  | .hbm, ⟨57, _⟩ => ⟨S1024x1024, .f32⟩
  | .hbm, ⟨58, _⟩ => ⟨S4x256x1024, .f32⟩
  | .hbm, ⟨59, _⟩ => ⟨S1x1x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S1x1024, .f32⟩
  | .hbm, ⟨64, _⟩ => ⟨S1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S4x1x1024, .f32⟩
  | .hbm, ⟨82, _⟩ => ⟨S_, .f32⟩
  | .hbm, ⟨83, _⟩ => ⟨S4x1x1024, .f32⟩
  | .hbm, ⟨84, _⟩ => ⟨S4x1x1024, .f32⟩
  | .hbm, ⟨85, _⟩ => ⟨S4x4096x1024, .f32⟩
  | .hbm, ⟨86, _⟩ => ⟨S4x4096x1024, .f32⟩
  | .hbm, ⟨87, _⟩ => ⟨S4x1x1024, .f32⟩
  | .hbm, ⟨88, _⟩ => ⟨S4x4096x1024, .f32⟩
  | .hbm, ⟨89, _⟩ => ⟨S4x4096x1024, .f32⟩
  | .hbm, ⟨90, _⟩ => ⟨S1x1024, .f32⟩
  | .hbm, ⟨91, _⟩ => ⟨S1024, .f32⟩
  | .hbm, ⟨92, _⟩ => ⟨S4x256x1024, .f32⟩
  | .hbm, ⟨93, _⟩ => ⟨S_, .f32⟩
  | .hbm, ⟨94, _⟩ => ⟨S4x256, .f32⟩
  | .hbm, ⟨95, _⟩ => ⟨S4x256x1, .f32⟩
  | .hbm, ⟨96, _⟩ => ⟨S_, .f32⟩
  | .hbm, ⟨97, _⟩ => ⟨S4x256x1, .f32⟩
  | .hbm, ⟨98, _⟩ => ⟨S4x256x1, .f32⟩
  | .hbm, ⟨99, _⟩ => ⟨S_, .f32⟩
  | .hbm, ⟨100, _⟩ => ⟨S4x256x1, .f32⟩
  | .hbm, ⟨101, _⟩ => ⟨S4x256x1, .f32⟩
  | .hbm, ⟨102, _⟩ => ⟨S4x256x1, .f32⟩
  | .hbm, ⟨103, _⟩ => ⟨S4x256x1024, .f32⟩
  | .hbm, ⟨104, _⟩ => ⟨S4x256x1024, .f32⟩
  | .hbm, ⟨105, _⟩ => ⟨S1x1x1024, .f32⟩
  | .hbm, ⟨106, _⟩ => ⟨S4x256x1024, .f32⟩
  | .hbm, ⟨107, _⟩ => ⟨S4x256x1024, .f32⟩
  | .hbm, ⟨108, _⟩ => ⟨S1024, .f32⟩
  | .hbm, ⟨109, _⟩ => ⟨S_, .f32⟩
  | .hbm, ⟨110, _⟩ => ⟨S1024, .f32⟩
  | .hbm, ⟨111, _⟩ => ⟨S1024, .f32⟩
  | .hbm, ⟨112, _⟩ => ⟨S1x1x1024, .f32⟩
  | .hbm, ⟨113, _⟩ => ⟨S4x256x1024, .f32⟩
  | .hbm, ⟨114, _⟩ => ⟨S4x256x1024, .f32⟩
  | .hbm, ⟨115, _⟩ => ⟨S1024, .f32⟩
  | .hbm, ⟨116, _⟩ => ⟨S1x1x1024, .f32⟩
  | .hbm, ⟨117, _⟩ => ⟨S4x256x1024, .f32⟩
  | .hbm, ⟨118, _⟩ => ⟨S4x256x1024, .f32⟩
  | .hbm, ⟨119, _⟩ => ⟨S4x4352x1024, .f32⟩
  | .hbm, ⟨120, _⟩ => ⟨S4x4352x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst : Ref sig .tc := ⟨.hbm, 66, rfl⟩
abbrev main_v50 : Ref sig .tc := ⟨.hbm, 67, rfl⟩
abbrev main_v51 : Ref sig .tc := ⟨.hbm, 68, rfl⟩
abbrev main_cst_0 : Ref sig .tc := ⟨.hbm, 69, rfl⟩
abbrev main_v52 : Ref sig .tc := ⟨.hbm, 70, rfl⟩
abbrev main_v53 : Ref sig .tc := ⟨.hbm, 71, rfl⟩
abbrev main_cst_1 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_2 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_3 : Ref sig .tc := ⟨.hbm, 93, rfl⟩
abbrev main_v73 : Ref sig .tc := ⟨.hbm, 94, rfl⟩
abbrev main_v74 : Ref sig .tc := ⟨.hbm, 95, rfl⟩
abbrev main_cst_4 : Ref sig .tc := ⟨.hbm, 96, rfl⟩
abbrev main_v75 : Ref sig .tc := ⟨.hbm, 97, rfl⟩
abbrev main_v76 : Ref sig .tc := ⟨.hbm, 98, rfl⟩
abbrev main_cst_5 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_6 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩

abbrev nD : Nat := 1
abbrev τ : Topo := Topo.v7x

variable {F : FTy → Type} [FloatOps F]
-- ==== Kernel4.lean ====
abbrev S4x4096x1024 : Shape := ⟨3, ![4, 4096, 1024]⟩
abbrev S32768x1024 : Shape := ⟨2, ![32768, 1024]⟩
abbrev S4x4096x2 : Shape := ⟨3, ![4, 4096, 2]⟩
abbrev S4x8x6144 : Shape := ⟨3, ![4, 8, 6144]⟩
abbrev S1024 : Shape := ⟨1, ![1024]⟩
abbrev S4x8x6x1024 : Shape := ⟨4, ![4, 8, 6, 1024]⟩
abbrev S4x4x6x1024 : Shape := ⟨4, ![4, 4, 6, 1024]⟩
abbrev S4x1x6x1024 : Shape := ⟨4, ![4, 1, 6, 1024]⟩
abbrev S4x4x1x6x1024 : Shape := ⟨5, ![4, 4, 1, 6, 1024]⟩
abbrev S4x4x2x6x1024 : Shape := ⟨5, ![4, 4, 2, 6, 1024]⟩
abbrev S2x4x4096x1024 : Shape := ⟨4, ![2, 4, 4096, 1024]⟩
abbrev S1x1024 : Shape := ⟨2, ![1, 1024]⟩
abbrev S1x256x1024 : Shape := ⟨3, ![1, 256, 1024]⟩
abbrev S2x1x256x1024 : Shape := ⟨4, ![2, 1, 256, 1024]⟩
abbrev S1x256x2 : Shape := ⟨3, ![1, 256, 2]⟩
abbrev S1x1x1x6x1024 : Shape := ⟨5, ![1, 1, 1, 6, 1024]⟩
abbrev S256x1024 : Shape := ⟨2, ![256, 1024]⟩
abbrev S1x1x1x1x1024 : Shape := ⟨5, ![1, 1, 1, 1, 1024]⟩
abbrev S256x2 : Shape := ⟨2, ![256, 2]⟩
abbrev S256x1 : Shape := ⟨2, ![256, 1]⟩
abbrev S1x1x256x1024 : Shape := ⟨4, ![1, 1, 256, 1024]⟩
abbrev S256 : Shape := ⟨1, ![256]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S32768x1024, .f32⟩
  | .hbm, ⟨2, _⟩ => ⟨S4x4096x2, .f32⟩
  | .hbm, ⟨3, _⟩ => ⟨S4x8x6144, .f32⟩
  | .hbm, ⟨4, _⟩ => ⟨S1024, .f32⟩
  | .hbm, ⟨5, _⟩ => ⟨S4x8x6x1024, .f32⟩
  | .hbm, ⟨6, _⟩ => ⟨S4x4x6x1024, .f32⟩
  | .hbm, ⟨7, _⟩ => ⟨S4x1x6x1024, .f32⟩
  | .hbm, ⟨8, _⟩ => ⟨S4x4x6x1024, .f32⟩
  | .hbm, ⟨9, _⟩ => ⟨S4x4x1x6x1024, .f32⟩
  | .hbm, ⟨10, _⟩ => ⟨S4x4x1x6x1024, .f32⟩
  | .hbm, ⟨11, _⟩ => ⟨S4x4x2x6x1024, .f32⟩
  | .hbm, ⟨12, _⟩ => ⟨S2x4x4096x1024, .f32⟩
  | .hbm, ⟨13, _⟩ => ⟨S1x1024, .f32⟩
  | .hbm, ⟨14, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S2x1x256x1024, .f32⟩
  | .local _ .vmem, ⟨3, _⟩ => ⟨S2x1x256x1024, .f32⟩
  | .local _ .vmem, ⟨4, _⟩ => ⟨S1x256x2, .f32⟩
  | .local _ .vmem, ⟨5, _⟩ => ⟨S1x256x2, .f32⟩
  | .local _ .vmem, ⟨6, _⟩ => ⟨S1x1x1x6x1024, .f32⟩
  | .local _ .vmem, ⟨7, _⟩ => ⟨S1x1x1x6x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![c3_i32.toNat, arg0.toNat, v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x4096x1024 : Shape := ⟨3, ![4, 4096, 1024]⟩
abbrev S32768x1024 : Shape := ⟨2, ![32768, 1024]⟩
abbrev S4x4096x2 : Shape := ⟨3, ![4, 4096, 2]⟩
abbrev S4x8x6144 : Shape := ⟨3, ![4, 8, 6144]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S2x4x4096x1024 : Shape := ⟨4, ![2, 4, 4096, 1024]⟩
abbrev S2x4x4096 : Shape := ⟨3, ![2, 4, 4096]⟩
abbrev S2x4x4096x1 : Shape := ⟨4, ![2, 4, 4096, 1]⟩
abbrev S_ : Shape := ⟨0, ![]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S32768x1024, .f32⟩
  | .hbm, ⟨2, _⟩ => ⟨S4x4096x2, .f32⟩
  | .hbm, ⟨3, _⟩ => ⟨S4x8x6144, .f32⟩
  | .hbm, ⟨4, _⟩ => ⟨S1024, .f32⟩
  | .hbm, ⟨5, _⟩ => ⟨S1x4x6144, .f32⟩
  | .hbm, ⟨6, _⟩ => ⟨S4x6144, .f32⟩
  | .hbm, ⟨7, _⟩ => ⟨S4x1x6144, .f32⟩
  | .hbm, ⟨8, _⟩ => ⟨S2x4x4096x1024, .f32⟩
  | .hbm, ⟨9, _⟩ => ⟨S2x4x4096, .f32⟩
  | .hbm, ⟨10, _⟩ => ⟨S2x4x4096x1, .f32⟩
  | .hbm, ⟨11, _⟩ => ⟨S2x4x4096x1024, .f32⟩
  | .hbm, ⟨12, _⟩ => ⟨S2x4x4096x1024, .f32⟩
  | .hbm, ⟨13, _⟩ => ⟨S_, .f32⟩
  | .hbm, ⟨14, _⟩ => ⟨S4x4096x1024, .f32⟩
  | .hbm, ⟨15, _⟩ => ⟨S4x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel5.lean ====
abbrev S4x8x4096x128 : Shape := ⟨4, ![4, 8, 4096, 128]⟩
abbrev S4x256x8x64 : Shape := ⟨4, ![4, 256, 8, 64]⟩
abbrev S4x256x8x32 : Shape := ⟨4, ![4, 256, 8, 32]⟩
abbrev S4x256x32 : Shape := ⟨3, ![4, 256, 32]⟩
abbrev S_ : Shape := ⟨0, ![]⟩
abbrev S4x8x256x64 : Shape := ⟨4, ![4, 8, 256, 64]⟩
abbrev S4x8x256x32 : Shape := ⟨4, ![4, 8, 256, 32]⟩
abbrev S4x8x256x128 : Shape := ⟨4, ![4, 8, 256, 128]⟩
abbrev S4x8x4352x128 : Shape := ⟨4, ![4, 8, 4352, 128]⟩
abbrev S4x1x256x32 : Shape := ⟨4, ![4, 1, 256, 32]⟩
abbrev S4x8x256x1 : Shape := ⟨4, ![4, 8, 256, 1]⟩
abbrev S4x8x256x63 : Shape := ⟨4, ![4, 8, 256, 63]⟩
abbrev S4x256x512 : Shape := ⟨3, ![4, 256, 512]⟩
abbrev S1x4x256x128 : Shape := ⟨4, ![1, 4, 256, 128]⟩
abbrev S1x256x256 : Shape := ⟨3, ![1, 256, 256]⟩
abbrev S256x1 : Shape := ⟨2, ![256, 1]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S256x64 : Shape := ⟨2, ![256, 64]⟩

abbrev nBuf : Space → Nat
  | .hbm => 44
  | .vmem => 8
  | .smem => 0
  | _ => 0

abbrev bufTy : (tb : Table) → Fin (tcTables nBuf tb) → BufTy
  | .hbm, ⟨0, _⟩ => ⟨S4x8x4096x128, .bf16⟩
  | .hbm, ⟨1, _⟩ => ⟨S4x8x4096x128, .bf16⟩
  | .hbm, ⟨2, _⟩ => ⟨S4x8x4096x128, .bf16⟩
  | .hbm, ⟨3, _⟩ => ⟨S4x256x8x64, .f32⟩
  | .hbm, ⟨4, _⟩ => ⟨S4x256x8x32, .f32⟩
  | .hbm, ⟨5, _⟩ => ⟨S4x256x8x64, .f32⟩
  | .hbm, ⟨6, _⟩ => ⟨S4x256x32, .f32⟩
  | .hbm, ⟨7, _⟩ => ⟨S4x256x8x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x8x256x64, .f32⟩
  | .hbm, ⟨16, _⟩ => ⟨S4x8x256x64, .f32⟩
  | .hbm, ⟨17, _⟩ => ⟨S4x8x256x64, .f32⟩
  | .hbm, ⟨18, _⟩ => ⟨S4x8x256x32, .f32⟩
  | .hbm, ⟨19, _⟩ => ⟨S4x8x256x32, .f32⟩
  | .hbm, ⟨20, _⟩ => ⟨S4x8x256x32, .f32⟩
  | .hbm, ⟨21, _⟩ => ⟨S4x8x256x32, .f32⟩
  | .hbm, ⟨22, _⟩ => ⟨S4x8x256x32, .f32⟩
  | .hbm, ⟨23, _⟩ => ⟨S4x8x256x32, .f32⟩
  | .hbm, ⟨24, _⟩ => ⟨S4x8x256x128, .f32⟩
  | .hbm, ⟨25, _⟩ => ⟨S4x8x256x128, .bf16⟩
  | .hbm, ⟨26, _⟩ => ⟨S4x8x4352x128, .bf16⟩
  | .hbm, ⟨27, _⟩ => ⟨S4x8x256x64, .f32⟩
  | .hbm, ⟨28, _⟩ => ⟨S_, .f32⟩
  | .hbm, ⟨29, _⟩ => ⟨S4x8x256x32, .f32⟩
  | .hbm, ⟨30, _⟩ => ⟨S4x1x256x32, .f32⟩
  | .hbm, ⟨31, _⟩ => ⟨S4x8x256x32, .f32⟩
  | .hbm, ⟨32, _⟩ => ⟨S4x8x256x128, .f32⟩
  | .hbm, ⟨33, _⟩ => ⟨S4x8x256x128, .bf16⟩
  | .hbm, ⟨34, _⟩ => ⟨S4x8x4352x128, .bf16⟩
  | .hbm, ⟨35, _⟩ => ⟨S4x8x256x64, .f32⟩
  | .hbm, ⟨36, _⟩ => ⟨S_, .f32⟩
  | .hbm, ⟨37, _⟩ => ⟨S4x8x256x1, .f32⟩
  | .hbm, ⟨38, _⟩ => ⟨S_, .f32⟩
  | .hbm, ⟨39, _⟩ => ⟨S4x8x256x63, .f32⟩
  | .hbm, ⟨40, _⟩ => ⟨S4x8x256x128, .f32⟩
  | .hbm, ⟨41, _⟩ => ⟨S4x8x256x128, .bf16⟩
  | .hbm, ⟨42, _⟩ => ⟨S4x8x4352x128, .bf16⟩
  | .hbm, ⟨43, _⟩ => ⟨S4x256x512, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x256x256, .bf16⟩
  | .local _ .vmem, ⟨7, _⟩ => ⟨S1x256x256, .bf16⟩
  | _, _ => ⟨S4x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, arg1.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  ![arg0.toNat, arg1.toNat, c16_i32.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  ![arg0.toNat, arg1.toNat, c16_i32.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S4x8x4096x128 : Shape := ⟨4, ![4, 8, 4096, 128]⟩
abbrev S4x256x8x64 : Shape := ⟨4, ![4, 256, 8, 64]⟩
abbrev S4x256x8x32 : Shape := ⟨4, ![4, 256, 8, 32]⟩
abbrev S4x256x32 : Shape := ⟨3, ![4, 256, 32]⟩
abbrev S4x8x256x256 : Shape := ⟨4, ![4, 8, 256, 256]⟩
abbrev S4x256x256x8 : Shape := ⟨4, ![4, 256, 256, 8]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x256x8 : Shape := ⟨3, ![4, 256, 8]⟩
abbrev S4x256x8x1 : Shape := ⟨4, ![4, 256, 8, 1]⟩
abbrev S4x256x512 : Shape := ⟨3, ![4, 256, 512]⟩

abbrev nBuf : Space → Nat
  | .hbm => 32
  | .vmem => 0
  | .smem => 0
  | _ => 0

abbrev bufTy : (tb : Table) → Fin (tcTables nBuf tb) → BufTy
  | .hbm, ⟨0, _⟩ => ⟨S4x8x4096x128, .bf16⟩
  | .hbm, ⟨1, _⟩ => ⟨S4x8x4096x128, .bf16⟩
  | .hbm, ⟨2, _⟩ => ⟨S4x8x4096x128, .bf16⟩
  | .hbm, ⟨3, _⟩ => ⟨S4x256x8x64, .f32⟩
  | .hbm, ⟨4, _⟩ => ⟨S4x256x8x32, .f32⟩
  | .hbm, ⟨5, _⟩ => ⟨S4x256x8x64, .f32⟩
  | .hbm, ⟨6, _⟩ => ⟨S4x256x32, .f32⟩
  | .hbm, ⟨7, _⟩ => ⟨S4x256x8x64, .f32⟩
  | .hbm, ⟨8, _⟩ => ⟨S4x8x256x256, .f32⟩
  | .hbm, ⟨9, _⟩ => ⟨S4x256x256x8, .f32⟩
  | .hbm, ⟨10, _⟩ => ⟨S4x8x256x256, .f32⟩
  | .hbm, ⟨11, _⟩ => ⟨S4x8x256x256, .f32⟩
  | .hbm, ⟨12, _⟩ => ⟨S_, .f32⟩
  | .hbm, ⟨13, _⟩ => ⟨S_, .f32⟩
  | .hbm, ⟨14, _⟩ => ⟨S4x8x256x256, .f32⟩
  | .hbm, ⟨15, _⟩ => ⟨S4x8x256x256, .f32⟩
  | .hbm, ⟨16, _⟩ => ⟨S_, .f32⟩
  | .hbm, ⟨17, _⟩ => ⟨S4x8x256, .f32⟩
  | .hbm, ⟨18, _⟩ => ⟨S4x8x256x1, .f32⟩
  | .hbm, ⟨19, _⟩ => ⟨S4x8x256x256, .f32⟩
  | .hbm, ⟨20, _⟩ => ⟨S4x8x256x256, .f32⟩
  | .hbm, ⟨21, _⟩ => ⟨S4x8x256x256, .f32⟩
  | .hbm, ⟨22, _⟩ => ⟨S4x8x64x256, .f32⟩
  | .hbm, ⟨23, _⟩ => ⟨S4x256x8x64, .f32⟩
  | .hbm, ⟨24, _⟩ => ⟨S_, .f32⟩
  | .hbm, ⟨25, _⟩ => ⟨S4x8x256, .f32⟩
  | .hbm, ⟨26, _⟩ => ⟨S4x256x8, .f32⟩
  | .hbm, ⟨27, _⟩ => ⟨S4x256x8x1, .f32⟩
  | .hbm, ⟨28, _⟩ => ⟨S4x256x8x64, .f32⟩
  | .hbm, ⟨29, _⟩ => ⟨S4x256x8x64, .f32⟩
  | .hbm, ⟨30, _⟩ => ⟨S4x256x512, .f32⟩
  | .hbm, ⟨31, _⟩ => ⟨S4x256x512, .bf16⟩
  | _, _ => ⟨S4x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel6.lean ====
abbrev S4x4352x1024 : Shape := ⟨3, ![4, 4352, 1024]⟩
abbrev S34816x1024 : Shape := ⟨2, ![34816, 1024]⟩
abbrev S4x4352x2 : Shape := ⟨3, ![4, 4352, 2]⟩
abbrev S4x8x6144 : Shape := ⟨3, ![4, 8, 6144]⟩
abbrev S4x8x6x1024 : Shape := ⟨4, ![4, 8, 6, 1024]⟩
abbrev S4x4x6x1024 : Shape := ⟨4, ![4, 4, 6, 1024]⟩
abbrev S4x1x6x1024 : Shape := ⟨4, ![4, 1, 6, 1024]⟩
abbrev S4x4x1x6x1024 : Shape := ⟨5, ![4, 4, 1, 6, 1024]⟩
abbrev S4x4x2x6x1024 : Shape := ⟨5, ![4, 4, 2, 6, 1024]⟩
abbrev S2x4x4352x1024 : Shape := ⟨4, ![2, 4, 4352, 1024]⟩
abbrev S1x256x1024 : Shape := ⟨3, ![1, 256, 1024]⟩
abbrev S2x1x256x1024 : Shape := ⟨4, ![2, 1, 256, 1024]⟩
abbrev S1x256x2 : Shape := ⟨3, ![1, 256, 2]⟩
abbrev S1x1x1x6x1024 : Shape := ⟨5, ![1, 1, 1, 6, 1024]⟩
abbrev S256x1024 : Shape := ⟨2, ![256, 1024]⟩
abbrev S1x1x1x1x1024 : Shape := ⟨5, ![1, 1, 1, 1, 1024]⟩
abbrev S1x1024 : Shape := ⟨2, ![1, 1024]⟩
abbrev S256x2 : Shape := ⟨2, ![256, 2]⟩
abbrev S256x1 : Shape := ⟨2, ![256, 1]⟩
abbrev S1x1x256x1024 : Shape := ⟨4, ![1, 1, 256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4x4352x1024, .f32⟩
  | .hbm, ⟨1, _⟩ => ⟨S34816x1024, .f32⟩
  | .hbm, ⟨2, _⟩ => ⟨S4x4352x2, .f32⟩
  | .hbm, ⟨3, _⟩ => ⟨S4x8x6144, .f32⟩
  | .hbm, ⟨4, _⟩ => ⟨S4x8x6x1024, .f32⟩
  | .hbm, ⟨5, _⟩ => ⟨S4x4x6x1024, .f32⟩
  | .hbm, ⟨6, _⟩ => ⟨S4x1x6x1024, .f32⟩
  | .hbm, ⟨7, _⟩ => ⟨S4x4x6x1024, .f32⟩
  | .hbm, ⟨8, _⟩ => ⟨S4x4x1x6x1024, .f32⟩
  | .hbm, ⟨9, _⟩ => ⟨S4x4x1x6x1024, .f32⟩
  | .hbm, ⟨10, _⟩ => ⟨S4x4x2x6x1024, .f32⟩
  | .hbm, ⟨11, _⟩ => ⟨S2x4x4352x1024, .f32⟩
  | .hbm, ⟨12, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S2x1x256x1024, .f32⟩
  | .local _ .vmem, ⟨3, _⟩ => ⟨S2x1x256x1024, .f32⟩
  | .local _ .vmem, ⟨4, _⟩ => ⟨S1x256x2, .f32⟩
  | .local _ .vmem, ⟨5, _⟩ => ⟨S1x256x2, .f32⟩
  | .local _ .vmem, ⟨6, _⟩ => ⟨S1x1x1x6x1024, .f32⟩
  | .local _ .vmem, ⟨7, _⟩ => ⟨S1x1x1x6x1024, .f32⟩
  | .local _ .vmem, ⟨8, _⟩ => ⟨S1x256x1024, .f32⟩
  | .local _ .vmem, ⟨9, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, arg0.toNat, v16.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x4352x1024 : Shape := ⟨3, ![4, 4352, 1024]⟩
abbrev S34816x1024 : Shape := ⟨2, ![34816, 1024]⟩
abbrev S4x4352x2 : Shape := ⟨3, ![4, 4352, 2]⟩
abbrev S4x8x6144 : Shape := ⟨3, ![4, 8, 6144]⟩
abbrev S1x4x6144 : Shape := ⟨3, ![1, 4, 6144]⟩
abbrev S4x6144 : Shape := ⟨2, ![4, 6144]⟩
abbrev S4x1x6144 : Shape := ⟨3, ![4, 1, 6144]⟩
abbrev S1x1x6144 : Shape := ⟨3, ![1, 1, 6144]⟩
abbrev S6144 : Shape := ⟨1, ![6144]⟩
abbrev S2x4x4352x1024 : Shape := ⟨4, ![2, 4, 4352, 1024]⟩
abbrev S2x4x4352 : Shape := ⟨3, ![2, 4, 4352]⟩
abbrev S2x4x4352x1 : Shape := ⟨4, ![2, 4, 4352, 1]⟩
abbrev S_ : Shape := ⟨0, ![]⟩
abbrev S4x4096x1024 : Shape := ⟨3, ![4, 4096, 1024]⟩
abbrev S4x1x1024 : Shape := ⟨3, ![4, 1, 1024]⟩
abbrev S4x256x1024 : Shape := ⟨3, ![4, 256, 1024]⟩
abbrev S1024 : Shape := ⟨1, ![1024]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S34816x1024, .f32⟩
  | .hbm, ⟨2, _⟩ => ⟨S4x4352x2, .f32⟩
  | .hbm, ⟨3, _⟩ => ⟨S4x8x6144, .f32⟩
  | .hbm, ⟨4, _⟩ => ⟨S1x4x6144, .f32⟩
  | .hbm, ⟨5, _⟩ => ⟨S4x6144, .f32⟩
  | .hbm, ⟨6, _⟩ => ⟨S4x1x6144, .f32⟩
  | .hbm, ⟨7, _⟩ => ⟨S1x1x6144, .f32⟩
  | .hbm, ⟨8, _⟩ => ⟨S6144, .f32⟩
  | .hbm, ⟨9, _⟩ => ⟨S2x4x4352x1024, .f32⟩
  | .hbm, ⟨10, _⟩ => ⟨S2x4x4352, .f32⟩
  | .hbm, ⟨11, _⟩ => ⟨S2x4x4352x1, .f32⟩
  | .hbm, ⟨12, _⟩ => ⟨S2x4x4352x1024, .f32⟩
  | .hbm, ⟨13, _⟩ => ⟨S2x4x4352x1024, .f32⟩
  | .hbm, ⟨14, _⟩ => ⟨S_, .f32⟩
  | .hbm, ⟨15, _⟩ => ⟨S4x4352x1024, .f32⟩
  | .hbm, ⟨16, _⟩ => ⟨S4x4096x1024, .f32⟩
  | .hbm, ⟨17, _⟩ => ⟨S4x1x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x256x1024, .f32⟩
  | .hbm, ⟨23, _⟩ => ⟨S1024, .f32⟩
  | .hbm, ⟨24, _⟩ => ⟨S4x256x1024, .f32⟩
  | .hbm, ⟨25, _⟩ => ⟨S1x1x1024, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S4x4352x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Proof.Flash.lean ====
/- The arithmetic of attention over the extended reals: rescaling an online softmax's running sums to a new
   running maximum, and the quotient of the final sums, which does not depend on the shift of the scores. -/
module

public import Idealize.ShloMosaic.Init
public import Idealize.ShloMosaic.Lib.Pointwise

@[expose] public section

noncomputable section

namespace Cert.Attn

open Idealize.ShloMosaic

/-- The value every running maximum starts at, a finite number below any score that matters. -/
@[irreducible] def floor0 : EReal := Ideal.ofBits .f32 0xF149F2CA#32

theorem ofBits_floor0 : Ideal.ofBits .f32 0xF149F2CA#32 = floor0 := by unfold floor0; rfl

theorem exp2_def (φ : FTy) (x : Ideal φ) : FloatOps.exp2 x = Ideal.exp2 x := rfl

theorem floor0_ne_bot : floor0 ≠ ⊥ := by
  simp [floor0, Ideal.ofBits, Ideal.ieee, -EReal.coe_mul]

theorem floor0_ne_top : floor0 ≠ ⊤ := by
  simp [floor0, Ideal.ofBits, Ideal.ieee, -EReal.coe_mul]

theorem ofBits_neg_inf : Ideal.ofBits .f32 0xFF800000#32 = ⊥ := by
  simp [Ideal.ofBits, Ideal.ieee, -EReal.coe_mul]

/-- A fold of `max` from `⊥` is the supremum. -/
theorem fold_max_bot {ι : Type} (u : Finset ι) (f : ι → EReal) : u.fold max ⊥ f = u.sup f := rfl

theorem exp2_coe' (r : ℝ) : Ideal.exp2 (r : EReal) = ((Real.exp (r * Real.log 2) : ℝ) : EReal) := by
  rw [Ideal.exp2_coe]
  congr 1
  show (2 : ℝ) ^ r = _
  rw [Real.rpow_def_of_pos (by norm_num), mul_comm]

theorem sub_top (x : EReal) : x - ⊤ = ⊥ := by
  rw [sub_eq_add_neg, EReal.neg_top, EReal.add_bot]

theorem bot_sub (x : EReal) : (⊥ : EReal) - x = ⊥ := by
  rw [sub_eq_add_neg, EReal.bot_add]

theorem top_sub_coe (r : ℝ) : (⊤ : EReal) - (r : EReal) = ⊤ := EReal.top_sub_coe r

/-- A finite nonnegative factor goes into a sum of extended reals. -/
theorem sum_mul_coe {ι : Type} (u : Finset ι) (f : ι → EReal) {c : ℝ} (hc : 0 ≤ c) :
    (∑ k ∈ u, f k) * (c : EReal) = ∑ k ∈ u, f k * (c : EReal) := by
  classical
  induction u using Finset.induction_on with
  | empty => simp
  | insert a u ha ih =>
    rw [Finset.sum_insert ha, Finset.sum_insert ha,
      EReal.right_distrib_of_nonneg_of_ne_top (EReal.coe_nonneg.mpr hc) (EReal.coe_ne_top c), ih]

/-- A sum of real numbers, read as an extended real. -/
theorem coe_sum {ι : Type} (u : Finset ι) (f : ι → ℝ) : ((∑ k ∈ u, f k : ℝ) : EReal) = ∑ k ∈ u, (f k : EReal) := by
  classical
  induction u using Finset.induction_on with
  | empty => simp
  | insert a u ha ih => rw [Finset.sum_insert ha, Finset.sum_insert ha, EReal.coe_add, ih]

variable {ι κ : Type} [Fintype ι] [Fintype κ]

/-- The sum of the values under the weights `2 ^ (score - m)`. -/
def wsum (m : EReal) (s v : ι → EReal) : EReal := ∑ k, Ideal.exp2 (s k - m) * v k

theorem wsum_top (s v : ι → EReal) : wsum ⊤ s v = 0 := by
  unfold wsum
  refine Finset.sum_eq_zero fun k _ => ?_
  rw [sub_top, Ideal.exp2_bot, zero_mul]

/-- One weight moved to a larger maximum. -/
theorem exp2_shift (s : EReal) (a b : ℝ) :
    Ideal.exp2 (s - (a : EReal)) * Ideal.exp2 ((a : EReal) - (b : EReal)) = Ideal.exp2 (s - (b : EReal)) := by
  rw [← EReal.coe_sub, exp2_coe']
  induction s with
  | bot => rw [bot_sub, bot_sub, Ideal.exp2_bot, zero_mul]
  | top =>
    rw [top_sub_coe, top_sub_coe, Ideal.exp2_top]
    exact EReal.top_mul_of_pos (EReal.coe_pos.mpr (Real.exp_pos _))
  | coe r =>
    rw [← EReal.coe_sub, ← EReal.coe_sub, exp2_coe', exp2_coe', ← EReal.coe_mul, ← Real.exp_add]
    congr 2; ring

/-- RESCALING: the sums at one maximum, times `2 ^ (old - new)`, are the sums at the new maximum. -/
theorem wsum_rescale (m m' : EReal) (h0 : m ≠ ⊥) (h : m ≤ m') (s v : ι → EReal) :
    wsum m s v * Ideal.exp2 (m - m') = wsum m' s v := by
  rcases eq_or_ne m' ⊤ with rfl | h'
  · rw [wsum_top, sub_top, Ideal.exp2_bot, mul_zero]
  have hm : m ≠ ⊤ := fun e => h' (top_le_iff.mp (e ▸ h))
  have hm' : m' ≠ ⊥ := fun e => h0 (le_bot_iff.mp (e ▸ h))
  lift m to ℝ using ⟨hm, h0⟩
  lift m' to ℝ using ⟨h', hm'⟩
  have hx : Ideal.exp2 ((m : EReal) - (m' : EReal)) = ((Real.exp ((m - m') * Real.log 2) : ℝ) : EReal) := by
    rw [← EReal.coe_sub, exp2_coe']
  unfold wsum
  rw [hx, sum_mul_coe _ _ (Real.exp_pos _).le]
  refine Finset.sum_congr rfl fun k _ => ?_
  rw [← hx, mul_assoc, mul_comm (v k), ← mul_assoc, exp2_shift]

/-- The running maximum and the running sum after one pass over a block of keys, from those before it. -/
def stepMax (m : EReal) (s : ι → EReal) : EReal := max m (Finset.univ.fold max ⊥ s)

/-- The running sum after one pass over a block of keys. -/
def stepSum (m a : EReal) (s v : ι → EReal) : EReal :=
  a * Ideal.exp2 (m - stepMax m s) + wsum (stepMax m s) s v

/-- The maximum after both passes. -/
def fullMax (s : ι → EReal) (s' : κ → EReal) : EReal := stepMax (stepMax floor0 s) s'

/-- The sum after both passes. -/
def fullSum (s v : ι → EReal) (s' v' : κ → EReal) : EReal :=
  stepSum (stepMax floor0 s) (stepSum floor0 0 s v) s' v'

theorem stepMax_ne_bot (m : EReal) (hm : m ≠ ⊥) (s : ι → EReal) : stepMax m s ≠ ⊥ := by
  unfold stepMax
  intro h
  exact hm (le_bot_iff.mp (h ▸ le_max_left _ _))

/-- TWO PASSES ARE ONE SUM at the final maximum. -/
theorem fullSum_eq (s v : ι → EReal) (s' v' : κ → EReal) :
    fullSum s v s' v' = wsum (fullMax s s') s v + wsum (fullMax s s') s' v' := by
  have e : stepSum floor0 0 s v = wsum (stepMax floor0 s) s v := by
    unfold stepSum; rw [zero_mul, zero_add]
  unfold fullSum
  rw [e]
  unfold stepSum fullMax
  rw [wsum_rescale _ (stepMax (stepMax floor0 s) s') (stepMax_ne_bot _ floor0_ne_bot _) (le_max_left _ _)]

/-- The final maximum is the larger of the starting value and the largest score. -/
theorem fullMax_eq (s : ι → EReal) (s' : κ → EReal) :
    fullMax s s' = max floor0 (Finset.univ.sup (Sum.elim s s')) := by
  unfold fullMax stepMax
  rw [fold_max_bot, fold_max_bot, max_assoc]
  congr 1
  apply le_antisymm
  · refine max_le (Finset.sup_le fun k _ => ?_) (Finset.sup_le fun k _ => ?_)
    · exact Finset.le_sup (f := Sum.elim s s') (Finset.mem_univ (Sum.inl k))
    · exact Finset.le_sup (f := Sum.elim s s') (Finset.mem_univ (Sum.inr k))
  · refine Finset.sup_le fun k _ => ?_
    cases k with
    | inl k => exact le_max_of_le_left (Finset.le_sup (f := s) (Finset.mem_univ k))
    | inr k => exact le_max_of_le_right (Finset.le_sup (f := s') (Finset.mem_univ k))

/-- A common positive finite factor of a quotient's two sides cancels. -/
theorem div_scale (a : EReal) (b c : ℝ) (hb : 0 < b) (hc : 0 < c) :
    Ideal.div (a * (c : EReal)) (((b : ℝ) : EReal) * (c : EReal)) = Ideal.div a (b : EReal) := by
  rw [← EReal.coe_mul]
  unfold Ideal.div
  rw [if_neg (by exact_mod_cast (mul_pos hb hc).ne'), if_neg (by exact_mod_cast hb.ne'),
    ← EReal.coe_inv, ← EReal.coe_inv, mul_assoc, ← EReal.coe_mul]
  congr 2
  field_simp

/-- THE SHIFT CANCELS: base-two weights of the scores `x * κ`, taken at the clamped maximum, against natural weights of
    `x / d` taken at the true maximum, when `κ * log 2 = 1 / d`. -/
theorem quotient_eq (x v : ι → EReal) (k d : ℝ) (hk : 0 < k) (hd : 0 < d) (hkd : k * Real.log 2 = d⁻¹) :
    Ideal.div (wsum (max floor0 (Finset.univ.sup fun i => x i * (k : EReal))) (fun i => x i * (k : EReal)) v)
        (wsum (max floor0 (Finset.univ.sup fun i => x i * (k : EReal))) (fun i => x i * (k : EReal)) fun _ => 1)
      = Ideal.div (∑ i, Ideal.exp (Ideal.div (x i) (d : EReal) - Finset.univ.sup fun i => Ideal.div (x i) (d : EReal)) * v i)
          (∑ i, Ideal.exp (Ideal.div (x i) (d : EReal) - Finset.univ.sup fun i => Ideal.div (x i) (d : EReal))) := by
  have hdiv : ∀ y : EReal, Ideal.div y (d : EReal) = y * ((d⁻¹ : ℝ) : EReal) := fun y => by
    unfold Ideal.div
    rw [if_neg (by exact_mod_cast hd.ne'), ← EReal.coe_inv]
  simp only [hdiv]
  have hd' : 0 < d⁻¹ := inv_pos.mpr hd
  -- the largest of the scores times a positive number is the largest score times it
  have hsup : ∀ c : ℝ, 0 < c → (Finset.univ.sup fun i => x i * (c : EReal)) = (Finset.univ.sup x) * (c : EReal) := by
    intro c hc
    have mono : Monotone fun y : EReal => y * (c : EReal) := fun a b hab =>
      mul_le_mul_of_nonneg_right hab (EReal.coe_nonneg.mpr hc.le)
    exact (Finset.comp_sup_eq_sup_comp (s := Finset.univ) (f := x) (fun y : EReal => y * (c : EReal))
      (fun a b => mono.map_max) (by show (⊥ : EReal) * _ = ⊥; exact EReal.bot_mul_coe_of_pos hc)).symm
  rw [hsup k hk, hsup _ hd']
  rcases eq_or_ne (Finset.univ.sup x) ⊤ with ht | ht
  · -- some score is infinite: every weight is zero on both sides
    rw [ht, EReal.top_mul_coe_of_pos hk, EReal.top_mul_coe_of_pos hd', max_eq_right le_top, wsum_top, wsum_top]
    simp only [sub_top, Ideal.exp_bot, zero_mul, Finset.sum_const_zero]
  rcases eq_or_ne (Finset.univ.sup x) ⊥ with hb | hb
  · -- every score is minus infinity: every weight is zero on both sides
    have hx : ∀ i, x i = ⊥ := fun i => le_bot_iff.mp (hb ▸ Finset.le_sup (f := x) (Finset.mem_univ i))
    unfold wsum
    simp only [hx, EReal.bot_mul_coe_of_pos hk, EReal.bot_mul_coe_of_pos hd', bot_sub, Ideal.exp2_bot, Ideal.exp_bot,
      zero_mul, Finset.sum_const_zero]
  generalize hM : Finset.univ.sup x = M at *
  have hle : ∀ i, x i ≤ M := fun i => hM ▸ Finset.le_sup (f := x) (Finset.mem_univ i)
  have hne : (Finset.univ : Finset ι).Nonempty := by
    by_contra h0
    rw [Finset.not_nonempty_iff_eq_empty] at h0
    rw [h0, Finset.sup_empty] at hM
    exact hb hM.symm
  obtain ⟨i0, -, hi0⟩ := Finset.exists_mem_eq_sup Finset.univ hne x
  rw [hM] at hi0
  lift M to ℝ using ⟨ht, hb⟩
  have hf : ∃ f : ℝ, max floor0 ((M : EReal) * (k : EReal)) = (f : EReal) := by
    refine ⟨_, (EReal.coe_toReal ?_ ?_).symm⟩
    · rw [← EReal.coe_mul]
      exact (max_lt (lt_top_iff_ne_top.mpr floor0_ne_top) (EReal.coe_lt_top _)).ne
    · exact fun h => floor0_ne_bot (le_bot_iff.mp (h ▸ le_max_left _ _))
  obtain ⟨f, hf⟩ := hf
  rw [hf]
  -- each weight on the left is the weight on the right times one factor
  have hw : ∀ i, Ideal.exp2 (x i * (k : EReal) - (f : EReal))
      = Ideal.exp (x i * ((d⁻¹ : ℝ) : EReal) - (M : EReal) * ((d⁻¹ : ℝ) : EReal))
        * ((Real.exp (M * d⁻¹ - f * Real.log 2) : ℝ) : EReal) := by
    intro i
    have hi := hle i
    rw [← EReal.coe_mul M]
    revert hi
    induction x i with
    | bot => intro _; rw [EReal.bot_mul_coe_of_pos hk, EReal.bot_mul_coe_of_pos hd', bot_sub, bot_sub, Ideal.exp2_bot, Ideal.exp_bot, zero_mul]
    | top => exact fun hi => absurd (top_le_iff.mp hi) (EReal.coe_ne_top _)
    | coe r =>
      intro _
      rw [← EReal.coe_mul, ← EReal.coe_mul, ← EReal.coe_sub, ← EReal.coe_sub, exp2_coe', Ideal.exp_coe, ← EReal.coe_mul,
        ← Real.exp_add]
      congr 2
      rw [← hkd]; ring
  set c : ℝ := Real.exp (M * d⁻¹ - f * Real.log 2) with hc
  have hc0 : 0 < c := Real.exp_pos _
  -- the weights on the right are finite, and the largest score's is one
  have hreal : ∀ i, ∃ r : ℝ, 0 ≤ r ∧ Ideal.exp (x i * ((d⁻¹ : ℝ) : EReal) - (M : EReal) * ((d⁻¹ : ℝ) : EReal)) = (r : EReal) := by
    intro i
    have hi := hle i
    rw [← EReal.coe_mul M]
    revert hi
    induction x i with
    | bot => exact fun _ => ⟨0, le_refl _, by rw [EReal.bot_mul_coe_of_pos hd', bot_sub, Ideal.exp_bot]; rfl⟩
    | top => exact fun hi => absurd (top_le_iff.mp hi) (EReal.coe_ne_top _)
    | coe r => exact fun _ => ⟨_, (Real.exp_pos _).le, by rw [← EReal.coe_mul, ← EReal.coe_sub, Ideal.exp_coe]⟩
  choose w hw0 hwe using hreal
  have hone : w i0 = 1 := by
    have := hwe i0
    rw [← hi0, ← EReal.coe_mul, ← EReal.coe_sub, sub_self, Ideal.exp_coe, Real.exp_zero] at this
    exact_mod_cast this.symm
  have hpos : 0 < ∑ i, w i := by
    refine lt_of_lt_of_le one_pos ?_
    rw [← hone]
    exact Finset.single_le_sum (fun i _ => hw0 i) (Finset.mem_univ i0)
  unfold wsum
  have e1 : ∑ i, Ideal.exp2 (x i * (k : EReal) - (f : EReal)) * v i
      = (∑ i, (w i : EReal) * v i) * (c : EReal) := by
    rw [sum_mul_coe _ _ hc0.le]
    refine Finset.sum_congr rfl fun i _ => ?_
    rw [hw i, hwe i, mul_assoc, mul_comm (c : EReal), ← mul_assoc]
  have e2 : ∑ i, Ideal.exp2 (x i * (k : EReal) - (f : EReal)) * 1 = ((∑ i, w i : ℝ) : EReal) * (c : EReal) := by
    rw [coe_sum, sum_mul_coe _ _ hc0.le]
    refine Finset.sum_congr rfl fun i _ => ?_
    rw [hw i, hwe i, mul_one]
  rw [e1, e2, div_scale _ _ _ hpos hc0, coe_sum]
  simp only [hwe]

/-- The two passes over the two parts of one row of keys are one sum over the row. -/
theorem fullSum_split {a b n : ℕ} (hn : a + b = n) (s v : Fin n → EReal) :
    fullSum (fun j : Fin a => s ⟨j, by have := j.isLt; omega⟩) (fun j : Fin a => v ⟨j, by have := j.isLt; omega⟩)
        (fun j : Fin b => s ⟨a + j, by have := j.isLt; omega⟩) (fun j : Fin b => v ⟨a + j, by have := j.isLt; omega⟩)
      = wsum (max floor0 (Finset.univ.sup s)) s v := by
  subst hn
  rw [fullSum_eq, fullMax_eq]
  have e : (Finset.univ.sup (Sum.elim (fun j : Fin a => s ⟨j, by have := j.isLt; omega⟩)
      (fun j : Fin b => s ⟨a + j, by have := j.isLt; omega⟩))) = Finset.univ.sup s := by
    apply le_antisymm
    · refine Finset.sup_le fun k _ => ?_
      cases k with
      | inl k => exact Finset.le_sup (f := s) (Finset.mem_univ _)
      | inr k => exact Finset.le_sup (f := s) (Finset.mem_univ _)
    · refine Finset.sup_le fun k _ => ?_
      rcases lt_or_ge k.val a with h | h
      · exact Finset.le_sup (f := Sum.elim (fun j : Fin a => s ⟨j, by have := j.isLt; omega⟩)
          (fun j : Fin b => s ⟨a + j, by have := j.isLt; omega⟩)) (Finset.mem_univ (Sum.inl ⟨k, h⟩))
      · have hk : s k = s ⟨a + (k.val - a), by have := k.isLt; omega⟩ := congrArg s (Fin.ext (by show k.val = a + (k.val - a); omega))
        rw [hk]
        exact Finset.le_sup (f := Sum.elim (fun j : Fin a => s ⟨j, by have := j.isLt; omega⟩)
          (fun j : Fin b => s ⟨a + j, by have := j.isLt; omega⟩)) (Finset.mem_univ (Sum.inr ⟨k - a, by have := k.isLt; omega⟩))
  rw [e]
  unfold wsum
  rw [Fin.sum_univ_add]
  rfl

end Cert.Attn

end
-- ==== Proof.Head.lean ====
/- One block of the attention kernel's result at an index: each of the block's four heads is the quotient of the
   weighted sums over the head's keys. -/
module

public import proofs.«01_k».proof.Proof.Gen.KernelIdeal.Value
public import proofs.«01_k».proof.Proof.Flash
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic

/-- One head's queries, the keys and values of the first pass, and those of the second. -/
abbrev QBlk : Type := Vec Ideal S1x1x1024x128 .bf16
abbrev K1 : Type := Vec Ideal S1x1x2048x128 .bf16
abbrev K2 : Type := Vec Ideal S1x1x2304x128 .bf16

/-- The first pass's scores. -/
def sc1 (q : QBlk) (k : K1) (r : Fin 1024) (j : Fin 2048) : EReal := ∑ e : Fin 128, q (ix4 0 0 r e) * k (ix4 0 0 j e)
/-- The second pass's scores. -/
def sc2 (q : QBlk) (k : K2) (r : Fin 1024) (j : Fin 2304) : EReal := ∑ e : Fin 128, q (ix4 0 0 r e) * k (ix4 0 0 j e)

/-- The running maximum after the first pass. -/
abbrev maxA (q : QBlk) (k : K1) : FVec Ideal S1024x1 .f32 := k0_pay5 q k
/-- The running sums after the first pass. -/
abbrev accA (q : QBlk) (k v : K1) : FVec Ideal S1024x128 .f32 := k0_pay6 q k v
/-- The running sums after both passes. -/
abbrev accB (q : QBlk) (k v : K1) (k' v' : K2) : FVec Ideal S1024x128 .f32 :=
  k0_pay22 (k0_pay19 (k0_pay5 q k) (k0_pay6 q k v) q k') (k0_pay20 (k0_pay5 q k) q k') (k0_pay21 v')
    (constant S1024x128 .f32 0x00000000#32)

theorem pay4_at (q : QBlk) (k : K1) (r : Fin 1024) (j : Fin 2048) : k0_pay4 q k (ix2 r j) = sc1 q k r j := by
  unfold sc1
  pointwise [k0_pay4]

theorem pay17_at (q : QBlk) (k : K2) (r : Fin 1024) (j : Fin 2304) : k0_pay17 q k (ix2 r j) = sc2 q k r j := by
  unfold sc2
  pointwise [k0_pay17]

/-- A block of one constant is the constant everywhere. -/
theorem pay2_at (r : Fin 1024) : k0_pay2 (F := Ideal) (ix2 r 0) = floor0 := ofBits_floor0

/-- The larger of a column and the row maxima of a block of scores, at one row. -/
theorem max_first (m : FVec Ideal S1024x1 .f32) (S : FVec Ideal S1024x2048 .f32) (r : Fin 1024) :
    maximumf m (shapeCast S1024x1 (multiReduction .maximumf [1] S1024 S 0xFF800000#32 reduces_S1024x2048_S1024 (.inl rfl) rfl)
      shapeCasts_S1024_S1024x1) (ix2 r 0) = stepMax (m (ix2 r 0)) (fun j : Fin 2048 => S (ix2 r j)) := by
  unfold stepMax
  pointwise [ofBits_neg_inf]

theorem maxA_at (q : QBlk) (k : K1) (r : Fin 1024) : k0_pay5 q k (ix2 r 0) = stepMax floor0 (sc1 q k r) := by
  have h := max_first (k0_pay2 (F := Ideal)) (k0_pay4 q k) r
  rw [pay2_at] at h
  simp only [pay4_at] at h
  exact h

theorem pay3_at (r : Fin 1024) (d : Fin 128) : k0_pay3 (F := Ideal) (ix2 r d) = 0 := Ideal.ofBits_zero_f32

/-- The rescaled sums and the new weighted values, at one row and lane, over any column of old and new maxima. -/
theorem sum_first (m m' : FVec Ideal S1024x1 .f32) (a : FVec Ideal S1024x128 .f32) (S : FVec Ideal S1024x2048 .f32) (v : K1)
    (r : Fin 1024) (d : Fin 128) :
    addf (mulf a (broadcastTo S1024x128 (exp2 (subf m m')) broadcasts_S1024x1_S1024x128))
        (matmul dot_S1024x2048_S2048x128_S1024x128_1_0_0_1_n_n none
          (truncf .bf16 (exp2 (subf S (broadcastTo S1024x2048 m' broadcasts_S1024x1_S1024x2048))) bitsLt_bf16_f32)
          (shapeCast S2048x128 v shapeCasts_S1x1x2048x128_S2048x128 : FVec Ideal S2048x128 .bf16) (constant S1024x128 .f32 0x00000000#32)) (ix2 r d)
      = a (ix2 r d) * Ideal.exp2 (m (ix2 r 0) - m' (ix2 r 0))
        + wsum (m' (ix2 r 0)) (fun j : Fin 2048 => S (ix2 r j)) (fun j => v (ix4 0 0 j d)) := by
  unfold wsum
  pointwise [exp2_def]

theorem accA_at (q : QBlk) (k v : K1) (r : Fin 1024) (d : Fin 128) :
    k0_pay6 q k v (ix2 r d) = stepSum floor0 0 (sc1 q k r) (fun j => v (ix4 0 0 j d)) := by
  have h := sum_first (k0_pay2 (F := Ideal)) (k0_pay5 q k) (k0_pay3 (F := Ideal)) (k0_pay4 q k) v r d
  rw [pay2_at, pay3_at, maxA_at] at h
  simp only [pay4_at] at h
  exact h

theorem maxB_at (m : FVec Ideal S1024x1 .f32) (q : QBlk) (k : K2) (r : Fin 1024) :
    k0_pay18 m q k (ix2 r 0) = stepMax (m (ix2 r 0)) (sc2 q k r) := by
  unfold stepMax
  pointwise [k0_pay18, pay17_at, ofBits_neg_inf]

/-- The second pass's rescaled sums and weighted values, over any sums and maxima of the first. -/
theorem sum_second (m : FVec Ideal S1024x1 .f32) (a : FVec Ideal S1024x128 .f32) (q : QBlk) (k' v' : K2)
    (r : Fin 1024) (d : Fin 128) :
    k0_pay22 (k0_pay19 m a q k') (k0_pay20 m q k') (k0_pay21 v') (constant S1024x128 .f32 0x00000000#32) (ix2 r d)
      = stepSum (m (ix2 r 0)) (a (ix2 r d)) (sc2 q k' r) (fun j => v' (ix4 0 0 j d)) := by
  unfold stepSum wsum
  pointwise [k0_pay22, k0_pay19, k0_pay20, k0_pay21, pay17_at, maxB_at, exp2_def]

theorem accB_at (q : QBlk) (k v : K1) (k' v' : K2) (r : Fin 1024) (d : Fin 128) :
    accB q k v k' v' (ix2 r d) = fullSum (sc1 q k r) (fun j => v (ix4 0 0 j d)) (sc2 q k' r) (fun j => v' (ix4 0 0 j d)) := by
  unfold fullSum accB
  rw [sum_second, maxA_at, accA_at]

/-- One head's result from its running sums: the first 64 lanes over lane 64. -/
def headOut (a : FVec Ideal S1024x128 .f32) : FVec Ideal S1024x64 .f32 :=
  divf (extractStridedSlice S1024x64 ![0, 0] a slices_S1024x128_o0_0_S1024x64)
    (broadcastTo S1024x64 (extractStridedSlice S1024x1 ![0, 64] a slices_S1024x128_o0_64_S1024x1) broadcasts_S1024x1_S1024x64)

theorem headOut_at (a : FVec Ideal S1024x128 .f32) (r : Fin 1024) (d : Fin 64) :
    headOut a (ix2 r d) = Ideal.div (a (ix2 r ⟨d.val, by omega⟩)) (a (ix2 r 64)) := by
  pointwise [headOut]

open Cert.KernelIdeal.Value in
theorem cat_at (P0 : QBlk) (P1 P2 : K1) (P3 P4 : K2) (P5 : QBlk) (P6 P7 : K1) (P8 P9 : K2) (P10 : QBlk) (P11 P12 : K1)
    (P13 P14 : K2) (P15 : QBlk) (P16 P17 : K1) (P18 P19 : K2) (n : Fin 4) :
    Cat3_0 P0 P1 P2 P3 P4 P5 P6 P7 P8 P9 P10 P11 P12 P13 P14 P15 P16 P17 P18 P19 n
      = headOut (match n with
        | 0 => accB P0 P1 P2 P3 P4
        | 1 => accB P5 P6 P7 P8 P9
        | 2 => accB P10 P11 P12 P13 P14
        | 3 => accB P15 P16 P17 P18 P19) := by
  match n with
  | 0 => rfl
  | 1 => rfl
  | 2 => rfl
  | 3 => rfl

end Cert.Attn

end
-- ==== Proof.Block.lean ====
/- The attention kernel's whole result array: each element from the query, key and value arrays of the call. -/
module

public import proofs.«01_k».proof.Proof.Head

@[expose] public section

set_option maxRecDepth 16384

noncomputable section

namespace Cert.Attn

open Cert.KernelIdeal Cert.KernelIdeal.Gen Idealize.ShloMosaic

/-- One row of queries against all keys of its head: the scores. -/
def scores (q : Fin 128 → EReal) (k : Fin 4352 → Fin 128 → EReal) (j : Fin 4352) : EReal := ∑ e : Fin 128, q e * k j e

/-- One row of attention at lane `d`: the weighted values over the weighted lane 64. -/
def attnAt (q : Fin 128 → EReal) (k v : Fin 4352 → Fin 128 → EReal) (d : Fin 64) : EReal :=
  Ideal.div
    (wsum (max floor0 (Finset.univ.sup (scores q k))) (scores q k) (fun j => v j ⟨d.val, by omega⟩))
    (wsum (max floor0 (Finset.univ.sup (scores q k))) (scores q k) (fun j => v j 64))

/-- One head's running sums, from loads that hold its rows, keys and values. -/
theorem accB_rows (q : QBlk) (k v : K1) (k' v' : K2) (r : Fin 1024) (d : Fin 128)
    (Q : Fin 128 → EReal) (K V : Fin 4352 → Fin 128 → EReal)
    (hq : ∀ e, q (ix4 0 0 r e) = Q e)
    (hk : ∀ (j : Fin 2048) (e), k (ix4 0 0 j e) = K ⟨j.val, by omega⟩ e)
    (hv : ∀ (j : Fin 2048) (e), v (ix4 0 0 j e) = V ⟨j.val, by omega⟩ e)
    (hk' : ∀ (j : Fin 2304) (e), k' (ix4 0 0 j e) = K ⟨2048 + j.val, by omega⟩ e)
    (hv' : ∀ (j : Fin 2304) (e), v' (ix4 0 0 j e) = V ⟨2048 + j.val, by omega⟩ e) :
    accB q k v k' v' (ix2 r d) = wsum (max floor0 (Finset.univ.sup (scores Q K))) (scores Q K) (fun j => V j d) := by
  rw [accB_at, ← fullSum_split (a := 2048) (b := 2304) rfl]
  unfold sc1 sc2 scores
  simp only [hq, hk, hv, hk', hv']

/-- One head's result at a row and lane, from loads that hold its rows, keys and values. -/
theorem head_rows (q : QBlk) (k v : K1) (k' v' : K2) (r : Fin 1024) (d : Fin 64)
    (Q : Fin 128 → EReal) (K V : Fin 4352 → Fin 128 → EReal)
    (hq : ∀ e, q (ix4 0 0 r e) = Q e)
    (hk : ∀ (j : Fin 2048) (e), k (ix4 0 0 j e) = K ⟨j.val, by omega⟩ e)
    (hv : ∀ (j : Fin 2048) (e), v (ix4 0 0 j e) = V ⟨j.val, by omega⟩ e)
    (hk' : ∀ (j : Fin 2304) (e), k' (ix4 0 0 j e) = K ⟨2048 + j.val, by omega⟩ e)
    (hv' : ∀ (j : Fin 2304) (e), v' (ix4 0 0 j e) = V ⟨2048 + j.val, by omega⟩ e) :
    headOut (accB q k v k' v') (ix2 r d) = attnAt Q K V d := by
  rw [headOut_at, accB_rows q k v k' v' r _ Q K V hq hk hv hk' hv', accB_rows q k v k' v' r _ Q K V hq hk hv hk' hv']
  rfl

/-- The four heads of the block, one per 64 lanes. -/
theorem out_at (x0 : Vec Ideal S1x4x1024x128 .bf16) (x1 x2 : Vec Ideal S1x4x4352x128 .bf16) (r : Fin 1024) (l : Fin 256) :
    out0_3 x0 x1 x2 (ix3 0 r l)
      = attnAt (fun e => x0 (ix4 0 ⟨l.val / 64, by omega⟩ r e)) (fun j e => x1 (ix4 0 ⟨l.val / 64, by omega⟩ j e))
          (fun j e => x2 (ix4 0 ⟨l.val / 64, by omega⟩ j e)) ⟨l.val % 64, by omega⟩ := by
  unfold_out out0_3
  rw [Value.canon3_eq]
  have hy : Value.ix3_0 (ix3 0 r l) = ix2 r ⟨l.val % 64, by omega⟩ := eq_ix2 _
  have hc : Value.csel3_0 (ix3 0 r l) = ⟨l.val / 64, by omega⟩ := rfl
  show Value.Cat3_0 _ _ _ _ _ _ _ _ _ _ _ _ _ _ _ _ _ _ _ _ _ _ = _
  rw [hy, hc, cat_at]
  generalize (⟨l.val / 64, by omega⟩ : Fin 4) = h
  generalize (⟨l.val % 64, by omega⟩ : Fin 64) = d
  clear hy hc
  match h with
  | 0 =>
    refine head_rows (View.ld x0 r0_0) (View.ld x1 r0_1) (View.ld x2 r0_1) (View.ld x1 r0_8) (View.ld x2 r0_8) r d _ _ _
      ?_ ?_ ?_ ?_ ?_ <;> intros <;> pointwise []
  | 1 =>
    refine head_rows (View.ld x0 r0_2) (View.ld x1 r0_3) (View.ld x2 r0_3) (View.ld x1 r0_9) (View.ld x2 r0_9) r d _ _ _
      ?_ ?_ ?_ ?_ ?_ <;> intros <;> pointwise []
  | 2 =>
    refine head_rows (View.ld x0 r0_4) (View.ld x1 r0_5) (View.ld x2 r0_5) (View.ld x1 r0_10) (View.ld x2 r0_10) r d _ _ _
      ?_ ?_ ?_ ?_ ?_ <;> intros <;> pointwise []
  | 3 =>
    refine head_rows (View.ld x0 r0_6) (View.ld x1 r0_7) (View.ld x2 r0_7) (View.ld x1 r0_11) (View.ld x2 r0_11) r d _ _ _
      ?_ ?_ ?_ ?_ ?_ <;> intros <;> pointwise []

end Cert.Attn

end
-- ==== Proof.Final.lean ====
/- The attention call's result array after the run, from the query, key and value arrays that the call is given. -/
module

public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem

/-- The result array: sequence `b`, row `i`, head `c / 64`, lane `c % 64`. -/
def attnOf (q : Vec Ideal S4x8x4096x128 .bf16) (k v : Vec Ideal S4x8x4352x128 .bf16) (b : Fin 4) (i : Fin 4096) (h : Fin 8)
    (d : Fin 64) : EReal :=
  attnAt (fun e => q (ix4 b h i e)) (fun j e => k (ix4 b h j e)) (fun j e => v (ix4 b h j e)) d

theorem attnAt_congr {q q' : Fin 128 → EReal} {k k' v v' : Fin 4352 → Fin 128 → EReal} {d d' : Fin 64}
    (hq : ∀ e, q e = q' e) (hk : ∀ j e, k j e = k' j e) (hv : ∀ j e, v j e = v' j e) (hd : d = d') :
    attnAt q k v d = attnAt q' k' v' d' := by
  rw [funext hq, funext fun j => funext (hk j), funext fun j => funext (hv j), hd]

variable (m : (ℓ : Loc nD τ sig) → Buf (Elt Ideal) ℓ)

/-- Where each grid point's blocks lie. -/
theorem idx_eqs : ∀ t : Fin grid0.N,
    win0_0.index t 0 = win0_3.index t 0 ∧ win0_0.index t 1 = win0_3.index t 2 ∧ win0_0.index t 2 = win0_3.index t 1
    ∧ win0_0.index t 3 = 0
    ∧ win0_1.index t 0 = win0_3.index t 0 ∧ win0_1.index t 1 = win0_3.index t 2 ∧ win0_1.index t 2 = 0 ∧ win0_1.index t 3 = 0
    ∧ win0_2.index t 0 = win0_3.index t 0 ∧ win0_2.index t 1 = win0_3.index t 2 ∧ win0_2.index t 2 = 0 ∧ win0_2.index t 3 = 0 := by
  decide +kernel

/-- A point's block of window 0, read at an index, is the array there. -/
theorem blk0_at (c : Dev nD) (t : Fin grid0.N) (h : Fin 4) (r : Fin 1024) (e : Fin 128) (b : Fin 4) (h' : Fin 8) (r' : Fin 4096)
    (hb : b.val = win0_0.index t 0) (hh : h'.val = win0_0.index t 1 * 4 + h.val) (hr : r'.val = win0_0.index t 2 * 1024 + r.val)
    (he : win0_0.index t 3 = 0) :
    iblk m c 0 t (ix4 0 h r e) = V m c main_v26 (ix4 b h' r' e) := by
  unfold iblk
  show V m c main_v26 (((win0 0).blk t).view.emb (ix4 0 h r e)) = _
  refine congrArg (V m c main_v26) (funext fun a => Fin.ext ?_)
  match a with
  | 0 => blk_simp; show win0_0.index t 0 + 0 = b.val; omega
  | 1 => blk_simp; show win0_0.index t 1 * 4 + h.val = h'.val; omega
  | 2 => blk_simp; show win0_0.index t 2 * 1024 + r.val = r'.val; omega
  | 3 => blk_simp; show win0_0.index t 3 * 128 + e.val = e.val; omega

/-- A point's block of window 1, read at an index, is the array there. -/
theorem blk1_at (c : Dev nD) (t : Fin grid0.N) (h : Fin 4) (r : Fin 4352) (e : Fin 128) (b : Fin 4) (h' : Fin 8) (r' : Fin 4352)
    (hb : b.val = win0_1.index t 0) (hh : h'.val = win0_1.index t 1 * 4 + h.val) (hr : r'.val = win0_1.index t 2 * 4352 + r.val)
    (he : win0_1.index t 3 = 0) :
    iblk m c 1 t (ix4 0 h r e) = V m c main_v28 (ix4 b h' r' e) := by
  unfold iblk
  show V m c main_v28 (((win0 1).blk t).view.emb (ix4 0 h r e)) = _
  refine congrArg (V m c main_v28) (funext fun a => Fin.ext ?_)
  match a with
  | 0 => blk_simp; show win0_1.index t 0 + 0 = b.val; omega
  | 1 => blk_simp; show win0_1.index t 1 * 4 + h.val = h'.val; omega
  | 2 => blk_simp; show win0_1.index t 2 * 4352 + r.val = r'.val; omega
  | 3 => blk_simp; show win0_1.index t 3 * 128 + e.val = e.val; omega

/-- A point's block of window 2, read at an index, is the array there. -/
theorem blk2_at (c : Dev nD) (t : Fin grid0.N) (h : Fin 4) (r : Fin 4352) (e : Fin 128) (b : Fin 4) (h' : Fin 8) (r' : Fin 4352)
    (hb : b.val = win0_2.index t 0) (hh : h'.val = win0_2.index t 1 * 4 + h.val) (hr : r'.val = win0_2.index t 2 * 4352 + r.val)
    (he : win0_2.index t 3 = 0) :
    iblk m c 2 t (ix4 0 h r e) = V m c main_v29 (ix4 b h' r' e) := by
  unfold iblk
  show V m c main_v29 (((win0 2).blk t).view.emb (ix4 0 h r e)) = _
  refine congrArg (V m c main_v29) (funext fun a => Fin.ext ?_)
  match a with
  | 0 => blk_simp; show win0_2.index t 0 + 0 = b.val; omega
  | 1 => blk_simp; show win0_2.index t 1 * 4 + h.val = h'.val; omega
  | 2 => blk_simp; show win0_2.index t 2 * 4352 + r.val = r'.val; omega
  | 3 => blk_simp; show win0_2.index t 3 * 128 + e.val = e.val; omega

theorem final (c : Dev nD) :
    (dats m 0 c).arrAt 3 cfg0.N = fun i : S4x4096x512.Idx =>
      attnOf (V m c main_v26) (V m c main_v28) (V m c main_v29) (i 0) (i 1) ⟨(i 2).val / 64, by have : (i 2).val < 512 := (i 2).isLt; omega⟩
        ⟨(i 2).val % 64, by omega⟩ := by
  refine (dats m 0 c).arrAt_eq_of_covers 3 _ (by decide +kernel) fun t hf y => ?_
  blk_simp
  rw [after0_3]
  idx_vars y
  obtain rfl : y0 = 0 := Subsingleton.elim _ _
  rw [out_at]
  obtain ⟨a0, a1, a2, a3, b0, b1, b2, b3, c0, c1, c2, c3⟩ := idx_eqs t
  have h0 : ((((View.whole main_v30).slice (win0_3.rect t)).emb (ix3 0 y1 y2) 0).val : ℕ) = win0_3.index t 0 * 1 + 0 :=
    Pipeline.Window.rect_emb_val win0_3 t (ix3 0 y1 y2) 0 rfl
  have h1 : ((((View.whole main_v30).slice (win0_3.rect t)).emb (ix3 0 y1 y2) 1).val : ℕ) = win0_3.index t 1 * 1024 + y1.val :=
    Pipeline.Window.rect_emb_val win0_3 t (ix3 0 y1 y2) 1 rfl
  unfold attnOf
  refine attnAt_congr (fun e => blk0_at m c t _ _ _ _ _ _ ?_ ?_ ?_ a3)
    (fun j e => blk1_at m c t _ _ _ _ _ _ ?_ ?_ ?_ b3) (fun j e => blk2_at m c t _ _ _ _ _ _ ?_ ?_ ?_ c3) ?_
  · rw [a0]; exact h0.trans (by omega)
  · show (win0_3.index t 2 * 256 + y2.val) / 64 = win0_0.index t 1 * 4 + y2.val / 64
    rw [a1]; omega
  · rw [a2]; exact h1
  · rw [b0]; exact h0.trans (by omega)
  · show (win0_3.index t 2 * 256 + y2.val) / 64 = win0_1.index t 1 * 4 + y2.val / 64
    rw [b1]; omega
  · rw [b2]; omega
  · rw [c0]; exact h0.trans (by omega)
  · show (win0_3.index t 2 * 256 + y2.val) / 64 = win0_2.index t 1 * 4 + y2.val / 64
    rw [c1]; omega
  · rw [c2]; omega
  · exact Fin.ext (by show y2.val % 64 = (win0_3.index t 2 * 256 + y2.val) % 64; omega)

end Cert.Attn

end
-- ==== Proof.Entry.lean ====
/- What the attention call is given: the queries, keys and values that the host lines lay out, at an index. -/
module

public import proofs.«01_k».proof.Proof.Final

@[expose] public section

set_option maxRecDepth 16384

noncomputable section

namespace Cert.Attn

open Cert.KernelIdeal Cert.KernelIdeal.Gen Idealize.ShloMosaic Idealize.ShloMosaic.TcCoe Idealize.SL.Sem

/-- The scale of the scores, as the host lines compute it. -/
def qScale : FVec Ideal S_ .f32 :=
  Host.divf (constant S_ .f32 0x3F800000#32)
    (mulf (Host.sqrt (constant S_ .f32 0x42C00000#32)) (Host.log (constant S_ .f32 0x40000000#32)))

/-- The queries that the call is given. -/
def qArr (x0 : FVec Ideal S4x4096x8x64 .f32) (x1 x2 : FVec Ideal S4x4096x8x32 .f32) : FVec Ideal S4x8x4096x128 .bf16 :=
  truncf .bf16 (mulf (concatenate S4x8x4096x128 3
      [⟨S4x8x4096x64, transpose S4x8x4096x64 [0, 2, 1, 3] x0 transposes_S4x4096x8x64_S4x8x4096x64_0_2_1_3⟩,
       ⟨S4x8x4096x32, transpose S4x8x4096x32 [0, 2, 1, 3] x1 transposes_S4x4096x8x32_S4x8x4096x32_0_2_1_3⟩,
       ⟨S4x8x4096x32, transpose S4x8x4096x32 [0, 2, 1, 3] x2 transposes_S4x4096x8x32_S4x8x4096x32_0_2_1_3⟩]
      concatenates_S4x8x4096x64_S4x8x4096x32_S4x8x4096x32_S4x8x4096x128_d3)
    (broadcastInDim S4x8x4096x128 ![] bcast_S_S4x8x4096x128 qScale)) bitsLt_bf16_f32

/-- The keys that the call is given: the sequence's and then the context's. -/
def kArr (x3 : FVec Ideal S4x4096x8x64 .f32) (x4 : FVec Ideal S4x4096x32 .f32) (x6 : FVec Ideal S4x256x8x64 .f32)
    (x7 : FVec Ideal S4x256x32 .f32) : FVec Ideal S4x8x4352x128 .bf16 :=
  truncf .bf16 (concatenate S4x8x4352x128 2
      [⟨S4x8x4096x128, concatenate S4x8x4096x128 3
        [⟨S4x8x4096x64, transpose S4x8x4096x64 [0, 2, 1, 3] x3 transposes_S4x4096x8x64_S4x8x4096x64_0_2_1_3⟩,
         ⟨S4x8x4096x32, broadcastInDim S4x8x4096x32 ![0, 1, 2, 3] bcast_S4x1x4096x32_S4x8x4096x32_0_1_2_3
            (broadcastInDim S4x1x4096x32 ![0, 2, 3] bcast_S4x4096x32_S4x1x4096x32_0_2_3 x4)⟩,
         ⟨S4x8x4096x32, broadcastInDim S4x8x4096x32 ![] bcast_S_S4x8x4096x32 (constant S_ .f32 0x00000000#32 : FVec Ideal S_ .f32)⟩]
        concatenates_S4x8x4096x64_S4x8x4096x32_S4x8x4096x32_S4x8x4096x128_d3⟩,
       ⟨S4x8x256x128, concatenate S4x8x256x128 3
        [⟨S4x8x256x64, transpose S4x8x256x64 [0, 2, 1, 3] x6 transposes_S4x256x8x64_S4x8x256x64_0_2_1_3⟩,
         ⟨S4x8x256x32, broadcastInDim S4x8x256x32 ![] bcast_S_S4x8x256x32 (constant S_ .f32 0x00000000#32 : FVec Ideal S_ .f32)⟩,
         ⟨S4x8x256x32, broadcastInDim S4x8x256x32 ![0, 1, 2, 3] bcast_S4x1x256x32_S4x8x256x32_0_1_2_3
            (broadcastInDim S4x1x256x32 ![0, 2, 3] bcast_S4x256x32_S4x1x256x32_0_2_3 x7)⟩]
        concatenates_S4x8x256x64_S4x8x256x32_S4x8x256x32_S4x8x256x128_d3⟩]
      concatenates_S4x8x4096x128_S4x8x256x128_S4x8x4352x128_d2) bitsLt_bf16_f32

/-- The values that the call is given, with a lane of ones after each row's 64 lanes. -/
def vArr (x5 : FVec Ideal S4x4096x8x64 .f32) (x8 : FVec Ideal S4x256x8x64 .f32) : FVec Ideal S4x8x4352x128 .bf16 :=
  truncf .bf16 (concatenate S4x8x4352x128 3
      [⟨S4x8x4352x64, concatenate S4x8x4352x64 2
        [⟨S4x8x4096x64, transpose S4x8x4096x64 [0, 2, 1, 3] x5 transposes_S4x4096x8x64_S4x8x4096x64_0_2_1_3⟩,
         ⟨S4x8x256x64, transpose S4x8x256x64 [0, 2, 1, 3] x8 transposes_S4x256x8x64_S4x8x256x64_0_2_1_3⟩]
        concatenates_S4x8x4096x64_S4x8x256x64_S4x8x4352x64_d2⟩,
       ⟨S4x8x4352x1, broadcastInDim S4x8x4352x1 ![] bcast_S_S4x8x4352x1 (constant S_ .f32 0x3F800000#32 : FVec Ideal S_ .f32)⟩,
       ⟨S4x8x4352x63, broadcastInDim S4x8x4352x63 ![] bcast_S_S4x8x4352x63 (constant S_ .f32 0x00000000#32 : FVec Ideal S_ .f32)⟩]
      concatenates_S4x8x4352x64_S4x8x4352x1_S4x8x4352x63_S4x8x4352x128_d3) bitsLt_bf16_f32

variable (m : (ℓ : Loc nD τ sig) → Buf (Elt Ideal) ℓ)

theorem V_q (c : Dev nD) : V m c main_v26 = qArr (m ((c : Thread nD τ).loc main_arg0)) (m ((c : Thread nD τ).loc main_arg1))
    (m ((c : Thread nD τ).loc main_arg2)) := by
  show StableHlo.after hostOps0 (fun b => m (c, b)) (Proc.devRef .tc main_v26) = _
  unfold hostOps0
  after_results
  rfl

theorem V_k (c : Dev nD) : V m c main_v28 = kArr (m ((c : Thread nD τ).loc main_arg3)) (m ((c : Thread nD τ).loc main_arg4))
    (m ((c : Thread nD τ).loc main_arg6)) (m ((c : Thread nD τ).loc main_arg7)) := by
  show StableHlo.after hostOps0 (fun b => m (c, b)) (Proc.devRef .tc main_v28) = _
  unfold hostOps0
  after_results
  rfl

theorem V_v (c : Dev nD) : V m c main_v29 = vArr (m ((c : Thread nD τ).loc main_arg5)) (m ((c : Thread nD τ).loc main_arg8)) := by
  show StableHlo.after hostOps0 (fun b => m (c, b)) (Proc.devRef .tc main_v29) = _
  unfold hostOps0
  after_results
  rfl

/-- The scale without its layout. -/
def κ0 : EReal := Ideal.div 1 (Ideal.sqrt (Ideal.ofBits .f32 0x42C00000#32) * Ideal.log (Ideal.ofBits .f32 0x40000000#32))

theorem qScale_at (i : S_.Idx) : qScale i = κ0 := by
  unfold qScale κ0
  rw [← Ideal.ofBits_one_f32]
  rfl

theorem ofBits_96 : Ideal.ofBits .f32 0x42C00000#32 = ((96 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- The scale is the real number `1 / (√96 · log 2)`. -/
theorem κ0_eq : κ0 = (((Real.sqrt 96 * Real.log 2)⁻¹ : ℝ) : EReal) := by
  unfold κ0
  have hp : 0 < Real.sqrt 96 * Real.log 2 := mul_pos (Real.sqrt_pos.mpr (by norm_num)) (Real.log_pos (by norm_num))
  rw [ofBits_96, ofBits_2, Ideal.sqrt_coe, Ideal.log_coe, if_neg (by norm_num), if_neg (by norm_num), ← EReal.coe_mul]
  unfold Ideal.div
  rw [if_neg (by exact_mod_cast hp.ne'), ← EReal.coe_inv, one_mul]

/-- The products of a row of queries with a row of keys, before any scale. -/
def raw (x0 : FVec Ideal S4x4096x8x64 .f32) (x1 x2 : FVec Ideal S4x4096x8x32 .f32)
    (x3 : FVec Ideal S4x4096x8x64 .f32) (x4 : FVec Ideal S4x4096x32 .f32) (x6 : FVec Ideal S4x256x8x64 .f32)
    (x7 : FVec Ideal S4x256x32 .f32) (b : Fin 4) (h : Fin 8) (i : Fin 4096) (j : Fin 4352) : EReal :=
  if hj : j.val < 4096 then
    ∑ e : Fin 64, x0 (ix4 b i h e) * x3 (ix4 b ⟨j.val, hj⟩ h e) + ∑ e : Fin 32, x1 (ix4 b i h e) * x4 (ix3 b ⟨j.val, hj⟩ e)
  else
    ∑ e : Fin 64, x0 (ix4 b i h e) * x6 (ix4 b ⟨j.val - 4096, by omega⟩ h e)
      + ∑ e : Fin 32, x2 (ix4 b i h e) * x7 (ix3 b ⟨j.val - 4096, by omega⟩ e)

/-- A sum over the 128 lanes is a sum over the first 64, the next 32 and the last 32. -/
theorem cut_lanes (f : Fin 128 → EReal) :
    ∑ e, f e = (∑ e : Fin 64, f ⟨e.val, by omega⟩ + ∑ e : Fin 32, f ⟨64 + e.val, by omega⟩)
      + ∑ e : Fin 32, f ⟨96 + e.val, by omega⟩ := by
  rw [show (∑ e, f e) = _ from Fin.sum_univ_add (a := 96) (b := 32) f,
    show (∑ e : Fin 96, f (Fin.castAdd 32 e)) = _ from Fin.sum_univ_add (a := 64) (b := 32) fun e => f (Fin.castAdd 32 e)]
  rfl

/-- The call's scores are the products times the scale; the lanes of zeros add nothing. -/
theorem scores_eq (x0 : FVec Ideal S4x4096x8x64 .f32) (x1 x2 : FVec Ideal S4x4096x8x32 .f32)
    (x3 : FVec Ideal S4x4096x8x64 .f32) (x4 : FVec Ideal S4x4096x32 .f32) (x6 : FVec Ideal S4x256x8x64 .f32)
    (x7 : FVec Ideal S4x256x32 .f32) (b : Fin 4) (h : Fin 8) (i : Fin 4096) (j : Fin 4352) :
    scores (fun e => qArr x0 x1 x2 (ix4 b h i e)) (fun j e => kArr x3 x4 x6 x7 (ix4 b h j e)) j
      = raw x0 x1 x2 x3 x4 x6 x7 b h i j * (((Real.sqrt 96 * Real.log 2)⁻¹ : ℝ) : EReal) := by
  have hp : (0 : ℝ) ≤ (Real.sqrt 96 * Real.log 2)⁻¹ :=
    (inv_pos.mpr (mul_pos (Real.sqrt_pos.mpr (by norm_num)) (Real.log_pos (by norm_num)))).le
  have hz : ∀ a : EReal, (a * κ0) * 0 = 0 := fun a => mul_zero _
  have hd : ∀ a b : EReal, (a + b) * κ0 = a * κ0 + b * κ0 := fun a b => by
    rw [κ0_eq, EReal.right_distrib_of_nonneg_of_ne_top (EReal.coe_nonneg.mpr hp) (EReal.coe_ne_top _)]
  have hs : ∀ {n : ℕ} (f : Fin n → EReal), (∑ e, f e) * κ0 = ∑ e, f e * κ0 := fun f => by
    rw [κ0_eq]; exact sum_mul_coe _ _ hp
  rw [← κ0_eq]
  unfold scores raw
  by_cases hj : j.val < 4096
  · rw [dif_pos hj, hd, hs, hs]
    pointwise [qArr, kArr, qScale_at, hj]
    rw [cut_lanes]
    rw [add_assoc]
    refine congrArg₂ (· + ·) (Finset.sum_congr rfl fun e _ => ?_) ?_
    · rw [dif_pos e.isLt, dif_pos e.isLt, mul_right_comm]
    refine (congrArg₂ (· + ·) (Finset.sum_congr rfl fun e _ => ?_) (Finset.sum_eq_zero fun e _ => ?_)).trans (add_zero _)
    · have h1 : ¬ 64 + e.val < 64 := by omega
      have h2 : 64 + e.val - 64 < 32 := by omega
      rw [dif_neg h1, dif_neg h1, dif_pos h2, dif_pos h2, mul_right_comm]
      simp only [Nat.add_sub_cancel_left]
    · have h1 : ¬ 96 + e.val < 64 := by omega
      have h2 : ¬ 96 + e.val - 64 < 32 := by omega
      rw [dif_neg h1, dif_neg h1, dif_neg h2, dif_neg h2, mul_zero]
  · rw [dif_neg hj, hd, hs, hs]
    pointwise [qArr, kArr, qScale_at, hj]
    rw [cut_lanes]
    rw [add_assoc]
    refine congrArg₂ (· + ·) (Finset.sum_congr rfl fun e _ => ?_) ?_
    · rw [dif_pos e.isLt, dif_pos e.isLt, mul_right_comm]
    refine (congrArg₂ (· + ·) (Finset.sum_eq_zero fun e _ => ?_) (Finset.sum_congr rfl fun e _ => ?_)).trans (zero_add _)
    · have h1 : ¬ 64 + e.val < 64 := by omega
      have h2 : 64 + e.val - 64 < 32 := by omega
      rw [dif_neg h1, dif_neg h1, dif_pos h2, dif_pos h2, mul_zero]
    · have h1 : ¬ 96 + e.val < 64 := by omega
      have h2 : ¬ 96 + e.val - 64 < 32 := by omega
      have h3 : 96 + e.val - 64 - 32 = e.val := by omega
      rw [dif_neg h1, dif_neg h1, dif_neg h2, dif_neg h2, mul_right_comm]
      simp only [h3]

/-- The values' lanes. -/
theorem vArr_at (x5 : FVec Ideal S4x4096x8x64 .f32) (x8 : FVec Ideal S4x256x8x64 .f32) (b : Fin 4) (h : Fin 8) (j : Fin 4352) (d : Fin 64) :
    vArr x5 x8 (ix4 b h j ⟨d.val, by omega⟩) = if hj : j.val < 4096 then x5 (ix4 b ⟨j.val, hj⟩ h d) else x8 (ix4 b ⟨j.val - 4096, by omega⟩ h d) := by
  pointwise [vArr]

theorem vArr_one (x5 : FVec Ideal S4x4096x8x64 .f32) (x8 : FVec Ideal S4x256x8x64 .f32) (b : Fin 4) (h : Fin 8) (j : Fin 4352) :
    vArr x5 x8 (ix4 b h j 64) = 1 := by
  pointwise [vArr]

end Cert.Attn

end
-- ==== Proof.Ref.lean ====
/- The reference, at an index. -/
module

public import proofs.«01_k».proof.Proof.Entry
public import proofs.«01_k».proof.Proof.Gen.ReferenceIdeal.Read

@[expose] public section

set_option maxRecDepth 16384

noncomputable section

namespace Cert.Attn

open Cert.ReferenceIdeal Cert.ReferenceIdeal.Read Idealize.ShloMosaic

/-- A sum over all the keys is a sum over the sequence's and a sum over the context's. -/
theorem sum_two {m k n : ℕ} (h : m + k = n) (f : Fin n → EReal) :
    ∑ j, f j = ∑ j : Fin m, f ⟨j.val, by omega⟩ + ∑ j : Fin k, f ⟨m + j.val, by omega⟩ := by
  subst h
  exact Fin.sum_univ_add f

variable (x0 : FVec Ideal S4x4096x8x64 .f32) (x1 x2 : FVec Ideal S4x4096x8x32 .f32)
    (x3 : FVec Ideal S4x4096x8x64 .f32) (x4 : FVec Ideal S4x4096x32 .f32) (x5 : FVec Ideal S4x4096x8x64 .f32)
    (x6 : FVec Ideal S4x256x8x64 .f32) (x7 : FVec Ideal S4x256x32 .f32) (x8 : FVec Ideal S4x256x8x64 .f32)

/-- The reference's scores, before the division by `√96`. -/
theorem ref_raw (b : Fin 4) (h : Fin 8) (i : Fin 4096) (j : Fin 4352) :
    val_main_v8 (F := Ideal) x0 x1 x2 x3 x4 x6 x7 (ix4 b h i j) = raw x0 x1 x2 x3 x4 x6 x7 b h i j := by
  unfold raw
  pointwise [val_main_v8, val_main_v7, val_main_v6, val_main_v5, val_main_v4, val_main_v3, val_main_v2, val_main_v1, val_main_v0]
  simp only [mul_comm (x4 _), mul_comm (x7 _)]

/-- The softmax's argument. -/
def arg (b : Fin 4) (h : Fin 8) (i : Fin 4096) (j : Fin 4352) : EReal :=
  Ideal.div (raw x0 x1 x2 x3 x4 x6 x7 b h i j) ((Real.sqrt 96 : ℝ) : EReal)

/-- A value: of the sequence, then of the context. -/
def val (b : Fin 4) (h : Fin 8) (d : Fin 64) (j : Fin 4352) : EReal :=
  if hj : j.val < 4096 then x5 (ix4 b ⟨j.val, hj⟩ h d) else x8 (ix4 b ⟨j.val - 4096, by omega⟩ h d)

theorem ref_arg (b : Fin 4) (h : Fin 8) (i : Fin 4096) (j : Fin 4352) :
    val_main_v11 (F := Ideal) x0 x1 x2 x3 x4 x6 x7 (ix4 b h i j) = arg x0 x1 x2 x3 x4 x6 x7 b h i j := by
  have hd : ∀ y, val_main_v10 (F := Ideal) y = ((Real.sqrt 96 : ℝ) : EReal) := fun y => by
    rw [val_main_v10_apply, val_main_v9_apply]
    show Ideal.sqrt (Ideal.ofBits .f32 0x42C00000#32) = _
    rw [ofBits_96, Ideal.sqrt_coe, if_neg (by norm_num)]
  rw [val_main_v11_apply, ref_raw, hd]
  rfl

theorem ref_max (b : Fin 4) (h : Fin 8) (i : Fin 4096) :
    val_main_v12 (F := Ideal) x0 x1 x2 x3 x4 x6 x7 (ix3 b h i)
      = Finset.univ.sup fun j => arg x0 x1 x2 x3 x4 x6 x7 b h i j := by
  pointwise [val_main_v12, ref_arg, val_main_cst_0]
  rw [ofBits_neg_inf, fold_max_bot]

theorem ref_exp (b : Fin 4) (h : Fin 8) (i : Fin 4096) (j : Fin 4352) :
    val_main_v16 (F := Ideal) x0 x1 x2 x3 x4 x6 x7 (ix4 b h i j)
      = Ideal.exp (arg x0 x1 x2 x3 x4 x6 x7 b h i j - Finset.univ.sup fun j => arg x0 x1 x2 x3 x4 x6 x7 b h i j) := by
  pointwise [val_main_v16, val_main_v15, val_main_v14, val_main_v13, ref_max, ref_arg]

/-- The reference at an index. -/
theorem ref_at (b : Fin 4) (i : Fin 4096) (l : Fin 512) :
    val_main_v30 (F := Ideal) x0 x1 x2 x3 x4 x5 x6 x7 x8 (ix3 b i l)
      = Ideal.div (∑ j, Ideal.exp (arg x0 x1 x2 x3 x4 x6 x7 b ⟨l.val / 64, by omega⟩ i j
            - Finset.univ.sup fun j => arg x0 x1 x2 x3 x4 x6 x7 b ⟨l.val / 64, by omega⟩ i j)
          * val x5 x8 b ⟨l.val / 64, by omega⟩ ⟨l.val % 64, by omega⟩ j)
        (∑ j, Ideal.exp (arg x0 x1 x2 x3 x4 x6 x7 b ⟨l.val / 64, by omega⟩ i j
            - Finset.univ.sup fun j => arg x0 x1 x2 x3 x4 x6 x7 b ⟨l.val / 64, by omega⟩ i j)) := by
  generalize hh : (⟨l.val / 64, by omega⟩ : Fin 8) = h
  generalize hd : (⟨l.val % 64, by omega⟩ : Fin 64) = d
  have hn : val_main_v30 (F := Ideal) x0 x1 x2 x3 x4 x5 x6 x7 x8 (ix3 b i l) = val_main_v28 (F := Ideal) x0 x1 x2 x3 x4 x5 x6 x7 x8 (ix4 b i h d) := by
    rw [← hh, ← hd]
    pointwise [val_main_v30, val_main_v29]
  rw [hn]
  pointwise [val_main_v28, val_main_v27, val_main_v26, val_main_v25, val_main_v24, val_main_v23, val_main_v22, val_main_v21,
    val_main_v20, val_main_v19, val_main_v18, val_main_v17, ref_exp, val_main_cst_1]
  refine congrArg (fun a => Ideal.div a _) ?_
  rw [sum_two (m := 4096) (k := 256) rfl]
  refine congrArg₂ (· + ·) (Finset.sum_congr rfl fun j _ => ?_) (Finset.sum_congr rfl fun j _ => ?_)
  · rw [mul_comm]
    refine congrArg (HMul.hMul (α := EReal) _) ?_
    unfold val
    rw [dif_pos j.isLt]
  · rw [mul_comm]
    refine congrArg (HMul.hMul (α := EReal) _) ?_
    have hj : ¬ 4096 + j.val < 4096 := by omega
    unfold val
    rw [dif_neg hj]
    exact congrArg (fun n : Fin 256 => x8 (ix4 b n h d)) (Fin.ext (Nat.add_sub_cancel_left 4096 j.val).symm)

end Cert.Attn

end
-- ==== Proof.Eq.lean ====
/- The call's result is the reference's. -/
module

public import proofs.«01_k».proof.Proof.Ref

@[expose] public section

set_option maxRecDepth 16384

noncomputable section

namespace Cert.Attn

open Cert.KernelIdeal Cert.KernelIdeal.Gen Idealize.ShloMosaic

variable (x0 : FVec Ideal S4x4096x8x64 .f32) (x1 x2 : FVec Ideal S4x4096x8x32 .f32)
    (x3 : FVec Ideal S4x4096x8x64 .f32) (x4 : FVec Ideal S4x4096x32 .f32) (x5 : FVec Ideal S4x4096x8x64 .f32)
    (x6 : FVec Ideal S4x256x8x64 .f32) (x7 : FVec Ideal S4x256x32 .f32) (x8 : FVec Ideal S4x256x8x64 .f32)

theorem attn_eq (b : Fin 4) (i : Fin 4096) (h : Fin 8) (d : Fin 64) :
    attnOf (qArr x0 x1 x2) (kArr x3 x4 x6 x7) (vArr x5 x8) b i h d
      = Ideal.div (∑ j, Ideal.exp (arg x0 x1 x2 x3 x4 x6 x7 b h i j
            - Finset.univ.sup fun j => arg x0 x1 x2 x3 x4 x6 x7 b h i j) * val x5 x8 b h d j)
        (∑ j, Ideal.exp (arg x0 x1 x2 x3 x4 x6 x7 b h i j
            - Finset.univ.sup fun j => arg x0 x1 x2 x3 x4 x6 x7 b h i j)) := by
  have hs := funext fun j => scores_eq x0 x1 x2 x3 x4 x6 x7 b h i j
  have hv : (fun j : Fin 4352 => vArr x5 x8 (ix4 b h j ⟨d.val, by omega⟩)) = val x5 x8 b h d :=
    funext fun j => (vArr_at x5 x8 b h j d).trans rfl
  have ho : (fun j : Fin 4352 => vArr x5 x8 (ix4 b h j 64)) = fun _ => 1 := funext fun j => vArr_one x5 x8 b h j
  have h96 : (0 : ℝ) < Real.sqrt 96 := Real.sqrt_pos.mpr (by norm_num)
  have h2 : (0 : ℝ) < Real.log 2 := Real.log_pos (by norm_num)
  unfold attnOf attnAt
  rw [hs]
  simp only [hv, ho]
  exact quotient_eq _ _ _ _ (inv_pos.mpr (mul_pos h96 h2)) h96 (by field_simp)

variable (m : (ℓ : Loc nD τ sig) → Buf (Elt Ideal) ℓ)

open Idealize.ShloMosaic.TcCoe Idealize.SL.Sem in
/-- What the call leaves is the reference of the arguments. -/
theorem result_eq (c : Dev nD) :
    (dats m 0 c).arrAt 3 cfg0.N = Cert.ReferenceIdeal.Read.val_main_v30 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  rw [final, V_q, V_k, V_v]
  funext y
  idx_vars y
  rw [ref_at]
  exact attn_eq _ _ _ _ _ _ _ _ _ y0 y1 ⟨y2.val / 64, by omega⟩ ⟨y2.val % 64, by omega⟩

end Cert.Attn

end
-- ==== Proof.InRows.lean ====
/- The in-projection kernel's pieces at an index: the normalised and modulated rows, and their products with the weights. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.InProj

open Cert.Kernel2Ideal Cert.Kernel2Ideal.Gen Idealize.ShloMosaic

/-- The small number under the root of every normalisation. -/
@[irreducible] def eps : EReal := Ideal.ofBits .f32 0x358637BD#32
/-- The lengths of the normalised rows. -/
@[irreducible] def n1024 : EReal := Ideal.ofBits .f32 0x44800000#32
@[irreducible] def n384 : EReal := Ideal.ofBits .f32 0x43C00000#32
@[irreducible] def n256 : EReal := Ideal.ofBits .f32 0x43800000#32

theorem ofBits_eps : Ideal.ofBits .f32 0x358637BD#32 = eps := by unfold eps; rfl
theorem ofBits_1024 : Ideal.ofBits .f32 0x44800000#32 = n1024 := by unfold n1024; rfl
theorem ofBits_384 : Ideal.ofBits .f32 0x43C00000#32 = n384 := by unfold n384; rfl
theorem ofBits_256 : Ideal.ofBits .f32 0x43800000#32 = n256 := by unfold n256; rfl

/-- A row over the root of its mean square, times the gains. -/
def rms {d : ℕ} (n : EReal) (x g : Fin d → EReal) (k : Fin d) : EReal :=
  x k * Ideal.rsqrt (Ideal.div (∑ e, x e * x e) n + eps) * g k

/-- A normalised row with its scale and shift. -/
def modRow (x g sh sc : Fin 1024 → EReal) (k : Fin 1024) : EReal := rms n1024 x g k * (1 + sc k) + sh k

theorem pay2_at (v : Vec Ideal S1x1x1x1x1024 .f32) (k : Fin 1024) : k0_pay2 v (ix2 0 k) = v (ix5 0 0 0 0 k) := by
  pointwise [k0_pay2]

theorem pay3_at (v : Vec Ideal S1x1x1x1x1024 .f32) (k : Fin 1024) : k0_pay3 v (ix2 0 k) = v (ix5 0 0 0 0 k) := by
  pointwise [k0_pay3]

theorem pay4_at (v0 v2 : Vec Ideal S1x1x1x1x1024 .f32) (v4 : Vec Ideal S1x256x1024 .f32) (v6 : Vec Ideal S1x1x1024 .f32)
    (r : Fin 256) (k : Fin 1024) :
    k0_pay4 v0 v2 v4 v6 (ix2 r k) = modRow (fun e => v4 (ix3 0 r e)) (fun e => v6 (ix3 0 0 e)) (fun e => v0 (ix5 0 0 0 0 e))
      (fun e => v2 (ix5 0 0 0 0 e)) k := by
  unfold modRow rms
  pointwise [k0_pay4, pay2_at, pay3_at, ofBits_eps, ofBits_1024]

theorem pay5_at (v0 v2 : Vec Ideal S1x1x1x1x1024 .f32) (v4 : Vec Ideal S1x256x1024 .f32) (v6 : Vec Ideal S1x1x1024 .f32)
    (v27 : Vec Ideal S1x1024x1536 .bf16) (r : Fin 256) (j : Fin 1536) :
    k0_pay5 v0 v2 v4 v6 v27 (ix2 r j) = ∑ k, modRow (fun e => v4 (ix3 0 r e)) (fun e => v6 (ix3 0 0 e))
      (fun e => v0 (ix5 0 0 0 0 e)) (fun e => v2 (ix5 0 0 0 0 e)) k * v27 (ix3 0 k j) := by
  pointwise [k0_pay5, pay4_at]

theorem pay6_at (v1 v3 : FVec Ideal S1x1024 .f32) (v30 v32 : Vec Ideal S1x8x1024 .f32) (v35 : Vec Ideal S1x1x1024 .f32)
    (v56 : Vec Ideal S1x1024x1536 .bf16) (j : Fin 1536) :
    k0_pay6 v1 v3 v30 v32 v35 v56 (ix2 7 j) = ∑ k, modRow (fun e => v30 (ix3 0 7 e)) (fun e => v35 (ix3 0 0 e))
      (fun e => v1 (ix2 0 e)) (fun e => v3 (ix2 0 e)) k * v56 (ix3 0 k j) := by
  unfold modRow rms
  pointwise [k0_pay6, ofBits_eps, ofBits_1024]

theorem pay6_at' (v1 v3 : FVec Ideal S1x1024 .f32) (v30 v32 : Vec Ideal S1x8x1024 .f32) (v35 : Vec Ideal S1x1x1024 .f32)
    (v56 : Vec Ideal S1x1024x1536 .bf16) (j : Fin 1536) :
    k0_pay6 v1 v3 v30 v32 v35 v56 (ix2 8 j) = ∑ k, modRow (fun e => v32 (ix3 0 0 e)) (fun e => v35 (ix3 0 0 e))
      (fun e => v1 (ix2 0 e)) (fun e => v3 (ix2 0 e)) k * v56 (ix3 0 k j) := by
  unfold modRow rms
  pointwise [k0_pay6, ofBits_eps, ofBits_1024]

/-- A choice by a tested bit is a choice by the test. -/
theorem select_of {α : Type} (p : Prop) [Decidable p] (c : BitVec 1) (h : c = if p then 1#1 else 0#1) (a b : α) :
    Scalar.select c a b = if p then a else b := by
  subst h
  by_cases hp : p
  · rw [if_pos hp, if_pos hp]; rfl
  · rw [if_neg hp, if_neg hp]; rfl

theorem starts_eq : ∀ n : Fin 17, Scalar.ori (Scalar.cmpi .eq (BitVec.ofNat 32 n.val) 0#32)
    (Scalar.cmpi .eq (BitVec.ofNat 32 n.val) 16#32) = if n.val = 0 ∨ n.val = 16 then 1#1 else 0#1 := by decide +kernel
theorem ends_eq : ∀ n : Fin 17, Scalar.ori (Scalar.cmpi .eq (BitVec.ofNat 32 n.val) 15#32)
    (Scalar.cmpi .eq (BitVec.ofNat 32 n.val) 16#32) = if n.val = 15 ∨ n.val = 16 then 1#1 else 0#1 := by decide +kernel
theorem first_eq : ∀ r : Fin 256, IntOp.cmpi .eq (BitVec.ofNat 32 r.val) 0#32 = if r.val = 0 then 1#1 else 0#1 := by
  decide +kernel
theorem last_eq : ∀ r : Fin 256, IntOp.cmpi .eq (BitVec.ofNat 32 r.val) 255#32 = if r.val = 255 then 1#1 else 0#1 := by
  decide +kernel

/-- The product of the row before the tile, or zero where a stream starts. -/
theorem pay7_at (n : Fin 17) (v1 v3 : FVec Ideal S1x1024 .f32) (v30 v32 : Vec Ideal S1x8x1024 .f32) (v35 : Vec Ideal S1x1x1024 .f32)
    (v56 : Vec Ideal S1x1024x1536 .bf16) (j : Fin 1536) :
    k0_pay7 (BitVec.ofNat 32 n.val) v1 v3 v30 v32 v35 v56 (ix2 0 j)
      = if n.val = 0 ∨ n.val = 16 then 0 else k0_pay6 v1 v3 v30 v32 v35 v56 (ix2 7 j) := by
  pointwise [k0_pay7]
  exact select_of _ _ (starts_eq n) _ _

/-- The product of the row after the tile, or zero where a stream ends. -/
theorem pay8_at (n : Fin 17) (v1 v3 : FVec Ideal S1x1024 .f32) (v30 v32 : Vec Ideal S1x8x1024 .f32) (v35 : Vec Ideal S1x1x1024 .f32)
    (v56 : Vec Ideal S1x1024x1536 .bf16) (j : Fin 1536) :
    k0_pay8 (BitVec.ofNat 32 n.val) v1 v3 v30 v32 v35 v56 (ix2 0 j)
      = if n.val = 15 ∨ n.val = 16 then 0 else k0_pay6 v1 v3 v30 v32 v35 v56 (ix2 8 j) := by
  pointwise [k0_pay8]
  exact select_of _ _ (ends_eq n) _ _

/-- The short convolution of a tile. -/
theorem pay9_at (v29 : FVec Ideal S256x1536 .f32) (v67 v70 : FVec Ideal S1x1536 .f32) (v88 : Vec Ideal S1x3x1536 .f32)
    (v90 : Vec Ideal S1x1x1536 .f32) (r : Fin 256) (j : Fin 1536) :
    k0_pay9 v29 v67 v70 v88 v90 (ix3 0 r j)
      = v90 (ix3 0 0 j) + (if h : r.val = 0 then v67 (ix2 0 j) else v29 (ix2 ⟨r.val - 1, by omega⟩ j)) * v88 (ix3 0 0 j)
        + v29 (ix2 r j) * v88 (ix3 0 1 j)
        + (if h : r.val = 255 then v70 (ix2 0 j) else v29 (ix2 ⟨r.val + 1, by omega⟩ j)) * v88 (ix3 0 2 j) := by
  pointwise [k0_pay9]
  rw [select_of _ _ (first_eq r), select_of _ _ (last_eq r)]
  have ha : (if r.val = 0 then v67 (ix2 0 j) else v29 (ix2 ⟨(r.val + 256 - 1) % 256, by omega⟩ j))
      = if h : r.val = 0 then v67 (ix2 0 j) else v29 (ix2 ⟨r.val - 1, by omega⟩ j) := by
    by_cases h : r.val = 0
    · rw [if_pos h, dif_pos h]
    · rw [if_neg h, dif_neg h]
      exact congrArg (fun i => v29 (ix2 i j)) (Fin.ext (by show (r.val + 256 - 1) % 256 = r.val - 1; omega))
  have hb : (if r.val = 255 then v70 (ix2 0 j) else v29 (ix2 ⟨(r.val + 256 - 255) % 256, by omega⟩ j))
      = if h : r.val = 255 then v70 (ix2 0 j) else v29 (ix2 ⟨r.val + 1, by omega⟩ j) := by
    by_cases h : r.val = 255
    · rw [if_pos h, dif_pos h]
    · rw [if_neg h, dif_neg h]
      exact congrArg (fun i => v29 (ix2 i j)) (Fin.ext (by show (r.val + 256 - 255) % 256 = r.val + 1; omega))
  rw [ha, hb]

theorem pay11_at (u : FVec Ideal S256x1024 .bf16) (w : Vec Ideal S1x1024x2048 .bf16) (r : Fin 256) (j : Fin 2048) :
    k0_pay11 (k0_pay10 u w) (ix3 0 r j) = Ideal.logistic (∑ k : Fin 1024, u (ix2 r k) * w (ix3 0 k j)) := by
  pointwise [k0_pay11, k0_pay10]

theorem pay16_at (u : FVec Ideal S256x1024 .bf16) (w : Vec Ideal S1x1024x384 .bf16) (g : Vec Ideal S1x1x384 .f32) (r : Fin 256)
    (e : Fin 384) :
    k0_pay16 u w g (ix2 r e) = rms n384 (fun e => ∑ k : Fin 1024, u (ix2 r k) * w (ix3 0 k e)) (fun e => g (ix3 0 0 e)) e := by
  unfold rms
  pointwise [k0_pay16, ofBits_eps, ofBits_384]

theorem pay18_at (cq : FVec Ideal S256x384 .bf16) (w : Vec Ideal S1x384x1024 .bf16) (r : Fin 256) (j : Fin 1024) :
    k0_pay18 cq (k0_pay17 w) (ix2 r j) = ∑ e : Fin 384, cq (ix2 r e) * w (ix3 0 e j) := by
  pointwise [k0_pay18, k0_pay17]

theorem pay19_at (cq : FVec Ideal S256x384 .bf16) (w : Vec Ideal S1x384x1024 .bf16) (r : Fin 256) (j : Fin 1024) :
    k0_pay19 cq w (ix2 r j) = ∑ e : Fin 384, cq (ix2 r e) * w (ix3 0 e j) := by
  pointwise [k0_pay19]

theorem pay20_at (u : FVec Ideal S256x1024 .bf16) (w : Vec Ideal S1x1024x256 .bf16) (g : Vec Ideal S1x1x256 .f32) (r : Fin 256)
    (e : Fin 256) :
    k0_pay20 u w g (ix2 r e) = rms n256 (fun e => ∑ k : Fin 1024, u (ix2 r k) * w (ix3 0 k e)) (fun e => g (ix3 0 0 e)) e := by
  unfold rms
  pointwise [k0_pay20, ofBits_eps, ofBits_256]

theorem pay21_at (u : FVec Ideal S256x1024 .bf16) (w : Vec Ideal S1x1024x256 .bf16) (g : Vec Ideal S1x1x256 .f32)
    (w' : Vec Ideal S1x256x1024 .bf16) (r : Fin 256) (j : Fin 1024) :
    k0_pay21 u w g w' (ix2 r j) = ∑ e : Fin 256, k0_pay20 u w g (ix2 r e) * w' (ix3 0 e j) := by
  pointwise [k0_pay21]

theorem pay22_at (u : FVec Ideal S256x1024 .bf16) (w : Vec Ideal S1x1024x256 .bf16) (g : Vec Ideal S1x1x256 .f32)
    (w' : Vec Ideal S1x256x1024 .bf16) (r : Fin 256) (j : Fin 1024) :
    k0_pay22 u w g w' (ix2 r j) = ∑ e : Fin 256, k0_pay20 u w g (ix2 r e) * w' (ix3 0 e j) := by
  pointwise [k0_pay22]

theorem pay23_at (u : FVec Ideal S256x1024 .bf16) (w : Vec Ideal S1x1024x256 .bf16) (r : Fin 256) (j : Fin 256) :
    k0_pay23 u w (ix2 r j) = ∑ k : Fin 1024, u (ix2 r k) * w (ix3 0 k j) := by
  pointwise [k0_pay23]

/-- The shared part of a tile's keys. -/
theorem pay25_at (u : FVec Ideal S256x1024 .bf16) (w : Vec Ideal S1x1024x256 .bf16) (ck sk : Vec Ideal S1x256x128 .f32)
    (r : Fin 256) (l : Fin 128) :
    k0_pay25 (k0_pay15 sk) (k0_pay23 u w) (k0_pay24 u (k0_pay14 ck) w) (ix2 r l)
      = k0_pay23 u w (ix2 r ⟨l.val, by omega⟩) * ck (ix3 0 r l) + k0_pay23 u w (ix2 r ⟨128 + l.val, by omega⟩) * sk (ix3 0 r l) := by
  pointwise [k0_pay25, k0_pay24, k0_pay14, k0_pay15]

theorem lane_eq : ∀ l : Fin 128, BitVec.setWidth 32 (IntOp.cmpi .eq (BitVec.ofNat 32 l.val) 64#32)
    = if l.val = 64 then 1#32 else 0#32 := by decide +kernel

theorem pay26_at (l : Fin 128) : k0_pay26 (F := Ideal) (ix2 0 l) = if l.val = 64 then 1 else 0 := by
  pointwise [k0_pay26]
  rw [lane_eq]
  by_cases h : l.val = 64
  · rw [if_pos h, if_pos h]; show (((1 : ℤ) : ℝ) : EReal) = 1; simp
  · rw [if_neg h, if_neg h]; show (((0 : ℤ) : ℝ) : EReal) = 0; simp

end Cert.InProj

end
-- ==== Proof.InBlocks.lean ====
/- One tile of each of the in-projection kernel's results, at an index, from the blocks that the tile reads. -/
module

public import proofs.«01_k».proof.Proof.InRows

@[expose] public section

set_option maxRecDepth 16384

noncomputable section

namespace Cert.InProj

open Cert.Kernel2Ideal Cert.Kernel2Ideal.Gen Idealize.ShloMosaic

/-- A row times a matrix. -/
def mul {a b : ℕ} (u : Fin a → EReal) (w : Fin a → Fin b → EReal) (j : Fin b) : EReal := ∑ k, u k * w k j

theorem mul_col {a b : ℕ} (u : Fin a → EReal) (w : Fin a → Fin b → EReal) (j j' : Fin b) (h : j.val = j'.val) :
    mul u w j = mul u w j' := congrArg (mul u w) (Fin.ext h)

/-- The first head's keys. -/
def firstKeys (f : FVec Ideal S256x1024 .f32) (s : FVec Ideal S256x128 .f32) : FVec Ideal S1x1x256x128 .bf16 :=
  shapeCast S1x1x256x128 (truncf .bf16 (addf (extractStridedSlice S256x128 ![0, 0] f slices_S256x1024_o0_0_S256x128) s)
    bitsLt_bf16_f32) shapeCasts_S256x128_S1x1x256x128

/-- A head's lane among the columns of all the heads. -/
abbrev col (h : Fin 8) (l : Fin 128) : Fin 1024 := ⟨h.val * 128 + l.val, by omega⟩

variable (i : grid0.Coords) (x0 : Vec Ideal S1x256x1024 .f32) (x1 x2 : Vec Ideal S1x8x1024 .f32)
  (x3 : Vec Ideal S1x1x1x6x1024 .f32) (x4 : Vec Ideal S1x1x1024 .f32) (x5 : Vec Ideal S4x256x128 .f32)
  (x6 : Vec Ideal S1x1x384 .f32) (x7 : Vec Ideal S1x1x256 .f32) (x8 : Vec Ideal S1x3x1536 .f32)
  (x9 : Vec Ideal S1x1x1536 .f32) (x10 : Vec Ideal S1x1024x1536 .bf16) (x11 : Vec Ideal S1x1024x2048 .bf16)
  (x12 : Vec Ideal S1x1024x384 .bf16) (x13 x14 : Vec Ideal S1x1024x256 .bf16) (x15 x16 : Vec Ideal S1x384x1024 .bf16)
  (x17 x18 : Vec Ideal S1x256x1024 .bf16)

/-- A modulated row, from the blocks of gains, shifts and scales. -/
def rowB (x : Fin 1024 → EReal) (k : Fin 1024) : EReal :=
  modRow x (fun e => x4 (ix3 0 0 e)) (fun e => x3 (ix5 0 0 0 0 e)) (fun e => x3 (ix5 0 0 0 1 e)) k

/-- The tile's modulated rows. -/
def uB (r : Fin 256) (k : Fin 1024) : EReal := rowB x3 x4 (fun e => x0 (ix3 0 r e)) k

theorem pay55_at (r : Fin 256) (k : Fin 1024) :
    k0_pay55 i x0 x1 x2 x3 x4 x5 x6 x7 x8 x9 x10 x11 x12 x13 x14 x15 x16 x17 x18 (ix2 r k) = uB x0 x3 x4 r k := by
  unfold uB rowB k0_pay55
  rw [pay4_at]
  congr 1 <;> funext e <;> pointwise []

/-- The tile's query latents. -/
def cqB (r : Fin 256) (e : Fin 384) : EReal :=
  rms n384 (mul (uB x0 x3 x4 r) fun k e => x12 (ix3 0 k e)) (fun e => x6 (ix3 0 0 e)) e

/-- The tile's key and value latents. -/
def ckvB (r : Fin 256) (e : Fin 256) : EReal :=
  rms n256 (mul (uB x0 x3 x4 r) fun k e => x13 (ix3 0 k e)) (fun e => x7 (ix3 0 0 e)) e

theorem pay59_at (r : Fin 256) (e : Fin 384) :
    k0_pay59 i x0 x1 x2 x3 x4 x5 x6 x7 x8 x9 x10 x11 x12 x13 x14 x15 x16 x17 x18 (ix2 r e) = cqB x0 x3 x4 x6 x12 r e := by
  unfold k0_pay59 cqB mul
  rw [pay16_at]
  simp only [pay55_at]
  congr 1 <;> funext e <;> pointwise []

theorem pay60_at (r : Fin 256) (j : Fin 1024) :
    k0_pay60 i x0 x1 x2 x3 x4 x5 x6 x7 x8 x9 x10 x11 x12 x13 x14 x15 x16 x17 x18 (ix2 r j)
      = mul (cqB x0 x3 x4 x6 x12 r) (fun e j => x15 (ix3 0 e j)) j := by
  unfold k0_pay60 mul
  rw [pay18_at]
  simp only [pay59_at]
  pointwise []

theorem pay61_at (r : Fin 256) (j : Fin 1024) :
    k0_pay61 i x0 x1 x2 x3 x4 x5 x6 x7 x8 x9 x10 x11 x12 x13 x14 x15 x16 x17 x18 (ix2 r j)
      = mul (cqB x0 x3 x4 x6 x12 r) (fun e j => x16 (ix3 0 e j)) j := by
  unfold k0_pay61 mul
  rw [pay19_at]
  simp only [pay59_at]
  pointwise []

theorem pay20B_at (r : Fin 256) (e : Fin 256) :
    k0_pay20 (k0_pay55 i x0 x1 x2 x3 x4 x5 x6 x7 x8 x9 x10 x11 x12 x13 x14 x15 x16 x17 x18) (View.ld x13 r0_18) (View.ld x7 r0_19)
      (ix2 r e) = ckvB x0 x3 x4 x7 x13 r e := by
  unfold ckvB mul
  rw [pay20_at]
  simp only [pay55_at]
  congr 1 <;> funext e <;> pointwise []

theorem pay62_at (r : Fin 256) (j : Fin 1024) :
    k0_pay62 i x0 x1 x2 x3 x4 x5 x6 x7 x8 x9 x10 x11 x12 x13 x14 x15 x16 x17 x18 (ix2 r j)
      = mul (ckvB x0 x3 x4 x7 x13 r) (fun e j => x17 (ix3 0 e j)) j := by
  unfold k0_pay62 mul
  rw [pay21_at]
  simp only [pay20B_at]
  pointwise []

theorem pay63_at (r : Fin 256) (j : Fin 1024) :
    k0_pay63 i x0 x1 x2 x3 x4 x5 x6 x7 x8 x9 x10 x11 x12 x13 x14 x15 x16 x17 x18 (ix2 r j)
      = mul (ckvB x0 x3 x4 x7 x13 r) (fun e j => x18 (ix3 0 e j)) j := by
  unfold k0_pay63 mul
  rw [pay22_at]
  simp only [pay20B_at]
  pointwise []

theorem pay64_at (r : Fin 256) (j : Fin 256) :
    k0_pay64 i x0 x1 x2 x3 x4 x5 x6 x7 x8 x9 x10 x11 x12 x13 x14 x15 x16 x17 x18 (ix2 r j)
      = mul (uB x0 x3 x4 r) (fun k j => x14 (ix3 0 k j)) j := by
  unfold k0_pay64 mul
  rw [pay23_at]
  simp only [pay55_at]
  pointwise []

/-- The part of a tile's keys that the heads share. -/
def krB (r : Fin 256) (l : Fin 128) : EReal :=
  mul (uB x0 x3 x4 r) (fun k j => x14 (ix3 0 k j)) ⟨l.val, by omega⟩ * x5 (ix3 2 r l)
    + mul (uB x0 x3 x4 r) (fun k j => x14 (ix3 0 k j)) ⟨128 + l.val, by omega⟩ * x5 (ix3 3 r l)

theorem pay66_at (r : Fin 256) (l : Fin 128) :
    k0_pay66 i x0 x1 x2 x3 x4 x5 x6 x7 x8 x9 x10 x11 x12 x13 x14 x15 x16 x17 x18 (ix2 r l) = krB x0 x3 x4 x5 x14 r l := by
  have e : k0_pay66 i x0 x1 x2 x3 x4 x5 x6 x7 x8 x9 x10 x11 x12 x13 x14 x15 x16 x17 x18
      = k0_pay25 (k0_pay15 (View.ld x5 r0_14)) (k0_pay64 i x0 x1 x2 x3 x4 x5 x6 x7 x8 x9 x10 x11 x12 x13 x14 x15 x16 x17 x18)
        (k0_pay24 (k0_pay55 i x0 x1 x2 x3 x4 x5 x6 x7 x8 x9 x10 x11 x12 x13 x14 x15 x16 x17 x18) (k0_pay14 (View.ld x5 r0_13))
          (View.ld x14 r0_18)) := rfl
  rw [e]
  unfold k0_pay64
  rw [pay25_at]
  have e' : k0_pay23 (k0_pay55 i x0 x1 x2 x3 x4 x5 x6 x7 x8 x9 x10 x11 x12 x13 x14 x15 x16 x17 x18) (View.ld x14 r0_18)
      = k0_pay64 i x0 x1 x2 x3 x4 x5 x6 x7 x8 x9 x10 x11 x12 x13 x14 x15 x16 x17 x18 := rfl
  rw [e', pay64_at, pay64_at]
  unfold krB
  pointwise []

/-- The queries of a tile. -/
theorem out21_at (h : Fin 8) (r : Fin 256) (l : Fin 128) :
    out0_21 i x0 x1 x2 x3 x4 x5 x6 x7 x8 x9 x10 x11 x12 x13 x14 x15 x16 x17 x18 (ix4 0 h r l)
      = mul (cqB x0 x3 x4 x6 x12 r) (fun e j => x15 (ix3 0 e j)) (col h l) * x5 (ix3 0 r l)
        + mul (cqB x0 x3 x4 x6 x12 r) (fun e j => x16 (ix3 0 e j)) (col h l) * x5 (ix3 1 r l) := by
  canon_tiles p q
  all_goals
    idx_vars p
    pointwise [q1, q2, q3, k0_pay50, k0_pay47, k0_pay46, k0_pay43, k0_pay39, k0_pay36, k0_pay33, k0_pay30, k0_pay27, pay60_at,
      pay61_at, k0_pay56, k0_pay57, k0_pay12, k0_pay13]
    obtain rfl : r = p2 := Fin.ext q2
    obtain rfl : l = p3 := Fin.ext q3
    congr 2 <;> exact mul_col _ _ _ _ (by simp only; omega)

/-- The keys of a tile. -/
theorem out22_at (h : Fin 8) (r : Fin 256) (l : Fin 128) :
    out0_22 i x0 x1 x2 x3 x4 x5 x6 x7 x8 x9 x10 x11 x12 x13 x14 x15 x16 x17 x18 (ix4 0 h r l)
      = mul (ckvB x0 x3 x4 x7 x13 r) (fun e j => x17 (ix3 0 e j)) (col h l) + krB x0 x3 x4 x5 x14 r l := by
  have e : ∀ f, k0_pay28 (k0_pay58 i x0 x1 x2 x3 x4 x5 x6 x7 x8 x9 x10 x11 x12 x13 x14 x15 x16 x17 x18) f
      (k0_pay64 i x0 x1 x2 x3 x4 x5 x6 x7 x8 x9 x10 x11 x12 x13 x14 x15 x16 x17 x18)
      (k0_pay65 i x0 x1 x2 x3 x4 x5 x6 x7 x8 x9 x10 x11 x12 x13 x14 x15 x16 x17 x18)
      = firstKeys f (k0_pay66 i x0 x1 x2 x3 x4 x5 x6 x7 x8 x9 x10 x11 x12 x13 x14 x15 x16 x17 x18) := fun _ => rfl
  canon_tiles p q
  all_goals
    idx_vars p
    try rw [e]
    pointwise [q1, q2, q3, k0_pay51, k0_pay48, k0_pay44, k0_pay41, k0_pay40, k0_pay37, k0_pay34, k0_pay31, firstKeys, pay62_at,
      pay66_at]
    obtain rfl : r = p2 := Fin.ext q2
    obtain rfl : l = p3 := Fin.ext q3
    congr 1; exact mul_col _ _ _ _ (by simp only; omega)

/-- The values of a tile. -/
theorem out23_at (h : Fin 8) (r : Fin 256) (l : Fin 128) :
    out0_23 i x0 x1 x2 x3 x4 x5 x6 x7 x8 x9 x10 x11 x12 x13 x14 x15 x16 x17 x18 (ix4 0 h r l)
      = mul (ckvB x0 x3 x4 x7 x13 r) (fun e j => x18 (ix3 0 e j)) (col h l) + if l.val = 64 then 1 else 0 := by
  canon_tiles p q
  all_goals
    idx_vars p
    pointwise [q1, q2, q3, k0_pay52, k0_pay1, k0_pay49, k0_pay45, k0_pay42, k0_pay38, k0_pay35, k0_pay32, k0_pay29, pay63_at,
      k0_pay67, pay26_at]
    obtain rfl : r = p2 := Fin.ext q2
    obtain rfl : l = p3 := Fin.ext q3
    congr 1; exact mul_col _ _ _ _ (by simp only; omega)

/-- The gates of a tile. -/
theorem out20_at (r : Fin 256) (j : Fin 2048) :
    out0_20 i x0 x1 x2 x3 x4 x5 x6 x7 x8 x9 x10 x11 x12 x13 x14 x15 x16 x17 x18 (ix3 0 r j)
      = Ideal.logistic (mul (uB x0 x3 x4 r) (fun k j => x11 (ix3 0 k j)) j) := by
  unfold out0_20
  rw [View.canon_unit_zero (by decide), pay11_at]
  unfold mul
  simp only [pay55_at]
  pointwise []

/-- The short convolution of a tile. -/
theorem out19_at (n : Fin 17) (hn : (i 1).val = n.val) (r : Fin 256) (j : Fin 1536) :
    out0_19 i x0 x1 x2 x3 x4 x5 x6 x7 x8 x9 x10 x11 x12 x13 x14 x15 x16 x17 x18 (ix3 0 r j)
      = x9 (ix3 0 0 j)
        + (if _h : r.val = 0 then if n.val = 0 ∨ n.val = 16 then 0
              else mul (rowB x3 x4 fun e => x1 (ix3 0 7 e)) (fun k j => x10 (ix3 0 k j)) j
            else mul (uB x0 x3 x4 ⟨r.val - 1, by omega⟩) (fun k j => x10 (ix3 0 k j)) j) * x8 (ix3 0 0 j)
        + mul (uB x0 x3 x4 r) (fun k j => x10 (ix3 0 k j)) j * x8 (ix3 0 1 j)
        + (if h : r.val = 255 then if n.val = 15 ∨ n.val = 16 then 0
              else mul (rowB x3 x4 fun e => x2 (ix3 0 0 e)) (fun k j => x10 (ix3 0 k j)) j
            else mul (uB x0 x3 x4 ⟨r.val + 1, by omega⟩) (fun k j => x10 (ix3 0 k j)) j) * x8 (ix3 0 2 j) := by
  unfold out0_19 k0_pay53 k0_pay54
  rw [View.canon_unit_zero (by decide), pay9_at, hn, pay7_at, pay8_at]
  rw [pay6_at, pay6_at']
  simp only [pay5_at, pay2_at, pay3_at]
  unfold mul uB rowB
  pointwise []

end Cert.InProj

end
-- ==== Proof.InWeights.lean ====
/- The rows, modulations and weights that the in-projection's host lines lay out, at an index. -/
module

public import proofs.«01_k».proof.Proof.InBlocks

@[expose] public section

set_option maxRecDepth 16384

noncomputable section

namespace Cert.InProj

open Cert.Kernel2Ideal Cert.Kernel2Ideal.Gen Idealize.ShloMosaic Idealize.ShloMosaic.TcCoe Idealize.SL.Sem

/-- Zeros. -/
def zeros (s : Shape) (h : S_.BroadcastsInDim s (![] : Fin 0 → Fin s.rank)) : FVec Ideal s .f32 :=
  broadcastInDim s ![] h (constant S_ .f32 0x00000000#32)

/-- The exchange of the two halves of each rotary axis, as the host lines index it. -/
def swapIdx : IVec S32x1 32 :=
  broadcastInDim S32x1 ![0] bcast_S32_S32x1_0 (select (constantI S32 1 0#1)
    (addi (fun i => lit0 (S32.rowMajor i)) (broadcastInDim S32 ![] bcast_S_S32 (constantI S_ 32 32#32)))
    (fun i => lit0 (S32.rowMajor i)))

/-- The rotary lane that a lane is exchanged with. -/
def swap (p : Fin 32) : Fin 32 := ⟨p.val / 16 * 16 + (p.val + 8) % 16, by omega⟩

theorem swapIdx_at : ∀ p : Fin 32, min (swapIdx (ix2 p 0)).toInt.toNat 31 = (swap p).val := by decide +kernel

theorem gatherK_at (x : FVec Ideal S4x1024x32 .f32) (a : Fin 4) (k : Fin 1024) (p : Fin 32) :
    Host.gather gather_S4x1024x32_S32x1_S4x1024x32_01_2_n_n_2_1_410241 x swapIdx (ix3 a k p) = x (ix3 a k (swap p)) := by
  unfold Host.gather
  congr 1
  funext b
  refine Fin.ext ?_
  show GatherDims.start _ _ swapIdx b + GatherDims.batchCoord _ _ b + GatherDims.offCoord _ _ b = _
  match b with
  | 0 => exact Nat.zero_add _
  | 1 => exact Nat.zero_add _
  | 2 => exact swapIdx_at p

theorem gatherQ_at (x : FVec Ideal S4x384x8x32 .f32) (a : Fin 4) (e : Fin 384) (h : Fin 8) (p : Fin 32) :
    Host.gather gather_S4x384x8x32_S32x1_S4x384x8x32_012_3_n_n_3_1_438481 x swapIdx (ix4 a e h p) = x (ix4 a e h (swap p)) := by
  unfold Host.gather
  congr 1
  funext b
  refine Fin.ext ?_
  show GatherDims.start _ _ swapIdx b + GatherDims.batchCoord _ _ b + GatherDims.offCoord _ _ b = _
  match b with
  | 0 => exact Nat.zero_add _
  | 1 => exact Nat.zero_add _
  | 2 => exact Nat.zero_add _
  | 3 => exact swapIdx_at p

/-- The columns of the projection's weights from `o` on. -/
def wCols (x4 : FVec Ideal S4x1024x4256 .f32) (n o : ℕ) (h : S4x1024x4256.Slices ![0, 0, o] ⟨3, ![4, 1024, n]⟩) :
    FVec Ideal ⟨3, ![4, 1024, n]⟩ .bf16 :=
  truncf .bf16 (extractStridedSlice ⟨3, ![4, 1024, n]⟩ ![0, 0, o] x4 h) bitsLt_bf16_f32

/-- The rotary keys' weights: once where the queries' lanes meet them, and once with the halves exchanged. -/
def wkrArr (x4 : FVec Ideal S4x1024x4256 .f32) : FVec Ideal S4x1024x256 .bf16 :=
  truncf .bf16 (concatenate S4x1024x256 2
    [⟨S4x1024x64, zeros S4x1024x64 bcast_S_S4x1024x64⟩,
     ⟨S4x1024x32, extractStridedSlice S4x1024x32 ![0, 0, 2176] x4 slices_S4x1024x4256_S4x1024x32_0_0_2176⟩,
     ⟨S4x1024x32, extractStridedSlice S4x1024x32 ![0, 0, 2176] x4 slices_S4x1024x4256_S4x1024x32_0_0_2176⟩,
     ⟨S4x1024x64, zeros S4x1024x64 bcast_S_S4x1024x64⟩,
     ⟨S4x1024x32, Host.gather gather_S4x1024x32_S32x1_S4x1024x32_01_2_n_n_2_1_410241
        (extractStridedSlice S4x1024x32 ![0, 0, 2176] x4 slices_S4x1024x4256_S4x1024x32_0_0_2176) swapIdx⟩,
     ⟨S4x1024x32, zeros S4x1024x32 bcast_S_S4x1024x32⟩]
    concatenates_S4x1024x64_S4x1024x32_S4x1024x32_S4x1024x64_S4x1024x32_S4x1024x32_S4x1024x256_d2) bitsLt_bf16_f32

/-- The queries' weights by heads. -/
def wuqH (x7 : FVec Ideal S4x384x768 .f32) : FVec Ideal S4x384x8x96 .f32 := shapeCast S4x384x8x96 x7 shapeCasts_S4x384x768_S4x384x8x96

def wuqR (x7 : FVec Ideal S4x384x768 .f32) : FVec Ideal S4x384x8x32 .f32 :=
  extractStridedSlice S4x384x8x32 ![0, 0, 0, 64] (wuqH x7) slices_S4x384x8x96_S4x384x8x32_0_0_0_64

def wuqArr (x7 : FVec Ideal S4x384x768 .f32) : FVec Ideal S4x384x1024 .bf16 :=
  truncf .bf16 (shapeCast S4x384x1024 (concatenate S4x384x8x128 3 [⟨S4x384x8x96, wuqH x7⟩, ⟨S4x384x8x32, wuqR x7⟩]
    concatenates_S4x384x8x96_S4x384x8x32_S4x384x8x128_d3) shapeCasts_S4x384x8x128_S4x384x1024) bitsLt_bf16_f32

def wuqsArr (x7 : FVec Ideal S4x384x768 .f32) : FVec Ideal S4x384x1024 .bf16 :=
  truncf .bf16 (shapeCast S4x384x1024 (concatenate S4x384x8x128 3 [⟨S4x384x8x64, zeros S4x384x8x64 bcast_S_S4x384x8x64⟩,
      ⟨S4x384x8x32, Host.gather gather_S4x384x8x32_S32x1_S4x384x8x32_012_3_n_n_3_1_438481 (wuqR x7) swapIdx⟩,
      ⟨S4x384x8x32, zeros S4x384x8x32 bcast_S_S4x384x8x32⟩]
    concatenates_S4x384x8x64_S4x384x8x32_S4x384x8x32_S4x384x8x128_d3) shapeCasts_S4x384x8x128_S4x384x1024) bitsLt_bf16_f32

/-- The keys' or the values' weights by heads: 64 lanes from `o` on and 64 lanes of zeros. -/
def wukvArr (x8 : FVec Ideal S4x256x1024 .f32) (o : ℕ) (h : S4x256x8x128.Slices ![0, 0, 0, o] S4x256x8x64) :
    FVec Ideal S4x256x1024 .bf16 :=
  truncf .bf16 (shapeCast S4x256x1024 (concatenate S4x256x8x128 3
      [⟨S4x256x8x64, extractStridedSlice S4x256x8x64 ![0, 0, 0, o] (shapeCast S4x256x8x128 x8 shapeCasts_S4x256x1024_S4x256x8x128) h⟩,
       ⟨S4x256x8x64, zeros S4x256x8x64 bcast_S_S4x256x8x64⟩]
    concatenates_S4x256x8x64_S4x256x8x64_S4x256x8x128_d3) shapeCasts_S4x256x8x128_S4x256x1024) bitsLt_bf16_f32

/-- The modulations: of each sequence's latents, and of the contexts. -/
def modsArr (x2 : FVec Ideal S4x8x6144 .f32) : FVec Ideal S4x4x2x6x1024 .f32 :=
  concatenate S4x4x2x6x1024 2
    [⟨S4x4x1x6x1024, broadcastInDim S4x4x1x6x1024 ![0, 1, 3, 4] bcast_S4x4x6x1024_S4x4x1x6x1024_0_1_3_4
        (extractStridedSlice S4x4x6x1024 ![0, 0, 0, 0] (shapeCast S4x8x6x1024 x2 shapeCasts_S4x8x6144_S4x8x6x1024)
          slices_S4x8x6x1024_S4x4x6x1024_0_0_0_0)⟩,
     ⟨S4x4x1x6x1024, broadcastInDim S4x4x1x6x1024 ![0, 1, 3, 4] bcast_S4x4x6x1024_S4x4x1x6x1024_0_1_3_4
        (broadcastInDim S4x4x6x1024 ![0, 1, 2, 3] bcast_S4x1x6x1024_S4x4x6x1024_0_1_2_3
          (extractStridedSlice S4x1x6x1024 ![0, 4, 0, 0] (shapeCast S4x8x6x1024 x2 shapeCasts_S4x8x6144_S4x8x6x1024)
            slices_S4x8x6x1024_S4x1x6x1024_0_4_0_0))⟩]
    concatenates_S4x4x1x6x1024_S4x4x1x6x1024_S4x4x2x6x1024_d2

def rowsArr (x0 : FVec Ideal S4x4096x1024 .f32) (x1 : FVec Ideal S4x256x1024 .f32) : FVec Ideal S4x4352x1024 .f32 :=
  concatenate S4x4352x1024 1 [⟨S4x4096x1024, x0⟩, ⟨S4x256x1024, x1⟩] concatenates_S4x4096x1024_S4x256x1024_S4x4352x1024_d1

theorem wCols_at (x4 : FVec Ideal S4x1024x4256 .f32) (n o : ℕ) (h : S4x1024x4256.Slices ![0, 0, o] ⟨3, ![4, 1024, n]⟩)
    (k : Fin 1024) (j : Fin n) (j' : Fin 4256) (hj : j'.val = o + j.val) : wCols x4 n o h (ix3 0 k j) = x4 (ix3 0 k j') := by
  refine congrArg x4 (funext fun a => Fin.ext ?_)
  match a with
  | 0 => rfl
  | 1 => exact Nat.zero_add _
  | 2 => exact hj.symm

theorem wkrArr_at (x4 : FVec Ideal S4x1024x4256 .f32) (k : Fin 1024) (l : Fin 128) :
    wkrArr x4 (ix3 0 k ⟨l.val, by omega⟩)
      = if l.val < 64 then 0 else x4 (ix3 0 k ⟨2176 + l.val % 32, by omega⟩) := by
  pointwise [wkrArr, zeros]
  split_ifs <;> first
    | rfl
    | (exfalso; omega)
    | exact congrArg (fun n => x4 (ix3 0 k n)) (Fin.ext (by first | omega | (simp only; omega)))

theorem wkrArr_swap (x4 : FVec Ideal S4x1024x4256 .f32) (k : Fin 1024) (l : Fin 128) :
    wkrArr x4 (ix3 0 k ⟨128 + l.val, by omega⟩)
      = if h : 64 ≤ l.val ∧ l.val < 96 then x4 (ix3 0 k ⟨2176 + (swap ⟨l.val - 64, by omega⟩).val, by omega⟩) else 0 := by
  pointwise [wkrArr, zeros, gatherK_at]
  split_ifs <;> first
    | (exfalso; omega)
    | (rw [dif_pos (show 64 ≤ l.val ∧ l.val < 96 by omega)]
       exact congrArg (fun n => x4 (ix3 0 k n)) (Fin.ext (by simp only [swap]; omega)))
    | rfl

theorem wuqArr_at (x7 : FVec Ideal S4x384x768 .f32) (e : Fin 384) (h : Fin 8) (l : Fin 128) :
    wuqArr x7 (ix3 0 e (col h l)) = x7 (ix3 0 e ⟨h.val * 96 + if l.val < 96 then l.val else l.val - 32, by split <;> omega⟩) := by
  by_cases h0 : l.val < 96 <;> pointwise [wuqArr, wuqH, wuqR, h0] <;> split_ifs <;> first
    | (exfalso; omega)
    | exact congrArg (fun n => x7 (ix3 0 e n)) (Fin.ext (by first | omega | (simp only; omega)))

set_option maxHeartbeats 1000000 in
theorem wuqsArr_at (x7 : FVec Ideal S4x384x768 .f32) (e : Fin 384) (h : Fin 8) (l : Fin 128) :
    wuqsArr x7 (ix3 0 e (col h l)) = if hl : 64 ≤ l.val ∧ l.val < 96 then
      x7 (ix3 0 e ⟨h.val * 96 + 64 + (swap ⟨l.val - 64, by omega⟩).val, by omega⟩) else 0 := by
  pointwise [wuqsArr, wuqH, wuqR, zeros, gatherQ_at]
  split_ifs <;> first
    | (exfalso; omega)
    | (rw [dif_pos (show 64 ≤ l.val ∧ l.val < 96 by omega)]
       exact congrArg (fun n => x7 (ix3 0 e n)) (Fin.ext (by simp only [swap]; omega)))
    | rfl

theorem wukvArr_at (x8 : FVec Ideal S4x256x1024 .f32) (o : ℕ) (h : S4x256x8x128.Slices ![0, 0, 0, o] S4x256x8x64) (ho : o + 64 ≤ 128)
    (e : Fin 256) (hd : Fin 8) (l : Fin 128) :
    wukvArr x8 o h (ix3 0 e (col hd l)) = if hl : l.val < 64 then x8 (ix3 0 e ⟨hd.val * 128 + o + l.val, by omega⟩) else 0 := by
  pointwise [wukvArr, zeros]
  split_ifs <;> first
    | rfl
    | (exfalso; omega)
    | exact congrArg (fun n => x8 (ix3 0 e n)) (Fin.ext (by first | omega | (simp only; omega)))

theorem modsArr_at (x2 : FVec Ideal S4x8x6144 .f32) (b : Fin 4) (s : Fin 2) (k : Fin 6) (e : Fin 1024) :
    modsArr x2 (ix5 0 b s k e) = x2 (ix3 0 (if s.val = 0 then ⟨b.val, by omega⟩ else 4) ⟨k.val * 1024 + e.val, by omega⟩) := by
  by_cases h0 : s.val = 0
  · pointwise [modsArr, h0]
  · pointwise [modsArr, h0]
    rw [dif_neg (by omega)]

theorem rowsArr_at (x0 : FVec Ideal S4x4096x1024 .f32) (x1 : FVec Ideal S4x256x1024 .f32) (b : Fin 4) (s : Fin 4352) (e : Fin 1024) :
    rowsArr x0 x1 (ix3 b s e) = if h : s.val < 4096 then x0 (ix3 b ⟨s.val, h⟩ e) else x1 (ix3 b ⟨s.val - 4096, by omega⟩ e) := by
  pointwise [rowsArr]

end Cert.InProj

end
-- ==== Proof.InRope.lean ====
/- The rotary tables that the in-projection's host lines compute, at an index. -/
module

public import proofs.«01_k».proof.Proof.InWeights
public import proofs.«01_k».proof.Proof.Entry

@[expose] public section

set_option maxRecDepth 16384

noncomputable section

namespace Cert.InProj

open Cert.Kernel2Ideal Cert.Kernel2Ideal.Gen Idealize.ShloMosaic Idealize.ShloMosaic.TcCoe Idealize.SL.Sem

/-- The 4096 latents' numbers. -/
def nums : IVec S4096 32 := iotaInDim S4096 32 0

/-- One integer for each latent. -/
def every (x : IVec S_ 32) : IVec S4096 32 := broadcastInDim S4096 ![] bcast_S_S4096 x

/-- The latents' rows on the grid of 64 by 64: the quotient rounded down, as the host lines compute it. -/
def rowIdx : IVec S4096 32 :=
  select (andi (cmpi .ne (signi nums) (broadcastInDim S4096 ![] bcast_S_S4096 (signi (constantI S_ 32 64#32))))
      (cmpi .ne (Host.remsi nums (every (constantI S_ 32 64#32))) (every (constantI S_ 32 0#32))))
    (subi (Host.divsi nums (every (constantI S_ 32 64#32))) (every (constantI S_ 32 1#32)))
    (Host.divsi nums (every (constantI S_ 32 64#32)))

/-- The divisor of the remainder, as the host lines guard it. -/
def modulus : IVec S_ 32 :=
  select (cmpi .eq (constantI S_ 32 64#32) (constantI S_ 32 0#32)) (constantI S_ 32 1#32) (constantI S_ 32 64#32)

/-- The latents' columns on the grid. -/
def colIdx : IVec S4096 32 :=
  select (andi (cmpi .ne (cmpi .slt (Host.remsi nums (every modulus)) (every (constantI S_ 32 0#32)))
        (broadcastInDim S4096 ![] bcast_S_S4096 (cmpi .slt modulus (constantI S_ 32 0#32))))
      (cmpi .ne (Host.remsi nums (every modulus)) (every (constantI S_ 32 0#32))))
    (addi (Host.remsi nums (every modulus)) (every modulus)) (Host.remsi nums (every modulus))

theorem rowIdx_at : ∀ n : Fin 4096, rowIdx (ix1 n) = BitVec.ofNat 32 (n.val / 64) := by decide +kernel

theorem colIdx_at : ∀ n : Fin 4096, colIdx (ix1 n) = BitVec.ofNat 32 (n.val % 64) := by decide +kernel

/-- The rotation's frequencies. -/
def freqs : FVec Ideal S8 .f32 :=
  Host.powf (broadcastInDim S8 ![] bcast_S_S8 (constant S_ .f32 0x461C4000#32))
    (Host.divf (Host.negf (sitofp .f32 (iotaInDim S8 32 0))) (broadcastInDim S8 ![] bcast_S_S8 (constant S_ .f32 0x41000000#32)))

/-- The angles: a latent's row or column times a frequency. -/
def angArr : FVec Ideal S4096x2x8 .f32 :=
  mulf (broadcastInDim S4096x2x8 ![0, 1, 2] bcast_S4096x2x1_S4096x2x8_0_1_2
      (broadcastInDim S4096x2x1 ![0, 1] bcast_S4096x2_S4096x2x1_0_1 (sitofp .f32 (concatenate S4096x2 1
        [⟨S4096x1, broadcastInDim S4096x1 ![0] bcast_S4096_S4096x1_0 rowIdx⟩,
         ⟨S4096x1, broadcastInDim S4096x1 ![0] bcast_S4096_S4096x1_0 colIdx⟩] concatenates_S4096x1_S4096x1_S4096x2_d1))))
    (broadcastInDim S4096x2x8 ![0, 1, 2] bcast_S1x1x8_S4096x2x8_0_1_2 (broadcastInDim S1x1x8 ![2] bcast_S8_S1x1x8_2 freqs))

def cosArr : FVec Ideal S4096x32 .f32 := shapeCast S4096x32 (concatenate S4096x2x2x8 2
    [⟨S4096x2x1x8, broadcastInDim S4096x2x1x8 ![0, 1, 3] bcast_S4096x2x8_S4096x2x1x8_0_1_3 (Host.cos angArr)⟩,
     ⟨S4096x2x1x8, broadcastInDim S4096x2x1x8 ![0, 1, 3] bcast_S4096x2x8_S4096x2x1x8_0_1_3 (Host.cos angArr)⟩]
    concatenates_S4096x2x1x8_S4096x2x1x8_S4096x2x2x8_d2) shapeCasts_S4096x2x2x8_S4096x32

def sinArr : FVec Ideal S4096x32 .f32 := shapeCast S4096x32 (concatenate S4096x2x2x8 2
    [⟨S4096x2x1x8, broadcastInDim S4096x2x1x8 ![0, 1, 3] bcast_S4096x2x8_S4096x2x1x8_0_1_3 (Host.negf (Host.sin angArr))⟩,
     ⟨S4096x2x1x8, broadcastInDim S4096x2x1x8 ![0, 1, 3] bcast_S4096x2x8_S4096x2x1x8_0_1_3 (Host.sin angArr)⟩]
    concatenates_S4096x2x1x8_S4096x2x1x8_S4096x2x2x8_d2) shapeCasts_S4096x2x2x8_S4096x32

/-- A number for every element. -/
def fill (s : Shape) (h : S_.BroadcastsInDim s (![] : Fin 0 → Fin s.rank)) (x : FVec Ideal S_ .f32) : FVec Ideal s .f32 :=
  broadcastInDim s ![] h x

def one0 : FVec Ideal S_ .f32 := constant S_ .f32 0x3F800000#32
def zero0 : FVec Ideal S_ .f32 := constant S_ .f32 0x00000000#32

/-- The scale of the scores. -/
def scale0 : FVec Ideal S_ .f32 :=
  Host.divf one0 (mulf (Host.sqrt (constant S_ .f32 0x42C00000#32)) (Host.log (constant S_ .f32 0x40000000#32)))

/-- Lanes of one table over the latents: 64 of `a`, the rotary ones, and 32 of `b`. -/
def lanes (a b : FVec Ideal S_ .f32) (r : FVec Ideal S4096x32 .f32) : FVec Ideal S4096x128 .f32 :=
  concatenate S4096x128 1 [⟨S4096x64, fill S4096x64 bcast_S_S4096x64 a⟩, ⟨S4096x32, r⟩,
    ⟨S4096x32, fill S4096x32 bcast_S_S4096x32 b⟩] concatenates_S4096x64_S4096x32_S4096x32_S4096x128_d1

/-- The four tables, over the latents and then over the contexts. -/
def tabArr : FVec Ideal S4x4352x128 .f32 :=
  concatenate S4x4352x128 1
    [⟨S4x4096x128, concatenate S4x4096x128 0
      [⟨S1x4096x128, broadcastInDim S1x4096x128 ![1, 2] bcast_S4096x128_S1x4096x128_1_2
          (mulf (lanes one0 one0 cosArr) (fill S4096x128 bcast_S_S4096x128 scale0))⟩,
       ⟨S1x4096x128, broadcastInDim S1x4096x128 ![1, 2] bcast_S4096x128_S1x4096x128_1_2
          (mulf (lanes zero0 zero0 sinArr) (fill S4096x128 bcast_S_S4096x128 scale0))⟩,
       ⟨S1x4096x128, broadcastInDim S1x4096x128 ![1, 2] bcast_S4096x128_S1x4096x128_1_2 (lanes zero0 zero0 cosArr)⟩,
       ⟨S1x4096x128, broadcastInDim S1x4096x128 ![1, 2] bcast_S4096x128_S1x4096x128_1_2 (lanes zero0 zero0 sinArr)⟩]
      concatenates_S1x4096x128_S1x4096x128_S1x4096x128_S1x4096x128_S4x4096x128_d0⟩,
     ⟨S4x256x128, broadcastInDim S4x256x128 ![0, 1, 2] bcast_S4x1x128_S4x256x128_0_1_2
        (broadcastInDim S4x1x128 ![0, 2] bcast_S4x128_S4x1x128_0_2 (concatenate S4x128 0
          [⟨S1x128, broadcastInDim S1x128 ![1] bcast_S128_S1x128_1 (mulf (fill S128 bcast_S_S128 one0) (fill S128 bcast_S_S128 scale0))⟩,
           ⟨S1x128, broadcastInDim S1x128 ![1] bcast_S128_S1x128_1 (fill S128 bcast_S_S128 zero0)⟩,
           ⟨S1x128, broadcastInDim S1x128 ![1] bcast_S128_S1x128_1 (concatenate S128 0
              [⟨S96, fill S96 bcast_S_S96 zero0⟩, ⟨S32, fill S32 bcast_S_S32 one0⟩] concatenates_S96_S32_S128_d0)⟩,
           ⟨S1x128, broadcastInDim S1x128 ![1] bcast_S128_S1x128_1 (fill S128 bcast_S_S128 zero0)⟩]
          concatenates_S1x128_S1x128_S1x128_S1x128_S4x128_d0))⟩]
    concatenates_S4x4096x128_S4x256x128_S4x4352x128_d1

/-- The number of a latent's row (first axis) or column (second). -/
def place (n : Fin 4096) (a : Fin 2) : BitVec 32 := BitVec.ofNat 32 (if a.val = 0 then n.val / 64 else n.val % 64)

/-- An angle, its place and frequency apart. -/
def ang (n : Fin 4096) (a : Fin 2) (f : Fin 8) : EReal := (FloatOps.sitofp (F := Ideal) .f32 (place n a) : EReal) * freqs (ix1 f)

theorem angArr_at (n : Fin 4096) (a : Fin 2) (f : Fin 8) : angArr (ix3 n a f) = ang n a f := by
  unfold ang place
  by_cases h : a.val = 0
  · pointwise [angArr, rowIdx_at, colIdx_at, h]
  · pointwise [angArr, rowIdx_at, colIdx_at, h]
    rw [dif_neg (by omega)]

theorem scale0_at (i : S_.Idx) : scale0 i = Cert.Attn.κ0 := by
  unfold scale0 one0 Cert.Attn.κ0
  rw [← Ideal.ofBits_one_f32]
  rfl

theorem cosArr_at (n : Fin 4096) (p : Fin 32) :
    cosArr (ix2 n p) = Ideal.cos (ang n ⟨p.val / 16, by omega⟩ ⟨p.val % 8, by omega⟩) := by
  pointwise [cosArr, angArr_at]
  split <;> rfl

theorem sinArr_at (n : Fin 4096) (p : Fin 32) :
    sinArr (ix2 n p) = if p.val % 16 < 8 then - Ideal.sin (ang n ⟨p.val / 16, by omega⟩ ⟨p.val % 8, by omega⟩)
      else Ideal.sin (ang n ⟨p.val / 16, by omega⟩ ⟨p.val % 8, by omega⟩) := by
  pointwise [sinArr, angArr_at]
  split <;> split <;> first | rfl | (exfalso; omega)

/-- The rotary lanes of a table, and a number elsewhere. -/
def onLanes (x : EReal) (r : Fin 32 → EReal) (l : Fin 128) : EReal :=
  if h : 64 ≤ l.val ∧ l.val < 96 then r ⟨l.val - 64, by omega⟩ else x

theorem lanes_at (a : FVec Ideal S_ .f32) (r : FVec Ideal S4096x32 .f32) (n : Fin 4096) (l : Fin 128) :
    lanes a a r (ix2 n l) = onLanes (a ix0) (fun p => r (ix2 n p)) l := by
  unfold onLanes
  by_cases h : 64 ≤ l.val ∧ l.val < 96
  · have h0 : ¬ l.val < 64 := by omega
    have h1 : l.val - 64 < 32 := by omega
    rw [dif_pos h]
    pointwise [lanes, fill, h0, h1]
  · rw [dif_neg h]
    by_cases h0 : l.val < 64
    · pointwise [lanes, fill, h0]
    · have h1 : ¬ l.val - 64 < 32 := by omega
      pointwise [lanes, fill, h0, h1]

theorem tab0_lat (n : Fin 4096) (l : Fin 128) :
    tabArr (ix3 0 ⟨n.val, by omega⟩ l) = onLanes 1 (fun p => cosArr (ix2 n p)) l * Cert.Attn.κ0 := by
  pointwise [tabArr, lanes_at, fill, one0, scale0_at]

theorem tab1_lat (n : Fin 4096) (l : Fin 128) :
    tabArr (ix3 1 ⟨n.val, by omega⟩ l) = onLanes 0 (fun p => sinArr (ix2 n p)) l * Cert.Attn.κ0 := by
  pointwise [tabArr, lanes_at, fill, zero0, scale0_at]

theorem tab2_lat (n : Fin 4096) (l : Fin 128) :
    tabArr (ix3 2 ⟨n.val, by omega⟩ l) = onLanes 0 (fun p => cosArr (ix2 n p)) l := by
  pointwise [tabArr, lanes_at, zero0]

theorem tab3_lat (n : Fin 4096) (l : Fin 128) :
    tabArr (ix3 3 ⟨n.val, by omega⟩ l) = onLanes 0 (fun p => sinArr (ix2 n p)) l := by
  pointwise [tabArr, lanes_at, zero0]

theorem tab0_ctx (n : Fin 256) (l : Fin 128) : tabArr (ix3 0 ⟨4096 + n.val, by omega⟩ l) = Cert.Attn.κ0 := by
  pointwise [tabArr, fill, one0, scale0_at]

theorem tab1_ctx (n : Fin 256) (l : Fin 128) : tabArr (ix3 1 ⟨4096 + n.val, by omega⟩ l) = 0 := by
  pointwise [tabArr, fill, zero0]

theorem tab2_ctx (n : Fin 256) (l : Fin 128) :
    tabArr (ix3 2 ⟨4096 + n.val, by omega⟩ l) = if l.val < 96 then 0 else 1 := by
  pointwise [tabArr, fill, one0, zero0]
  split <;> rfl

theorem tab3_ctx (n : Fin 256) (l : Fin 128) : tabArr (ix3 3 ⟨4096 + n.val, by omega⟩ l) = 0 := by
  pointwise [tabArr, fill, zero0]

end Cert.InProj

end
-- ==== Proof.InSpec.lean ====
/- The in-projection as both programs compute it: rows, products, latents and rotations, of the arguments. -/
module

public import proofs.«01_k».proof.Proof.InRope
public import proofs.«01_k».proof.Proof.InBlocks

@[expose] public section

set_option maxRecDepth 16384

noncomputable section

namespace Cert.InProj

open Cert.Kernel2Ideal Cert.Kernel2Ideal.Gen Idealize.ShloMosaic

variable (x2 : FVec Ideal S4x8x6144 .f32) (x3 : FVec Ideal S4x1024 .f32) (x4 : FVec Ideal S4x1024x4256 .f32)
  (x5 : FVec Ideal S4x384 .f32) (x6 : FVec Ideal S4x256 .f32) (x7 : FVec Ideal S4x384x768 .f32) (x8 : FVec Ideal S4x256x1024 .f32)

/-- A row normalised, scaled and shifted by the modulation's row `r`. -/
def rowS (x : Fin 1024 → EReal) (r : Fin 8) (k : Fin 1024) : EReal :=
  modRow x (fun e => x3 (ix2 0 e)) (fun e => x2 (ix3 0 r ⟨e.val, by omega⟩)) (fun e => x2 (ix3 0 r ⟨1024 + e.val, by omega⟩)) k

/-- Its products with the in-projection's columns. -/
def pS (u : Fin 1024 → EReal) (j : Fin 4256) : EReal := mul u (fun k j => x4 (ix3 0 k j)) j

/-- Its query latent. -/
def cqS (u : Fin 1024 → EReal) (e : Fin 384) : EReal :=
  rms n384 (fun e => pS x4 u ⟨1536 + e.val, by omega⟩) (fun e => x5 (ix2 0 e)) e

/-- Its key and value latent. -/
def ckvS (u : Fin 1024 → EReal) (e : Fin 256) : EReal :=
  rms n256 (fun e => pS x4 u ⟨1920 + e.val, by omega⟩) (fun e => x6 (ix2 0 e)) e

/-- A head's queries. -/
def qS (u : Fin 1024 → EReal) (h : Fin 8) (d : Fin 96) : EReal :=
  mul (cqS x4 x5 u) (fun e j => x7 (ix3 0 e j)) ⟨h.val * 96 + d.val, by omega⟩

/-- A head's keys, then its values. -/
def kvS (u : Fin 1024 → EReal) (h : Fin 8) (d : Fin 128) : EReal :=
  mul (ckvS x4 x6 u) (fun e j => x8 (ix3 0 e j)) ⟨h.val * 128 + d.val, by omega⟩

/-- The rotary key that the heads share. -/
def krS (u : Fin 1024 → EReal) (p : Fin 32) : EReal := pS x4 u ⟨2176 + p.val, by omega⟩

/-- The rotation of 32 lanes by the latent's angles. -/
def rot (n : Fin 4096) (x : Fin 32 → EReal) (p : Fin 32) : EReal :=
  if p.val % 16 < 8 then
    x p * Ideal.cos (ang n ⟨p.val / 16, by omega⟩ ⟨p.val % 8, by omega⟩)
      - x (swap p) * Ideal.sin (ang n ⟨p.val / 16, by omega⟩ ⟨p.val % 8, by omega⟩)
  else x (swap p) * Ideal.sin (ang n ⟨p.val / 16, by omega⟩ ⟨p.val % 8, by omega⟩)
    + x p * Ideal.cos (ang n ⟨p.val / 16, by omega⟩ ⟨p.val % 8, by omega⟩)

end Cert.InProj

end
-- ==== Proof.InRef.lean ====
/- The in-projection's reference at an index: rows, latents, queries, keys and values before the rotation. -/
module

public import proofs.«01_k».proof.Proof.InSpec
public import proofs.«01_k».proof.Proof.Gen.Reference2Ideal.Read

@[expose] public section

set_option maxRecDepth 16384

noncomputable section

namespace Cert.InProj

open Cert.Reference2Ideal Cert.Reference2Ideal.Gen Cert.Reference2Ideal.Read Idealize.ShloMosaic

variable (x0 : FVec Ideal S4x4096x1024 .f32) (x1 : FVec Ideal S4x256x1024 .f32)
  (x2 : FVec Ideal S4x8x6144 .f32) (x3 : FVec Ideal S4x1024 .f32) (x4 : FVec Ideal S4x1024x4256 .f32)
  (x5 : FVec Ideal S4x384 .f32) (x6 : FVec Ideal S4x256 .f32) (x7 : FVec Ideal S4x384x768 .f32) (x8 : FVec Ideal S4x256x1024 .f32)

/-- A latent's modulated row. -/
abbrev uL (b : Fin 4) (n : Fin 4096) : Fin 1024 → EReal := rowS x2 x3 (fun e => x0 (ix3 b n e)) ⟨b.val, by omega⟩

/-- A context token's. -/
abbrev uC (b : Fin 4) (n : Fin 256) : Fin 1024 → EReal := rowS x2 x3 (fun e => x1 (ix3 b n e)) 4

theorem v18_at (b : Fin 4) (n : Fin 4096) : val_main_v18 (F := Ideal) x0 (ix3 b n 0)
    = Ideal.rsqrt (Ideal.div (∑ e : Fin 1024, x0 (ix3 b n e) * x0 (ix3 b n e)) n1024 + eps) := by
  pointwise [val_main_v18, val_main_v17, val_main_v16, val_main_cst_1, val_main_v15, val_main_v14, val_main_cst_0, val_main_v13,
    val_main_v12, val_main_cst, val_main_v11, ofBits_eps, ofBits_1024]

theorem v29_at (b : Fin 4) (n : Fin 4096) (k : Fin 1024) :
    val_main_v29 (F := Ideal) x0 x2 x3 (ix3 b n k) = uL x0 x2 x3 b n k := by
  unfold uL rowS modRow rms
  pointwise [val_main_v29, val_main_v28, val_main_v27, val_main_v26, val_main_v25, val_main_v24, val_main_cst_2, val_main_v23,
    val_main_v22, val_main_v21, val_main_v20, val_main_v19, v18_at, val_main_v10, val_main_v9, val_main_v6, val_main_v5,
    val_main_v2, val_main_v1, val_main_v0]

theorem v32_at (b : Fin 4) (n : Fin 4096) (j : Fin 4256) :
    val_main_v32 (F := Ideal) x0 x2 x3 x4 (ix3 b n j) = pS x4 (uL x0 x2 x3 b n) j := by
  unfold pS mul
  pointwise [val_main_v32, v29_at, val_main_v31, val_main_v30]

theorem v42_at (b : Fin 4) (n : Fin 256) : val_main_v42 (F := Ideal) x1 (ix3 b n 0)
    = Ideal.rsqrt (Ideal.div (∑ e : Fin 1024, x1 (ix3 b n e) * x1 (ix3 b n e)) n1024 + eps) := by
  pointwise [val_main_v42, val_main_v41, val_main_v40, val_main_cst_5, val_main_v39, val_main_v38, val_main_cst_4, val_main_v37,
    val_main_v36, val_main_cst_3, val_main_v35, ofBits_eps, ofBits_1024]

theorem v55_at (b : Fin 4) (n : Fin 256) (k : Fin 1024) :
    val_main_v55 (F := Ideal) x1 x2 x3 (ix3 b n k) = uC x1 x2 x3 b n k := by
  unfold uC rowS modRow rms
  pointwise [val_main_v55, val_main_v54, val_main_v53, val_main_v52, val_main_v51, val_main_v50, val_main_v49, val_main_v48,
    val_main_cst_6, val_main_v47, val_main_v46, val_main_v45, val_main_v44, val_main_v43, v42_at, val_main_v34, val_main_v33,
    val_main_v8, val_main_v7, val_main_v4, val_main_v3]

theorem v58_at (b : Fin 4) (n : Fin 256) (j : Fin 4256) :
    val_main_v58 (F := Ideal) x1 x2 x3 x4 (ix3 b n j) = pS x4 (uC x1 x2 x3 b n) j := by
  unfold pS mul
  pointwise [val_main_v58, v55_at, val_main_v57, val_main_v56]

theorem v70_at (b : Fin 4) (n : Fin 4096) : val_main_v70 (F := Ideal) x0 x2 x3 x4 (ix3 b n 0)
    = Ideal.rsqrt (Ideal.div (∑ e : Fin 384, pS x4 (uL x0 x2 x3 b n) ⟨1536 + e.val, by omega⟩
        * pS x4 (uL x0 x2 x3 b n) ⟨1536 + e.val, by omega⟩) n384 + eps) := by
  pointwise [val_main_v70, val_main_v69, val_main_v68, val_main_cst_9, val_main_v67, val_main_v66, val_main_cst_8, val_main_v65,
    val_main_v64, val_main_cst_7, val_main_v63, val_main_v59, v32_at, ofBits_eps, ofBits_384]

theorem v75_at (b : Fin 4) (n : Fin 4096) (e : Fin 384) :
    val_main_v75 (F := Ideal) x0 x2 x3 x4 x5 (ix3 b n e) = cqS x4 x5 (uL x0 x2 x3 b n) e := by
  unfold cqS rms
  pointwise [val_main_v75, val_main_v74, val_main_v73, val_main_v72, val_main_v71, v70_at, val_main_v62, val_main_v61,
    val_main_v59, v32_at]

theorem v78_at (b : Fin 4) (n : Fin 4096) (j : Fin 768) :
    val_main_v78 (F := Ideal) x0 x2 x3 x4 x5 x7 (ix3 b n j) = mul (cqS x4 x5 (uL x0 x2 x3 b n)) (fun e j => x7 (ix3 0 e j)) j := by
  unfold mul
  pointwise [val_main_v78, v75_at, val_main_v77, val_main_v76]

theorem v79_at (b : Fin 4) (n : Fin 4096) (h : Fin 8) (d : Fin 96) :
    val_main_v79 (F := Ideal) x0 x2 x3 x4 x5 x7 (ix4 b n h d) = qS x4 x5 x7 (uL x0 x2 x3 b n) h d := by
  unfold qS
  pointwise [val_main_v79, v78_at]

theorem v89_at (b : Fin 4) (n : Fin 4096) : val_main_v89 (F := Ideal) x0 x2 x3 x4 (ix3 b n 0)
    = Ideal.rsqrt (Ideal.div (∑ e : Fin 256, pS x4 (uL x0 x2 x3 b n) ⟨1920 + e.val, by omega⟩
        * pS x4 (uL x0 x2 x3 b n) ⟨1920 + e.val, by omega⟩) n256 + eps) := by
  pointwise [val_main_v89, val_main_v88, val_main_v87, val_main_cst_12, val_main_v86, val_main_v85, val_main_cst_11, val_main_v84,
    val_main_v83, val_main_cst_10, val_main_v82, val_main_v60, v32_at, ofBits_eps, ofBits_256]

theorem v94_at (b : Fin 4) (n : Fin 4096) (e : Fin 256) :
    val_main_v94 (F := Ideal) x0 x2 x3 x4 x6 (ix3 b n e) = ckvS x4 x6 (uL x0 x2 x3 b n) e := by
  unfold ckvS rms
  pointwise [val_main_v94, val_main_v93, val_main_v92, val_main_v91, val_main_v90, v89_at, val_main_v81, val_main_v80,
    val_main_v60, v32_at]

theorem v97_at (b : Fin 4) (n : Fin 4096) (j : Fin 1024) :
    val_main_v97 (F := Ideal) x0 x2 x3 x4 x6 x8 (ix3 b n j) = mul (ckvS x4 x6 (uL x0 x2 x3 b n)) (fun e j => x8 (ix3 0 e j)) j := by
  unfold mul
  pointwise [val_main_v97, v94_at, val_main_v96, val_main_v95]

theorem v98_at (b : Fin 4) (n : Fin 4096) (h : Fin 8) (d : Fin 128) :
    val_main_v98 (F := Ideal) x0 x2 x3 x4 x6 x8 (ix4 b n h d) = kvS x4 x6 x8 (uL x0 x2 x3 b n) h d := by
  unfold kvS
  pointwise [val_main_v98, v97_at]

theorem v115_at (b : Fin 4) (n : Fin 256) : val_main_v115 (F := Ideal) x1 x2 x3 x4 (ix3 b n 0)
    = Ideal.rsqrt (Ideal.div (∑ e : Fin 384, pS x4 (uC x1 x2 x3 b n) ⟨1536 + e.val, by omega⟩
        * pS x4 (uC x1 x2 x3 b n) ⟨1536 + e.val, by omega⟩) n384 + eps) := by
  pointwise [val_main_v115, val_main_v114, val_main_v113, val_main_cst_15, val_main_v112, val_main_v111, val_main_cst_14,
    val_main_v110, val_main_v109, val_main_cst_13, val_main_v108, val_main_v104, v58_at, ofBits_eps, ofBits_384]

theorem v120_at (b : Fin 4) (n : Fin 256) (e : Fin 384) :
    val_main_v120 (F := Ideal) x1 x2 x3 x4 x5 (ix3 b n e) = cqS x4 x5 (uC x1 x2 x3 b n) e := by
  unfold cqS rms
  pointwise [val_main_v120, val_main_v119, val_main_v118, val_main_v117, val_main_v116, v115_at, val_main_v107, val_main_v106,
    val_main_v104, v58_at]

theorem v123_at (b : Fin 4) (n : Fin 256) (j : Fin 768) :
    val_main_v123 (F := Ideal) x1 x2 x3 x4 x5 x7 (ix3 b n j) = mul (cqS x4 x5 (uC x1 x2 x3 b n)) (fun e j => x7 (ix3 0 e j)) j := by
  unfold mul
  pointwise [val_main_v123, v120_at, val_main_v122, val_main_v121]

theorem v124_at (b : Fin 4) (n : Fin 256) (h : Fin 8) (d : Fin 96) :
    val_main_v124 (F := Ideal) x1 x2 x3 x4 x5 x7 (ix4 b n h d) = qS x4 x5 x7 (uC x1 x2 x3 b n) h d := by
  unfold qS
  pointwise [val_main_v124, v123_at]

theorem v134_at (b : Fin 4) (n : Fin 256) : val_main_v134 (F := Ideal) x1 x2 x3 x4 (ix3 b n 0)
    = Ideal.rsqrt (Ideal.div (∑ e : Fin 256, pS x4 (uC x1 x2 x3 b n) ⟨1920 + e.val, by omega⟩
        * pS x4 (uC x1 x2 x3 b n) ⟨1920 + e.val, by omega⟩) n256 + eps) := by
  pointwise [val_main_v134, val_main_v133, val_main_v132, val_main_cst_18, val_main_v131, val_main_v130, val_main_cst_17,
    val_main_v129, val_main_v128, val_main_cst_16, val_main_v127, val_main_v105, v58_at, ofBits_eps, ofBits_256]

theorem v139_at (b : Fin 4) (n : Fin 256) (e : Fin 256) :
    val_main_v139 (F := Ideal) x1 x2 x3 x4 x6 (ix3 b n e) = ckvS x4 x6 (uC x1 x2 x3 b n) e := by
  unfold ckvS rms
  pointwise [val_main_v139, val_main_v138, val_main_v137, val_main_v136, val_main_v135, v134_at, val_main_v126, val_main_v125,
    val_main_v105, v58_at]

theorem v142_at (b : Fin 4) (n : Fin 256) (j : Fin 1024) :
    val_main_v142 (F := Ideal) x1 x2 x3 x4 x6 x8 (ix3 b n j) = mul (ckvS x4 x6 (uC x1 x2 x3 b n)) (fun e j => x8 (ix3 0 e j)) j := by
  unfold mul
  pointwise [val_main_v142, v139_at, val_main_v141, val_main_v140]

theorem v143_at (b : Fin 4) (n : Fin 256) (h : Fin 8) (d : Fin 128) :
    val_main_v143 (F := Ideal) x1 x2 x3 x4 x6 x8 (ix4 b n h d) = kvS x4 x6 x8 (uC x1 x2 x3 b n) h d := by
  unfold kvS
  pointwise [val_main_v143, v142_at]

end Cert.InProj

end
-- ==== Proof.InRot.lean ====
/- The in-projection's reference at an index: the rotations of the queries and of the shared key. -/
module

public import proofs.«01_k».proof.Proof.InRef

@[expose] public section

set_option maxRecDepth 16384

noncomputable section

namespace Cert.InProj

open Cert.Reference2Ideal Cert.Reference2Ideal.Gen Cert.Reference2Ideal.Read Idealize.ShloMosaic

variable (x0 : FVec Ideal S4x4096x1024 .f32) (x1 : FVec Ideal S4x256x1024 .f32)
  (x2 : FVec Ideal S4x8x6144 .f32) (x3 : FVec Ideal S4x1024 .f32) (x4 : FVec Ideal S4x1024x4256 .f32)
  (x5 : FVec Ideal S4x384 .f32) (x6 : FVec Ideal S4x256 .f32) (x7 : FVec Ideal S4x384x768 .f32) (x8 : FVec Ideal S4x256x1024 .f32)

theorem v157_at (n : Fin 4096) (a : Fin 2) : val_main_v157 (F := Ideal) (ix2 n a) = place n a := by
  unfold place
  by_cases h : a.val = 0
  · pointwise [val_main_v157, val_main_v156, val_main_v155, val_main_v154, val_main_v153, val_main_v152, val_main_v151,
      val_main_v150, val_main_v149, h]
  · pointwise [val_main_v157, val_main_v156, val_main_v155, val_main_v154, val_main_v153, val_main_v152, val_main_v151,
      val_main_v150, val_main_v149, h]
    rw [dif_neg (by omega)]

theorem v164_eq : val_main_v164 (F := Ideal) = freqs := rfl

theorem v169_at (n : Fin 4096) (a : Fin 2) (f : Fin 8) : val_main_v169 (F := Ideal) (ix3 n a f) = ang n a f := by
  unfold ang
  pointwise [val_main_v169, val_main_v168, val_main_v167, val_main_v166, val_main_v165, v164_eq, val_main_v158, v157_at]

theorem v170_at (n : Fin 4096) (a : Fin 2) (f : Fin 8) : val_main_v170 (F := Ideal) (ix3 n a f) = Ideal.cos (ang n a f) := by
  pointwise [val_main_v170, v169_at]

theorem v171_at (n : Fin 4096) (a : Fin 2) (f : Fin 8) : val_main_v171 (F := Ideal) (ix3 n a f) = Ideal.sin (ang n a f) := by
  pointwise [val_main_v171, v169_at]

theorem v100_at (b : Fin 4) (n : Fin 4096) (h : Fin 8) (p : Fin 32) :
    val_main_v100 (F := Ideal) x0 x2 x3 x4 x5 x7 (ix4 b n h p) = qS x4 x5 x7 (uL x0 x2 x3 b n) h ⟨64 + p.val, by omega⟩ := by
  pointwise [val_main_v100, v79_at]

theorem v174_at (b : Fin 4) (n : Fin 4096) (h : Fin 8) (a : Fin 2) (f : Fin 8) :
    val_main_v174 (F := Ideal) x0 x2 x3 x4 x5 x7 (ix5 b n h a f)
      = qS x4 x5 x7 (uL x0 x2 x3 b n) h ⟨64 + (a.val * 16 + f.val), by omega⟩ := by
  pointwise [val_main_v174, val_main_v173, val_main_v172, v100_at]

theorem v176_at (b : Fin 4) (n : Fin 4096) (h : Fin 8) (a : Fin 2) (f : Fin 8) :
    val_main_v176 (F := Ideal) x0 x2 x3 x4 x5 x7 (ix5 b n h a f)
      = qS x4 x5 x7 (uL x0 x2 x3 b n) h ⟨64 + (a.val * 16 + 8 + f.val), by omega⟩ := by
  pointwise [val_main_v176, val_main_v175, val_main_v172, v100_at]

theorem v177_at (n : Fin 4096) (a : Fin 2) (f : Fin 8) :
    val_main_v177 (F := Ideal) (ix4 n 0 a f) = Ideal.cos (ang n a f) := by
  pointwise [val_main_v177, v170_at]

theorem v178_at (n : Fin 4096) (a : Fin 2) (f : Fin 8) :
    val_main_v178 (F := Ideal) (ix4 n 0 a f) = Ideal.sin (ang n a f) := by
  pointwise [val_main_v178, v171_at]

theorem v185_at (b : Fin 4) (n : Fin 4096) (h : Fin 8) (a : Fin 2) (f : Fin 8) :
    val_main_v185 (F := Ideal) x0 x2 x3 x4 x5 x7 (ix5 b n h a f)
      = qS x4 x5 x7 (uL x0 x2 x3 b n) h ⟨64 + (a.val * 16 + f.val), by omega⟩ * Ideal.cos (ang n a f)
        - qS x4 x5 x7 (uL x0 x2 x3 b n) h ⟨64 + (a.val * 16 + 8 + f.val), by omega⟩ * Ideal.sin (ang n a f) := by
  pointwise [val_main_v185, val_main_v184, val_main_v183, val_main_v182, val_main_v181, val_main_v180, val_main_v179,
    v174_at, v176_at, v177_at, v178_at]

theorem v192_at (b : Fin 4) (n : Fin 4096) (h : Fin 8) (a : Fin 2) (f : Fin 8) :
    val_main_v192 (F := Ideal) x0 x2 x3 x4 x5 x7 (ix5 b n h a f)
      = qS x4 x5 x7 (uL x0 x2 x3 b n) h ⟨64 + (a.val * 16 + f.val), by omega⟩ * Ideal.sin (ang n a f)
        + qS x4 x5 x7 (uL x0 x2 x3 b n) h ⟨64 + (a.val * 16 + 8 + f.val), by omega⟩ * Ideal.cos (ang n a f) := by
  pointwise [val_main_v192, val_main_v191, val_main_v190, val_main_v189, val_main_v188, val_main_v187, val_main_v186,
    v174_at, v176_at, v177_at, v178_at]

theorem v196_at (b : Fin 4) (n : Fin 4096) (h : Fin 8) (p : Fin 32) :
    val_main_v196 (F := Ideal) x0 x2 x3 x4 x5 x7 (ix4 b n h p)
      = rot n (fun p => qS x4 x5 x7 (uL x0 x2 x3 b n) h ⟨64 + p.val, by omega⟩) p := by
  unfold rot swap
  by_cases hp : p.val % 16 < 8
  · have h1 : p.val / 8 % 2 < 1 := by omega
    rw [if_pos hp]
    pointwise [val_main_v196, val_main_v195, val_main_v194, val_main_v193, v185_at, v192_at, h1]
    have h2 : p.val / 16 * 16 + p.val % 8 = p.val := by omega
    have h3 : p.val / 16 * 16 + 8 + p.val % 8 = p.val / 16 * 16 + (p.val + 8) % 16 := by omega
    simp only [h2, h3, Fin.eta]
  · have h1 : ¬ p.val / 8 % 2 < 1 := by omega
    rw [if_neg hp]
    pointwise [val_main_v196, val_main_v195, val_main_v194, val_main_v193, v185_at, v192_at, h1]
    have h2 : p.val / 16 * 16 + p.val % 8 = p.val / 16 * 16 + (p.val + 8) % 16 := by omega
    have h3 : p.val / 16 * 16 + 8 + p.val % 8 = p.val := by omega
    simp only [h2, h3, Fin.eta]

theorem v103_at (b : Fin 4) (n : Fin 4096) (p : Fin 32) :
    val_main_v103 (F := Ideal) x0 x2 x3 x4 (ix3 b n p) = krS x4 (uL x0 x2 x3 b n) p := by
  unfold krS
  pointwise [val_main_v103, v32_at]

theorem v208_at (b : Fin 4) (n : Fin 4096) (a : Fin 2) (f : Fin 8) :
    val_main_v208 (F := Ideal) x0 x2 x3 x4 (ix4 b n a f) = krS x4 (uL x0 x2 x3 b n) ⟨a.val * 16 + f.val, by omega⟩ := by
  pointwise [val_main_v208, val_main_v207, val_main_v206, v103_at]

theorem v210_at (b : Fin 4) (n : Fin 4096) (a : Fin 2) (f : Fin 8) :
    val_main_v210 (F := Ideal) x0 x2 x3 x4 (ix4 b n a f) = krS x4 (uL x0 x2 x3 b n) ⟨a.val * 16 + 8 + f.val, by omega⟩ := by
  pointwise [val_main_v210, val_main_v209, val_main_v206, v103_at]

theorem v217_at (b : Fin 4) (n : Fin 4096) (a : Fin 2) (f : Fin 8) :
    val_main_v217 (F := Ideal) x0 x2 x3 x4 (ix4 b n a f)
      = krS x4 (uL x0 x2 x3 b n) ⟨a.val * 16 + f.val, by omega⟩ * Ideal.cos (ang n a f)
        - krS x4 (uL x0 x2 x3 b n) ⟨a.val * 16 + 8 + f.val, by omega⟩ * Ideal.sin (ang n a f) := by
  pointwise [val_main_v217, val_main_v216, val_main_v215, val_main_v214, val_main_v213, val_main_v212, val_main_v211,
    v208_at, v210_at, v170_at, v171_at]

theorem v224_at (b : Fin 4) (n : Fin 4096) (a : Fin 2) (f : Fin 8) :
    val_main_v224 (F := Ideal) x0 x2 x3 x4 (ix4 b n a f)
      = krS x4 (uL x0 x2 x3 b n) ⟨a.val * 16 + f.val, by omega⟩ * Ideal.sin (ang n a f)
        + krS x4 (uL x0 x2 x3 b n) ⟨a.val * 16 + 8 + f.val, by omega⟩ * Ideal.cos (ang n a f) := by
  pointwise [val_main_v224, val_main_v223, val_main_v222, val_main_v221, val_main_v220, val_main_v219, val_main_v218,
    v208_at, v210_at, v170_at, v171_at]

theorem v228_at (b : Fin 4) (n : Fin 4096) (p : Fin 32) :
    val_main_v228 (F := Ideal) x0 x2 x3 x4 (ix3 b n p) = rot n (krS x4 (uL x0 x2 x3 b n)) p := by
  unfold rot swap
  by_cases hp : p.val % 16 < 8
  · have h1 : p.val / 8 % 2 < 1 := by omega
    rw [if_pos hp]
    pointwise [val_main_v228, val_main_v227, val_main_v226, val_main_v225, v217_at, v224_at, h1]
    have h2 : p.val / 16 * 16 + p.val % 8 = p.val := by omega
    have h3 : p.val / 16 * 16 + 8 + p.val % 8 = p.val / 16 * 16 + (p.val + 8) % 16 := by omega
    simp only [h2, h3, Fin.eta]
  · have h1 : ¬ p.val / 8 % 2 < 1 := by omega
    rw [if_neg hp]
    pointwise [val_main_v228, val_main_v227, val_main_v226, val_main_v225, v217_at, v224_at, h1]
    have h2 : p.val / 16 * 16 + p.val % 8 = p.val / 16 * 16 + (p.val + 8) % 16 := by omega
    have h3 : p.val / 16 * 16 + 8 + p.val % 8 = p.val := by omega
    simp only [h2, h3, Fin.eta]

end Cert.InProj

end
-- ==== Proof.InFinal.lean ====
/- The in-projection call's result arrays after the run, from the arrays that the call is given. -/
module

public import proofs.«01_k».proof.Proof.InBlocks

@[expose] public section

set_option maxRecDepth 16384

noncomputable section

namespace Cert.InProj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Where each grid point's blocks lie that move with the point. -/
theorem idx_moves : ∀ t : Fin grid0.N,
    (win0_19.index t 0 < 4 ∧ win0_19.index t 1 < 17 ∧ (grid0.coords t 1).val = win0_19.index t 1)
    ∧ (win0_0.index t 0 = win0_19.index t 0 ∧ win0_0.index t 1 = win0_19.index t 1 ∧ win0_0.index t 2 = 0)
    ∧ (win0_1.index t 0 = win0_19.index t 0 ∧ win0_1.index t 1 = win0_19.index t 1 * 32 - 1 ∧ win0_1.index t 2 = 0)
    ∧ (win0_2.index t 0 = win0_19.index t 0 ∧ win0_2.index t 1 = min (win0_19.index t 1 * 32 + 32) 543 ∧ win0_2.index t 2 = 0)
    ∧ (win0_3.index t 0 = 0 ∧ win0_3.index t 1 = win0_19.index t 0 ∧ win0_3.index t 2 = win0_19.index t 1 / 16
        ∧ win0_3.index t 3 = 0 ∧ win0_3.index t 4 = 0)
    ∧ (win0_5.index t 0 = 0 ∧ win0_5.index t 1 = win0_19.index t 1 ∧ win0_5.index t 2 = 0)
    ∧ (win0_19.index t 2 = 0)
    ∧ (win0_20.index t 0 = win0_19.index t 0 ∧ win0_20.index t 1 = win0_19.index t 1 ∧ win0_20.index t 2 = 0)
    ∧ (win0_21.index t 0 = win0_19.index t 0 ∧ win0_21.index t 1 = 0 ∧ win0_21.index t 2 = win0_19.index t 1
        ∧ win0_21.index t 3 = 0)
    ∧ (win0_22.index t 0 = win0_19.index t 0 ∧ win0_22.index t 1 = 0 ∧ win0_22.index t 2 = win0_19.index t 1
        ∧ win0_22.index t 3 = 0)
    ∧ (win0_23.index t 0 = win0_19.index t 0 ∧ win0_23.index t 1 = 0 ∧ win0_23.index t 2 = win0_19.index t 1
        ∧ win0_23.index t 3 = 0) := by
  decide +kernel

/-- The blocks that every grid point takes from the same place. -/
theorem idx_stays : ∀ t : Fin grid0.N, ∀ a : Fin 3,
    win0_4.index t a = 0 ∧ win0_6.index t a = 0 ∧ win0_7.index t a = 0 ∧ win0_8.index t a = 0 ∧ win0_9.index t a = 0
    ∧ win0_10.index t a = 0 ∧ win0_11.index t a = 0 ∧ win0_12.index t a = 0 ∧ win0_13.index t a = 0 ∧ win0_14.index t a = 0
    ∧ win0_15.index t a = 0 ∧ win0_16.index t a = 0 ∧ win0_17.index t a = 0 ∧ win0_18.index t a = 0 := by
  decide +kernel

/-- A grid point's sequence. -/
def tb (t : Fin grid0.N) : Fin 4 := ⟨win0_19.index t 0, (idx_moves t).1.1⟩

/-- A grid point's tile of rows. -/
def tn (t : Fin grid0.N) : Fin 17 := ⟨win0_19.index t 1, (idx_moves t).1.2.1⟩

/-- A row of a grid point's tile among the rows of the sequence. -/
def tr (t : Fin grid0.N) (r : Fin 256) : Fin 4352 := ⟨(tn t).val * 256 + r.val, by omega⟩

theorem blk0_at (t : Fin grid0.N) (r : Fin 256) (e : Fin 1024) :
    iblk m c 0 t (ix3 0 r e) = V m c main_v121 (ix3 (tb t) (tr t r) e) := by
  obtain ⟨h0, h1, h2⟩ := (idx_moves t).2.1
  refine congrArg (V m c main_v121) (funext fun a => Fin.ext ?_)
  match a with
  | 0 => exact (Pipeline.Window.rect_emb_val win0_0 t (ix3 0 r e) 0 rfl).trans (by rw [h0]; exact Nat.mul_one _)
  | 1 => exact (Pipeline.Window.rect_emb_val win0_0 t (ix3 0 r e) 1 rfl).trans (by rw [h1]; rfl)
  | 2 => exact (Pipeline.Window.rect_emb_val win0_0 t (ix3 0 r e) 2 rfl).trans (by rw [h2]; exact Nat.zero_add _)

/-- The rows just before and just after the tile, at the edges of their blocks. -/
theorem blk1_at (t : Fin grid0.N) (e : Fin 1024) (h : 0 < (tn t).val) :
    iblk m c 1 t (ix3 0 7 e) = V m c main_v121 (ix3 (tb t) ⟨(tn t).val * 256 - 1, by omega⟩ e) := by
  obtain ⟨h0, h1, h2⟩ := (idx_moves t).2.2.1
  refine congrArg (V m c main_v121) (funext fun a => Fin.ext ?_)
  match a with
  | 0 => exact (Pipeline.Window.rect_emb_val win0_1 t (ix3 0 7 e) 0 rfl).trans (by rw [h0]; exact Nat.mul_one _)
  | 1 =>
    refine (Pipeline.Window.rect_emb_val win0_1 t (ix3 0 7 e) 1 rfl).trans ?_
    rw [h1]
    show (win0_19.index t 1 * 32 - 1) * 8 + 7 = win0_19.index t 1 * 256 - 1
    have : 0 < win0_19.index t 1 := h
    omega
  | 2 => exact (Pipeline.Window.rect_emb_val win0_1 t (ix3 0 7 e) 2 rfl).trans (by rw [h2]; exact Nat.zero_add _)

theorem blk2_at (t : Fin grid0.N) (e : Fin 1024) (h : (tn t).val < 16) :
    iblk m c 2 t (ix3 0 0 e) = V m c main_v121 (ix3 (tb t) ⟨(tn t).val * 256 + 256, by omega⟩ e) := by
  obtain ⟨h0, h1, h2⟩ := (idx_moves t).2.2.2.1
  refine congrArg (V m c main_v121) (funext fun a => Fin.ext ?_)
  match a with
  | 0 => exact (Pipeline.Window.rect_emb_val win0_2 t (ix3 0 0 e) 0 rfl).trans (by rw [h0]; exact Nat.mul_one _)
  | 1 =>
    refine (Pipeline.Window.rect_emb_val win0_2 t (ix3 0 0 e) 1 rfl).trans ?_
    rw [h1]
    show min (win0_19.index t 1 * 32 + 32) 543 * 8 + 0 = win0_19.index t 1 * 256 + 256
    have : win0_19.index t 1 < 16 := h
    omega
  | 2 => exact (Pipeline.Window.rect_emb_val win0_2 t (ix3 0 0 e) 2 rfl).trans (by rw [h2]; exact Nat.zero_add _)

/-- The modulation of the latent rows (first) or of the context's (second). -/
theorem blk3_at (t : Fin grid0.N) (k : Fin 6) (e : Fin 1024) :
    iblk m c 3 t (ix5 0 0 0 k e) = V m c main_v120 (ix5 0 (tb t) ⟨(tn t).val / 16, by omega⟩ k e) := by
  obtain ⟨h0, h1, h2, h3, h4⟩ := (idx_moves t).2.2.2.2.1
  refine congrArg (V m c main_v120) (funext fun a => Fin.ext ?_)
  match a with
  | 0 => exact (Pipeline.Window.rect_emb_val win0_3 t (ix5 0 0 0 k e) 0 rfl).trans (by rw [h0]; rfl)
  | 1 => exact (Pipeline.Window.rect_emb_val win0_3 t (ix5 0 0 0 k e) 1 rfl).trans (by rw [h1]; exact Nat.mul_one _)
  | 2 => exact (Pipeline.Window.rect_emb_val win0_3 t (ix5 0 0 0 k e) 2 rfl).trans (by rw [h2]; exact Nat.mul_one _)
  | 3 => exact (Pipeline.Window.rect_emb_val win0_3 t (ix5 0 0 0 k e) 3 rfl).trans (by rw [h3]; exact Nat.zero_add _)
  | 4 => exact (Pipeline.Window.rect_emb_val win0_3 t (ix5 0 0 0 k e) 4 rfl).trans (by rw [h4]; exact Nat.zero_add _)

theorem blk5_at (t : Fin grid0.N) (p : Fin 4) (r : Fin 256) (e : Fin 128) :
    iblk m c 5 t (ix3 p r e) = V m c main_v113 (ix3 p (tr t r) e) := by
  obtain ⟨h0, h1, h2⟩ := (idx_moves t).2.2.2.2.2.1
  refine congrArg (V m c main_v113) (funext fun a => Fin.ext ?_)
  match a with
  | 0 => exact (Pipeline.Window.rect_emb_val win0_5 t (ix3 p r e) 0 rfl).trans (by rw [h0]; exact Nat.zero_add _)
  | 1 => exact (Pipeline.Window.rect_emb_val win0_5 t (ix3 p r e) 1 rfl).trans (by rw [h1]; rfl)
  | 2 => exact (Pipeline.Window.rect_emb_val win0_5 t (ix3 p r e) 2 rfl).trans (by rw [h2]; exact Nat.zero_add _)

theorem stays_at {i s x y : ℕ} (hi : i = 0) (h : x = y) : i * s + x = y := by rw [hi, Nat.zero_mul, Nat.zero_add, h]

theorem blk4_at (t : Fin grid0.N) (e : Fin 1024) :
    iblk m c 4 t (ix3 0 0 e) = V m c main_v122 (ix3 0 0 e) :=
  congrArg (V m c main_v122) (funext fun a => Fin.ext ((Pipeline.Window.rect_emb_val win0_4 t (ix3 0 0 e) a rfl).trans
    (stays_at (idx_stays t a).1 (by match a with | 0 | 1 | 2 => rfl))))

theorem blk6_at (t : Fin grid0.N) (e : Fin 384) :
    iblk m c 6 t (ix3 0 0 e) = V m c main_v123 (ix3 0 0 e) :=
  congrArg (V m c main_v123) (funext fun a => Fin.ext ((Pipeline.Window.rect_emb_val win0_6 t (ix3 0 0 e) a rfl).trans
    (stays_at (idx_stays t a).2.1 (by match a with | 0 | 1 | 2 => rfl))))

theorem blk7_at (t : Fin grid0.N) (e : Fin 256) :
    iblk m c 7 t (ix3 0 0 e) = V m c main_v124 (ix3 0 0 e) :=
  congrArg (V m c main_v124) (funext fun a => Fin.ext ((Pipeline.Window.rect_emb_val win0_7 t (ix3 0 0 e) a rfl).trans
    (stays_at (idx_stays t a).2.2.1 (by match a with | 0 | 1 | 2 => rfl))))

theorem blk8_at (t : Fin grid0.N) (r : Fin 3) (e : Fin 1536) :
    iblk m c 8 t (ix3 0 r e) = V m c main_arg9 (ix3 0 r e) :=
  congrArg (V m c main_arg9) (funext fun a => Fin.ext ((Pipeline.Window.rect_emb_val win0_8 t (ix3 0 r e) a rfl).trans
    (stays_at (idx_stays t a).2.2.2.1 (by match a with | 0 | 1 | 2 => rfl))))

theorem blk9_at (t : Fin grid0.N) (e : Fin 1536) :
    iblk m c 9 t (ix3 0 0 e) = V m c main_v125 (ix3 0 0 e) :=
  congrArg (V m c main_v125) (funext fun a => Fin.ext ((Pipeline.Window.rect_emb_val win0_9 t (ix3 0 0 e) a rfl).trans
    (stays_at (idx_stays t a).2.2.2.2.1 (by match a with | 0 | 1 | 2 => rfl))))

theorem blk10_at (t : Fin grid0.N) (r : Fin 1024) (e : Fin 1536) :
    iblk m c 10 t (ix3 0 r e) = V m c main_v34 (ix3 0 r e) :=
  congrArg (V m c main_v34) (funext fun a => Fin.ext ((Pipeline.Window.rect_emb_val win0_10 t (ix3 0 r e) a rfl).trans
    (stays_at (idx_stays t a).2.2.2.2.2.1 (by match a with | 0 | 1 | 2 => rfl))))

theorem blk11_at (t : Fin grid0.N) (r : Fin 1024) (e : Fin 2048) :
    iblk m c 11 t (ix3 0 r e) = V m c main_v36 (ix3 0 r e) :=
  congrArg (V m c main_v36) (funext fun a => Fin.ext ((Pipeline.Window.rect_emb_val win0_11 t (ix3 0 r e) a rfl).trans
    (stays_at (idx_stays t a).2.2.2.2.2.2.1 (by match a with | 0 | 1 | 2 => rfl))))

theorem blk12_at (t : Fin grid0.N) (r : Fin 1024) (e : Fin 384) :
    iblk m c 12 t (ix3 0 r e) = V m c main_v38 (ix3 0 r e) :=
  congrArg (V m c main_v38) (funext fun a => Fin.ext ((Pipeline.Window.rect_emb_val win0_12 t (ix3 0 r e) a rfl).trans
    (stays_at (idx_stays t a).2.2.2.2.2.2.2.1 (by match a with | 0 | 1 | 2 => rfl))))

theorem blk13_at (t : Fin grid0.N) (r : Fin 1024) (e : Fin 256) :
    iblk m c 13 t (ix3 0 r e) = V m c main_v40 (ix3 0 r e) :=
  congrArg (V m c main_v40) (funext fun a => Fin.ext ((Pipeline.Window.rect_emb_val win0_13 t (ix3 0 r e) a rfl).trans
    (stays_at (idx_stays t a).2.2.2.2.2.2.2.2.1 (by match a with | 0 | 1 | 2 => rfl))))

theorem blk14_at (t : Fin grid0.N) (r : Fin 1024) (e : Fin 256) :
    iblk m c 14 t (ix3 0 r e) = V m c main_v41 (ix3 0 r e) :=
  congrArg (V m c main_v41) (funext fun a => Fin.ext ((Pipeline.Window.rect_emb_val win0_14 t (ix3 0 r e) a rfl).trans
    (stays_at (idx_stays t a).2.2.2.2.2.2.2.2.2.1 (by match a with | 0 | 1 | 2 => rfl))))

theorem blk15_at (t : Fin grid0.N) (r : Fin 384) (e : Fin 1024) :
    iblk m c 15 t (ix3 0 r e) = V m c main_v42 (ix3 0 r e) :=
  congrArg (V m c main_v42) (funext fun a => Fin.ext ((Pipeline.Window.rect_emb_val win0_15 t (ix3 0 r e) a rfl).trans
    (stays_at (idx_stays t a).2.2.2.2.2.2.2.2.2.2.1 (by match a with | 0 | 1 | 2 => rfl))))

theorem blk16_at (t : Fin grid0.N) (r : Fin 384) (e : Fin 1024) :
    iblk m c 16 t (ix3 0 r e) = V m c main_v43 (ix3 0 r e) :=
  congrArg (V m c main_v43) (funext fun a => Fin.ext ((Pipeline.Window.rect_emb_val win0_16 t (ix3 0 r e) a rfl).trans
    (stays_at (idx_stays t a).2.2.2.2.2.2.2.2.2.2.2.1 (by match a with | 0 | 1 | 2 => rfl))))

theorem blk17_at (t : Fin grid0.N) (r : Fin 256) (e : Fin 1024) :
    iblk m c 17 t (ix3 0 r e) = V m c main_v44 (ix3 0 r e) :=
  congrArg (V m c main_v44) (funext fun a => Fin.ext ((Pipeline.Window.rect_emb_val win0_17 t (ix3 0 r e) a rfl).trans
    (stays_at (idx_stays t a).2.2.2.2.2.2.2.2.2.2.2.2.1 (by match a with | 0 | 1 | 2 => rfl))))

theorem blk18_at (t : Fin grid0.N) (r : Fin 256) (e : Fin 1024) :
    iblk m c 18 t (ix3 0 r e) = V m c main_v45 (ix3 0 r e) :=
  congrArg (V m c main_v45) (funext fun a => Fin.ext ((Pipeline.Window.rect_emb_val win0_18 t (ix3 0 r e) a rfl).trans
    (stays_at (idx_stays t a).2.2.2.2.2.2.2.2.2.2.2.2.2 (by match a with | 0 | 1 | 2 => rfl))))

/-- The modulated row `s` of sequence `b`. -/
def rowV (b : Fin 4) (s : Fin 4352) (k : Fin 1024) : EReal :=
  modRow (fun e => V m c main_v121 (ix3 b s e)) (fun e => V m c main_v122 (ix3 0 0 e))
    (fun e => V m c main_v120 (ix5 0 b ⟨s.val / 4096, by omega⟩ 0 e))
    (fun e => V m c main_v120 (ix5 0 b ⟨s.val / 4096, by omega⟩ 1 e)) k

/-- Its query latent. -/
def cqV (b : Fin 4) (s : Fin 4352) (e : Fin 384) : EReal :=
  rms n384 (mul (rowV m c b s) fun k e => V m c main_v38 (ix3 0 k e)) (fun e => V m c main_v123 (ix3 0 0 e)) e

/-- Its key and value latent. -/
def ckvV (b : Fin 4) (s : Fin 4352) (e : Fin 256) : EReal :=
  rms n256 (mul (rowV m c b s) fun k e => V m c main_v40 (ix3 0 k e)) (fun e => V m c main_v124 (ix3 0 0 e)) e

/-- Its rotary key, in the place of the query lanes that it meets. -/
def krV (b : Fin 4) (s : Fin 4352) (l : Fin 128) : EReal :=
  mul (rowV m c b s) (fun k j => V m c main_v41 (ix3 0 k j)) ⟨l.val, by omega⟩ * V m c main_v113 (ix3 2 s l)
    + mul (rowV m c b s) (fun k j => V m c main_v41 (ix3 0 k j)) ⟨128 + l.val, by omega⟩ * V m c main_v113 (ix3 3 s l)

/-- Three taps and a bias. -/
def conv3 (b p0 w0 p1 w1 p2 w2 : EReal) : EReal := b + p0 * w0 + p1 * w1 + p2 * w2

def uhyV (b : Fin 4) (s : Fin 4352) (j : Fin 1536) : EReal :=
  conv3 (V m c main_v125 (ix3 0 0 j))
    (if _h : s.val = 0 ∨ s.val = 4096 then 0
      else mul (rowV m c b ⟨s.val - 1, by omega⟩) (fun k j => V m c main_v34 (ix3 0 k j)) j) (V m c main_arg9 (ix3 0 0 j))
    (mul (rowV m c b s) (fun k j => V m c main_v34 (ix3 0 k j)) j) (V m c main_arg9 (ix3 0 1 j))
    (if h : s.val = 4095 ∨ s.val = 4351 then 0
      else mul (rowV m c b ⟨s.val + 1, by omega⟩) (fun k j => V m c main_v34 (ix3 0 k j)) j) (V m c main_arg9 (ix3 0 2 j))

def sgV (b : Fin 4) (s : Fin 4352) (j : Fin 2048) : EReal :=
  Ideal.logistic (mul (rowV m c b s) (fun k j => V m c main_v36 (ix3 0 k j)) j)

def qV (b : Fin 4) (h : Fin 8) (s : Fin 4352) (l : Fin 128) : EReal :=
  mul (cqV m c b s) (fun e j => V m c main_v42 (ix3 0 e j)) (col h l) * V m c main_v113 (ix3 0 s l)
    + mul (cqV m c b s) (fun e j => V m c main_v43 (ix3 0 e j)) (col h l) * V m c main_v113 (ix3 1 s l)

def kV (b : Fin 4) (h : Fin 8) (s : Fin 4352) (l : Fin 128) : EReal :=
  mul (ckvV m c b s) (fun e j => V m c main_v44 (ix3 0 e j)) (col h l) + krV m c b s l

def vV (b : Fin 4) (h : Fin 8) (s : Fin 4352) (l : Fin 128) : EReal :=
  mul (ckvV m c b s) (fun e j => V m c main_v45 (ix3 0 e j)) (col h l) + if l.val = 64 then 1 else 0

theorem rowB_at (t : Fin grid0.N) (s : Fin 4352) (x : Fin 1024 → EReal) (k : Fin 1024)
    (hx : x = fun e => V m c main_v121 (ix3 (tb t) s e)) (hs : (tn t).val / 16 = s.val / 4096) :
    rowB (iblk m c 3 t) (iblk m c 4 t) x k = rowV m c (tb t) s k := by
  unfold rowB rowV
  simp only [blk3_at, blk4_at, hs, hx]

theorem uB_at (t : Fin grid0.N) (r : Fin 256) :
    uB (iblk m c 0 t) (iblk m c 3 t) (iblk m c 4 t) r = rowV m c (tb t) (tr t r) := by
  funext k
  exact rowB_at m c t (tr t r) _ k (funext fun e => blk0_at m c t r e) (by simp only [tr]; omega)

theorem cqB_at (t : Fin grid0.N) (r : Fin 256) :
    cqB (iblk m c 0 t) (iblk m c 3 t) (iblk m c 4 t) (iblk m c 6 t) (iblk m c 12 t) r = cqV m c (tb t) (tr t r) := by
  funext e
  unfold cqB cqV
  simp only [uB_at, blk6_at, blk12_at]

theorem ckvB_at (t : Fin grid0.N) (r : Fin 256) :
    ckvB (iblk m c 0 t) (iblk m c 3 t) (iblk m c 4 t) (iblk m c 7 t) (iblk m c 13 t) r = ckvV m c (tb t) (tr t r) := by
  funext e
  unfold ckvB ckvV
  simp only [uB_at, blk7_at, blk13_at]

theorem krB_at (t : Fin grid0.N) (r : Fin 256) (l : Fin 128) :
    krB (iblk m c 0 t) (iblk m c 3 t) (iblk m c 4 t) (iblk m c 5 t) (iblk m c 14 t) r l = krV m c (tb t) (tr t r) l := by
  unfold krB krV
  simp only [uB_at, blk5_at, blk14_at]

/-- One row of the short convolution. -/
theorem uhy_step (t : Fin grid0.N) (r : Fin 256) (j : Fin 1536) :
    conv3 (iblk m c 9 t (ix3 0 0 j))
        (if _h : r.val = 0 then if (tn t).val = 0 ∨ (tn t).val = 16 then 0
            else mul (rowB (iblk m c 3 t) (iblk m c 4 t) fun e => iblk m c 1 t (ix3 0 7 e)) (fun k j => iblk m c 10 t (ix3 0 k j)) j
          else mul (uB (iblk m c 0 t) (iblk m c 3 t) (iblk m c 4 t) ⟨r.val - 1, by omega⟩)
            (fun k j => iblk m c 10 t (ix3 0 k j)) j) (iblk m c 8 t (ix3 0 0 j))
        (mul (uB (iblk m c 0 t) (iblk m c 3 t) (iblk m c 4 t) r) (fun k j => iblk m c 10 t (ix3 0 k j)) j)
        (iblk m c 8 t (ix3 0 1 j))
        (if h : r.val = 255 then if (tn t).val = 15 ∨ (tn t).val = 16 then 0
            else mul (rowB (iblk m c 3 t) (iblk m c 4 t) fun e => iblk m c 2 t (ix3 0 0 e)) (fun k j => iblk m c 10 t (ix3 0 k j)) j
          else mul (uB (iblk m c 0 t) (iblk m c 3 t) (iblk m c 4 t) ⟨r.val + 1, by omega⟩)
            (fun k j => iblk m c 10 t (ix3 0 k j)) j) (iblk m c 8 t (ix3 0 2 j))
      = uhyV m c (tb t) (tr t r) j := by
  have hn := (tn t).isLt
  have hr := r.isLt
  have hs : (tr t r).val = (tn t).val * 256 + r.val := rfl
  unfold uhyV
  simp only [uB_at, blk8_at, blk9_at, blk10_at]
  refine congrArg₂ (fun x y => conv3 _ x _ _ _ y _) ?_ ?_
  · by_cases h0 : r.val = 0
    · rw [dif_pos h0]
      by_cases h1 : (tn t).val = 0 ∨ (tn t).val = 16
      · rw [if_pos h1, dif_pos (by omega)]
      · rw [if_neg h1, dif_neg (by omega)]
        refine congrArg (fun u => mul u (fun k j => V m c main_v34 (ix3 0 k j)) j) (funext fun k => ?_)
        refine rowB_at m c t _ _ k (funext fun e => (blk1_at m c t e (by omega)).trans ?_) (by simp only; omega)
        exact congrArg (fun s => V m c main_v121 (ix3 (tb t) s e)) (Fin.ext (by simp only; omega))
    · rw [dif_neg h0, dif_neg (by omega)]
      exact congrArg (fun s => mul (rowV m c (tb t) s) (fun k j => V m c main_v34 (ix3 0 k j)) j)
        (Fin.ext (by simp only [tr]; omega))
  · by_cases h0 : r.val = 255
    · rw [dif_pos h0]
      by_cases h1 : (tn t).val = 15 ∨ (tn t).val = 16
      · rw [if_pos h1, dif_pos (by omega)]
      · rw [if_neg h1, dif_neg (by omega)]
        refine congrArg (fun u => mul u (fun k j => V m c main_v34 (ix3 0 k j)) j) (funext fun k => ?_)
        refine rowB_at m c t _ _ k (funext fun e => (blk2_at m c t e (by omega)).trans ?_) (by simp only; omega)
        exact congrArg (fun s => V m c main_v121 (ix3 (tb t) s e)) (Fin.ext (by simp only; omega))
    · rw [dif_neg h0, dif_neg (by omega)]
      exact congrArg (fun s => mul (rowV m c (tb t) s) (fun k j => V m c main_v34 (ix3 0 k j)) j)
        (Fin.ext (by simp only [tr]; omega))

end Cert.InProj

end
-- ==== Proof.InOut.lean ====
/- The in-projection's reference at an index: its five results. -/
module

public import proofs.«01_k».proof.Proof.InRot
public import proofs.«01_k».proof.Proof.InFinal
public import Idealize.ShloMosaic.Lib.KernelVsHost

@[expose] public section

set_option maxRecDepth 16384

noncomputable section

namespace Cert.InProj

open Cert.Reference2Ideal Cert.Reference2Ideal.Gen Cert.Reference2Ideal.Read Idealize.ShloMosaic

variable (x0 : FVec Ideal S4x4096x1024 .f32) (x1 : FVec Ideal S4x256x1024 .f32)
  (x2 : FVec Ideal S4x8x6144 .f32) (x3 : FVec Ideal S4x1024 .f32) (x4 : FVec Ideal S4x1024x4256 .f32)
  (x5 : FVec Ideal S4x384 .f32) (x6 : FVec Ideal S4x256 .f32) (x7 : FVec Ideal S4x384x768 .f32) (x8 : FVec Ideal S4x256x1024 .f32)
  (x9 : FVec Ideal S4x3x1536 .f32) (x10 : FVec Ideal S4x1536 .f32)

/-- A query row: the lanes without a rotation, the rotated ones, the ones that meet the context. -/
def qLat (u : Fin 1024 → EReal) (n : Fin 4096) (h : Fin 8) (l : Fin 128) : EReal :=
  if h0 : l.val < 64 then qS x4 x5 x7 u h ⟨l.val, by omega⟩
  else if h1 : l.val < 96 then rot n (fun p => qS x4 x5 x7 u h ⟨64 + p.val, by omega⟩) ⟨l.val - 64, by omega⟩
  else qS x4 x5 x7 u h ⟨l.val - 32, by omega⟩

/-- A context token's, with nothing rotated. -/
def qCtx (u : Fin 1024 → EReal) (h : Fin 8) (l : Fin 128) : EReal :=
  qS x4 x5 x7 u h ⟨if l.val < 96 then l.val else l.val - 32, by split <;> omega⟩

/-- A key row. -/
def kLat (u : Fin 1024 → EReal) (n : Fin 4096) (h : Fin 8) (l : Fin 128) : EReal :=
  if h0 : l.val < 64 then kvS x4 x6 x8 u h ⟨l.val, by omega⟩
  else if h1 : l.val < 96 then rot n (krS x4 u) ⟨l.val - 64, by omega⟩ else 0

def kCtx (u : Fin 1024 → EReal) (h : Fin 8) (l : Fin 128) : EReal :=
  if h0 : l.val < 64 then kvS x4 x6 x8 u h ⟨l.val, by omega⟩
  else if h1 : l.val < 96 then 0 else krS x4 u ⟨l.val - 96, by omega⟩

/-- A value row, with its lane of ones. -/
def vRow (u : Fin 1024 → EReal) (h : Fin 8) (l : Fin 128) : EReal :=
  if h0 : l.val < 64 then kvS x4 x6 x8 u h ⟨64 + l.val, by omega⟩ else if l.val = 64 then 1 else 0

theorem v197_at (b : Fin 4) (n : Fin 4096) (h : Fin 8) (l : Fin 128) :
    val_main_v197 (F := Ideal) x0 x2 x3 x4 x5 x7 (ix4 b n h l) = qLat x4 x5 x7 (uL x0 x2 x3 b n) n h l := by
  unfold qLat
  by_cases h0 : l.val < 64
  · rw [dif_pos h0]
    pointwise [val_main_v197, val_main_v99, v79_at, h0]
  · rw [dif_neg h0]
    by_cases h1 : l.val < 96
    · have h2 : l.val - 64 < 32 := by omega
      rw [dif_pos h1]
      pointwise [val_main_v197, v196_at, h0, h2]
    · have h2 : ¬ l.val - 64 < 32 := by omega
      rw [dif_neg h1]
      pointwise [val_main_v197, v100_at, h0, h2]
      exact congrArg (qS x4 x5 x7 _ h) (Fin.ext (by simp only; omega))

theorem v198_at (b : Fin 4) (n : Fin 256) (h : Fin 8) (l : Fin 128) :
    val_main_v198 (F := Ideal) x1 x2 x3 x4 x5 x7 (ix4 b n h l) = qCtx x4 x5 x7 (uC x1 x2 x3 b n) h l := by
  unfold qCtx
  by_cases h0 : l.val < 64
  · have h3 : l.val < 96 := by omega
    simp only [h3, if_true]
    pointwise [val_main_v198, val_main_v144, v124_at, h0]
  · by_cases h1 : l.val < 96
    · have h2 : l.val - 64 < 32 := by omega
      simp only [h1, if_true]
      pointwise [val_main_v198, val_main_v145, v124_at, h0, h2]
      exact congrArg (qS x4 x5 x7 _ h) (Fin.ext (by simp only; omega))
    · have h2 : ¬ l.val - 64 < 32 := by omega
      simp only [h1, if_false]
      pointwise [val_main_v198, val_main_v145, v124_at, h0, h2]
      exact congrArg (qS x4 x5 x7 _ h) (Fin.ext (by simp only; omega))

theorem v232_at (b : Fin 4) (n : Fin 4096) (h : Fin 8) (l : Fin 128) :
    val_main_v232 (F := Ideal) x0 x2 x3 x4 x6 x8 (ix4 b n h l) = kLat x4 x6 x8 (uL x0 x2 x3 b n) n h l := by
  unfold kLat
  by_cases h0 : l.val < 64
  · rw [dif_pos h0]
    pointwise [val_main_v232, val_main_v101, v98_at, h0]
  · rw [dif_neg h0]
    by_cases h1 : l.val < 96
    · have h2 : l.val - 64 < 32 := by omega
      rw [dif_pos h1]
      pointwise [val_main_v232, val_main_v230, val_main_v229, v228_at, h0, h2]
    · have h2 : ¬ l.val - 64 < 32 := by omega
      rw [dif_neg h1]
      pointwise [val_main_v232, val_main_v231, val_main_cst_23, h0, h2]

theorem v236_at (b : Fin 4) (n : Fin 256) (h : Fin 8) (l : Fin 128) :
    val_main_v236 (F := Ideal) x1 x2 x3 x4 x6 x8 (ix4 b n h l) = kCtx x4 x6 x8 (uC x1 x2 x3 b n) h l := by
  unfold kCtx krS
  by_cases h0 : l.val < 64
  · rw [dif_pos h0]
    pointwise [val_main_v236, val_main_v146, v143_at, h0]
  · rw [dif_neg h0]
    by_cases h1 : l.val < 96
    · have h2 : l.val - 64 < 32 := by omega
      rw [dif_pos h1]
      pointwise [val_main_v236, val_main_v233, val_main_cst_24, h0, h2]
    · have h2 : ¬ l.val - 64 < 32 := by omega
      rw [dif_neg h1]
      pointwise [val_main_v236, val_main_v235, val_main_v234, val_main_v148, v58_at, h0, h2]
      exact congrArg (pS x4 _) (Fin.ext (by simp only; omega))

theorem v241_at (b : Fin 4) (n : Fin 4096) (h : Fin 8) (l : Fin 128) :
    val_main_v241 (F := Ideal) x0 x2 x3 x4 x6 x8 (ix4 b n h l) = vRow x4 x6 x8 (uL x0 x2 x3 b n) h l := by
  unfold vRow
  by_cases h0 : l.val < 64
  · rw [dif_pos h0]
    pointwise [val_main_v241, val_main_v102, v98_at, h0]
  · rw [dif_neg h0]
    by_cases h1 : l.val = 64
    · have h2 : l.val - 64 < 1 := by omega
      rw [if_pos h1]
      pointwise [val_main_v241, val_main_v239, val_main_cst_25, h0, h2]
    · have h2 : ¬ l.val - 64 < 1 := by omega
      rw [if_neg h1]
      pointwise [val_main_v241, val_main_v240, val_main_cst_26, h0, h2]

theorem v244_at (b : Fin 4) (n : Fin 256) (h : Fin 8) (l : Fin 128) :
    val_main_v244 (F := Ideal) x1 x2 x3 x4 x6 x8 (ix4 b n h l) = vRow x4 x6 x8 (uC x1 x2 x3 b n) h l := by
  unfold vRow
  by_cases h0 : l.val < 64
  · rw [dif_pos h0]
    pointwise [val_main_v244, val_main_v147, v143_at, h0]
  · rw [dif_neg h0]
    by_cases h1 : l.val = 64
    · have h2 : l.val - 64 < 1 := by omega
      rw [if_pos h1]
      pointwise [val_main_v244, val_main_v242, val_main_cst_27, h0, h2]
    · have h2 : ¬ l.val - 64 < 1 := by omega
      rw [if_neg h1]
      pointwise [val_main_v244, val_main_v243, val_main_cst_28, h0, h2]

/-- The divisor of the queries: `√96 · log 2`. -/
def den : EReal := Ideal.sqrt (Ideal.ofBits .f32 0x42C00000#32) * Ideal.log (Ideal.ofBits .f32 0x40000000#32)

theorem v204_at (i : S4x8x4352x128.Idx) : val_main_v204 (F := Ideal) i = den := by
  rw [val_main_v204_apply]
  rfl

theorem v316_lat (b : Fin 4) (h : Fin 8) (n : Fin 4096) (l : Fin 128) :
    val_main_v316 (F := Ideal) x0 x1 x2 x3 x4 x5 x7 (ix4 b h ⟨n.val, by omega⟩ l)
      = Ideal.div (qLat x4 x5 x7 (uL x0 x2 x3 b n) n h l) den := by
  pointwise [val_main_v316, val_main_v205, v204_at, val_main_v200, val_main_v199, v197_at]

theorem v316_ctx (b : Fin 4) (h : Fin 8) (n : Fin 256) (l : Fin 128) :
    val_main_v316 (F := Ideal) x0 x1 x2 x3 x4 x5 x7 (ix4 b h ⟨4096 + n.val, by omega⟩ l)
      = Ideal.div (qCtx x4 x5 x7 (uC x1 x2 x3 b n) h l) den := by
  pointwise [val_main_v316, val_main_v205, v204_at, val_main_v200, val_main_v199, v198_at]

theorem v317_lat (b : Fin 4) (h : Fin 8) (n : Fin 4096) (l : Fin 128) :
    val_main_v317 (F := Ideal) x0 x1 x2 x3 x4 x6 x8 (ix4 b h ⟨n.val, by omega⟩ l) = kLat x4 x6 x8 (uL x0 x2 x3 b n) n h l := by
  pointwise [val_main_v317, val_main_v238, val_main_v237, v232_at]

theorem v317_ctx (b : Fin 4) (h : Fin 8) (n : Fin 256) (l : Fin 128) :
    val_main_v317 (F := Ideal) x0 x1 x2 x3 x4 x6 x8 (ix4 b h ⟨4096 + n.val, by omega⟩ l)
      = kCtx x4 x6 x8 (uC x1 x2 x3 b n) h l := by
  pointwise [val_main_v317, val_main_v238, val_main_v237, v236_at]

theorem v318_lat (b : Fin 4) (h : Fin 8) (n : Fin 4096) (l : Fin 128) :
    val_main_v318 (F := Ideal) x0 x1 x2 x3 x4 x6 x8 (ix4 b h ⟨n.val, by omega⟩ l) = vRow x4 x6 x8 (uL x0 x2 x3 b n) h l := by
  pointwise [val_main_v318, val_main_v246, val_main_v245, v241_at]

theorem v318_ctx (b : Fin 4) (h : Fin 8) (n : Fin 256) (l : Fin 128) :
    val_main_v318 (F := Ideal) x0 x1 x2 x3 x4 x6 x8 (ix4 b h ⟨4096 + n.val, by omega⟩ l)
      = vRow x4 x6 x8 (uC x1 x2 x3 b n) h l := by
  pointwise [val_main_v318, val_main_v246, val_main_v245, v244_at]

theorem v315_lat (b : Fin 4) (n : Fin 4096) (j : Fin 2048) :
    val_main_v315 (F := Ideal) x0 x1 x2 x3 x4 (ix3 b ⟨n.val, by omega⟩ j)
      = Ideal.logistic (pS x4 (uL x0 x2 x3 b n) ⟨2208 + j.val, by omega⟩) := by
  unfold Ideal.logistic
  pointwise [val_main_v315, val_main_v314, val_main_v313, val_main_cst_31, val_main_v312, val_main_v311, val_main_cst_30,
    val_main_v310, val_main_v309, val_main_v308, val_main_v306, v32_at]

theorem v315_ctx (b : Fin 4) (n : Fin 256) (j : Fin 2048) :
    val_main_v315 (F := Ideal) x0 x1 x2 x3 x4 (ix3 b ⟨4096 + n.val, by omega⟩ j)
      = Ideal.logistic (pS x4 (uC x1 x2 x3 b n) ⟨2208 + j.val, by omega⟩) := by
  unfold Ideal.logistic
  pointwise [val_main_v315, val_main_v314, val_main_v313, val_main_cst_31, val_main_v312, val_main_v311, val_main_cst_30,
    val_main_v310, val_main_v309, val_main_v308, val_main_v307, v58_at]

/-- Zero, from the integer that pads. -/
theorem fill_zero (i : S_.Idx) : val_main_call0_v0 (F := Ideal) i = 0 := sitofp_zero (φ := .f32)

theorem fill_zero' (i : S_.Idx) : val_main_call1_v0 (F := Ideal) i = 0 := sitofp_zero (φ := .f32)

/-- The latents' rows with a row of zeros at either end. -/
theorem v252_at (b : Fin 4) (i : Fin 4098) (j : Fin 1536) :
    val_main_v252 (F := Ideal) x0 x2 x3 x4 (ix3 b i j)
      = if h : i.val = 0 ∨ i.val = 4097 then 0 else pS x4 (uL x0 x2 x3 b ⟨i.val - 1, by omega⟩) ⟨j.val, by omega⟩ := by
  by_cases h : i.val = 0 ∨ i.val = 4097
  · rw [dif_pos h]
    refine (pad_apply_of_not_inside _ _ _ _ _ _ _ _ 1 fun hi => ?_).trans (fill_zero _)
    have h1 : 1 ≤ i.val := hi.1
    have h2 : (i.val - 1) / 1 < 4096 := hi.2.2
    omega
  · rw [dif_neg h]
    refine (pad_apply_of_inside _ _ _ _ _ _ _ _ (ix3 b ⟨i.val - 1, by omega⟩ j) fun a => ?_).trans ?_
    · match a with
      | 0 => exact (Nat.zero_add _).symm.trans (congrArg (0 + ·) (Nat.mul_one _).symm)
      | 1 => exact show i.val = 1 + (i.val - 1) * 1 by omega
      | 2 => exact (Nat.zero_add _).symm.trans (congrArg (0 + ·) (Nat.mul_one _).symm)
    · pointwise [val_main_v247, v32_at]

/-- The context's, the same. -/
theorem v281_at (b : Fin 4) (i : Fin 258) (j : Fin 1536) :
    val_main_v281 (F := Ideal) x1 x2 x3 x4 (ix3 b i j)
      = if h : i.val = 0 ∨ i.val = 257 then 0 else pS x4 (uC x1 x2 x3 b ⟨i.val - 1, by omega⟩) ⟨j.val, by omega⟩ := by
  by_cases h : i.val = 0 ∨ i.val = 257
  · rw [dif_pos h]
    refine (pad_apply_of_not_inside _ _ _ _ _ _ _ _ 1 fun hi => ?_).trans (fill_zero' _)
    have h1 : 1 ≤ i.val := hi.1
    have h2 : (i.val - 1) / 1 < 256 := hi.2.2
    omega
  · rw [dif_neg h]
    refine (pad_apply_of_inside _ _ _ _ _ _ _ _ (ix3 b ⟨i.val - 1, by omega⟩ j) fun a => ?_).trans ?_
    · match a with
      | 0 => exact (Nat.zero_add _).symm.trans (congrArg (0 + ·) (Nat.mul_one _).symm)
      | 1 => exact show i.val = 1 + (i.val - 1) * 1 by omega
      | 2 => exact (Nat.zero_add _).symm.trans (congrArg (0 + ·) (Nat.mul_one _).symm)
    · pointwise [val_main_v276, v58_at]

theorem v305_lat (b : Fin 4) (n : Fin 4096) (j : Fin 1536) :
    val_main_v305 (F := Ideal) x0 x1 x2 x3 x4 x9 x10 (ix3 b ⟨n.val, by omega⟩ j)
      = conv3 (x10 (ix2 0 j))
        (val_main_v252 (F := Ideal) x0 x2 x3 x4 (ix3 b ⟨n.val, by omega⟩ j)) (x9 (ix3 0 0 j))
        (val_main_v252 (F := Ideal) x0 x2 x3 x4 (ix3 b ⟨1 + n.val, by omega⟩ j)) (x9 (ix3 0 1 j))
        (val_main_v252 (F := Ideal) x0 x2 x3 x4 (ix3 b ⟨2 + n.val, by omega⟩ j)) (x9 (ix3 0 2 j)) := by
  unfold conv3
  pointwise [val_main_v305, val_main_v275, val_main_v274, val_main_v273, val_main_v272, val_main_v271, val_main_v270,
    val_main_v269, val_main_v268, val_main_v267, val_main_v266, val_main_v265, val_main_v264, val_main_v263, val_main_v262,
    val_main_v261, val_main_v260, val_main_v259, val_main_v258, val_main_v257, val_main_v256, val_main_v255, val_main_v254,
    val_main_v253, val_main_v251, val_main_v250, val_main_v249, val_main_v248]

theorem v305_ctx (b : Fin 4) (n : Fin 256) (j : Fin 1536) :
    val_main_v305 (F := Ideal) x0 x1 x2 x3 x4 x9 x10 (ix3 b ⟨4096 + n.val, by omega⟩ j)
      = conv3 (x10 (ix2 0 j))
        (val_main_v281 (F := Ideal) x1 x2 x3 x4 (ix3 b ⟨n.val, by omega⟩ j)) (x9 (ix3 0 0 j))
        (val_main_v281 (F := Ideal) x1 x2 x3 x4 (ix3 b ⟨1 + n.val, by omega⟩ j)) (x9 (ix3 0 1 j))
        (val_main_v281 (F := Ideal) x1 x2 x3 x4 (ix3 b ⟨2 + n.val, by omega⟩ j)) (x9 (ix3 0 2 j)) := by
  unfold conv3
  pointwise [val_main_v305, val_main_v304, val_main_v303, val_main_v302, val_main_v301, val_main_v300, val_main_v299,
    val_main_v298, val_main_v297, val_main_v296, val_main_v295, val_main_v294, val_main_v293, val_main_v292, val_main_v291,
    val_main_v290, val_main_v289, val_main_v288, val_main_v287, val_main_v286, val_main_v285, val_main_v284, val_main_v283,
    val_main_v282, val_main_v280, val_main_v279, val_main_v278, val_main_v277]

end Cert.InProj

end
-- ==== Proof.InEntry.lean ====
/- What the in-projection call is given: the rows, modulations and weights that the host lines lay out. -/
module

public import proofs.«01_k».proof.Proof.InFinal
public import proofs.«01_k».proof.Proof.InWeights

@[expose] public section

set_option maxRecDepth 16384

noncomputable section

namespace Cert.InProj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- An argument array. -/
abbrev A (b : Ref sig .tc) : Buf (Elt Ideal) ((c : Thread nD τ).loc b) := m ((c : Thread nD τ).loc b)

theorem V_v34 : V m c main_v34 = (wCols (A m c main_arg4) 1536 0 slices_S4x1024x4256_S4x1024x1536_0_0_0 : FVec Ideal S4x1024x1536 .bf16) := by
  show StableHlo.after (List.flatten [hostOps0, hostOps0_1, hostOps0_2, hostOps0_3, hostOps0_4]) (fun b => m (c, b))
    (Proc.devRef .tc main_v34) = _
  unfold hostOps0 hostOps0_1 hostOps0_2 hostOps0_3 hostOps0_4
  after_results
  rfl

theorem V_v36 : V m c main_v36 = (wCols (A m c main_arg4) 2048 2208 slices_S4x1024x4256_S4x1024x2048_0_0_2208 : FVec Ideal S4x1024x2048 .bf16) := by
  show StableHlo.after (List.flatten [hostOps0, hostOps0_1, hostOps0_2, hostOps0_3, hostOps0_4]) (fun b => m (c, b))
    (Proc.devRef .tc main_v36) = _
  unfold hostOps0 hostOps0_1 hostOps0_2 hostOps0_3 hostOps0_4
  after_results
  rfl

theorem V_v38 : V m c main_v38 = (wCols (A m c main_arg4) 384 1536 slices_S4x1024x4256_S4x1024x384_0_0_1536 : FVec Ideal S4x1024x384 .bf16) := by
  show StableHlo.after (List.flatten [hostOps0, hostOps0_1, hostOps0_2, hostOps0_3, hostOps0_4]) (fun b => m (c, b))
    (Proc.devRef .tc main_v38) = _
  unfold hostOps0 hostOps0_1 hostOps0_2 hostOps0_3 hostOps0_4
  after_results
  rfl

theorem V_v40 : V m c main_v40 = (wCols (A m c main_arg4) 256 1920 slices_S4x1024x4256_S4x1024x256_0_0_1920 : FVec Ideal S4x1024x256 .bf16) := by
  show StableHlo.after (List.flatten [hostOps0, hostOps0_1, hostOps0_2, hostOps0_3, hostOps0_4]) (fun b => m (c, b))
    (Proc.devRef .tc main_v40) = _
  unfold hostOps0 hostOps0_1 hostOps0_2 hostOps0_3 hostOps0_4
  after_results
  rfl

theorem V_v41 : V m c main_v41 = wkrArr (A m c main_arg4) := by
  show StableHlo.after (List.flatten [hostOps0, hostOps0_1, hostOps0_2, hostOps0_3, hostOps0_4]) (fun b => m (c, b))
    (Proc.devRef .tc main_v41) = _
  unfold hostOps0 hostOps0_1 hostOps0_2 hostOps0_3 hostOps0_4
  after_results
  rfl

theorem V_v42 : V m c main_v42 = wuqArr (A m c main_arg7) := by
  show StableHlo.after (List.flatten [hostOps0, hostOps0_1, hostOps0_2, hostOps0_3, hostOps0_4]) (fun b => m (c, b))
    (Proc.devRef .tc main_v42) = _
  unfold hostOps0 hostOps0_1 hostOps0_2 hostOps0_3 hostOps0_4
  after_results
  rfl

theorem V_v43 : V m c main_v43 = wuqsArr (A m c main_arg7) := by
  show StableHlo.after (List.flatten [hostOps0, hostOps0_1, hostOps0_2, hostOps0_3, hostOps0_4]) (fun b => m (c, b))
    (Proc.devRef .tc main_v43) = _
  unfold hostOps0 hostOps0_1 hostOps0_2 hostOps0_3 hostOps0_4
  after_results
  rfl

theorem V_v44 : V m c main_v44 = wukvArr (A m c main_arg8) 0 slices_S4x256x8x128_S4x256x8x64_0_0_0_0 := by
  show StableHlo.after (List.flatten [hostOps0, hostOps0_1, hostOps0_2, hostOps0_3, hostOps0_4]) (fun b => m (c, b))
    (Proc.devRef .tc main_v44) = _
  unfold hostOps0 hostOps0_1 hostOps0_2 hostOps0_3 hostOps0_4
  after_results
  rfl

theorem V_v45 : V m c main_v45 = wukvArr (A m c main_arg8) 64 slices_S4x256x8x128_S4x256x8x64_0_0_0_64 := by
  show StableHlo.after (List.flatten [hostOps0, hostOps0_1, hostOps0_2, hostOps0_3, hostOps0_4]) (fun b => m (c, b))
    (Proc.devRef .tc main_v45) = _
  unfold hostOps0 hostOps0_1 hostOps0_2 hostOps0_3 hostOps0_4
  after_results
  rfl

theorem V_v120 : V m c main_v120 = modsArr (A m c main_arg2) := by
  show StableHlo.after (List.flatten [hostOps0, hostOps0_1, hostOps0_2, hostOps0_3, hostOps0_4]) (fun b => m (c, b))
    (Proc.devRef .tc main_v120) = _
  unfold hostOps0 hostOps0_1 hostOps0_2 hostOps0_3 hostOps0_4
  after_results
  rfl

theorem V_v121 : V m c main_v121 = rowsArr (A m c main_arg0) (A m c main_arg1) := by
  show StableHlo.after (List.flatten [hostOps0, hostOps0_1, hostOps0_2, hostOps0_3, hostOps0_4]) (fun b => m (c, b))
    (Proc.devRef .tc main_v121) = _
  unfold hostOps0 hostOps0_1 hostOps0_2 hostOps0_3 hostOps0_4
  after_results
  rfl

theorem V_arg9 : V m c main_arg9 = A m c main_arg9 := by
  show StableHlo.after (List.flatten [hostOps0, hostOps0_1, hostOps0_2, hostOps0_3, hostOps0_4]) (fun b => m (c, b))
    (Proc.devRef .tc main_arg9) = _
  unfold hostOps0 hostOps0_1 hostOps0_2 hostOps0_3 hostOps0_4
  after_results
  rfl

theorem V_v122 (e : Fin 1024) : V m c main_v122 (ix3 0 0 e) = A m c main_arg3 (ix2 0 e) := by
  have h : V m c main_v122 = (shapeCast S4x1x1024 (A m c main_arg3) shapeCasts_S4x1024_S4x1x1024 : FVec Ideal S4x1x1024 .f32) := by
    show StableHlo.after (List.flatten [hostOps0, hostOps0_1, hostOps0_2, hostOps0_3, hostOps0_4]) (fun b => m (c, b))
      (Proc.devRef .tc main_v122) = _
    unfold hostOps0 hostOps0_1 hostOps0_2 hostOps0_3 hostOps0_4
    after_results
    rfl
  rw [h]
  pointwise []

theorem V_v123 (e : Fin 384) : V m c main_v123 (ix3 0 0 e) = A m c main_arg5 (ix2 0 e) := by
  have h : V m c main_v123 = (shapeCast S4x1x384 (A m c main_arg5) shapeCasts_S4x384_S4x1x384 : FVec Ideal S4x1x384 .f32) := by
    show StableHlo.after (List.flatten [hostOps0, hostOps0_1, hostOps0_2, hostOps0_3, hostOps0_4]) (fun b => m (c, b))
      (Proc.devRef .tc main_v123) = _
    unfold hostOps0 hostOps0_1 hostOps0_2 hostOps0_3 hostOps0_4
    after_results
    rfl
  rw [h]
  pointwise []

theorem V_v124 (e : Fin 256) : V m c main_v124 (ix3 0 0 e) = A m c main_arg6 (ix2 0 e) := by
  have h : V m c main_v124 = (shapeCast S4x1x256 (A m c main_arg6) shapeCasts_S4x256_S4x1x256 : FVec Ideal S4x1x256 .f32) := by
    show StableHlo.after (List.flatten [hostOps0, hostOps0_1, hostOps0_2, hostOps0_3, hostOps0_4]) (fun b => m (c, b))
      (Proc.devRef .tc main_v124) = _
    unfold hostOps0 hostOps0_1 hostOps0_2 hostOps0_3 hostOps0_4
    after_results
    rfl
  rw [h]
  pointwise []

theorem V_v125 (e : Fin 1536) : V m c main_v125 (ix3 0 0 e) = A m c main_arg10 (ix2 0 e) := by
  have h : V m c main_v125 = (shapeCast S4x1x1536 (A m c main_arg10) shapeCasts_S4x1536_S4x1x1536 : FVec Ideal S4x1x1536 .f32) := by
    show StableHlo.after (List.flatten [hostOps0, hostOps0_1, hostOps0_2, hostOps0_3, hostOps0_4]) (fun b => m (c, b))
      (Proc.devRef .tc main_v125) = _
    unfold hostOps0 hostOps0_1 hostOps0_2 hostOps0_3 hostOps0_4
    after_results
    rfl
  rw [h]
  pointwise []

end Cert.InProj

end
-- ==== Proof.InTab.lean ====
/- The rotary tables are what the in-projection call is given. -/
module

public import proofs.«01_k».proof.Proof.InFinal
public import proofs.«01_k».proof.Proof.InRope
public import Idealize.ShloMosaic.Lib.StableHlo.RunRead

@[expose] public section

set_option maxRecDepth 16384

noncomputable section

namespace Cert.InProj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Two tables over latents and contexts agree when their parts do. -/
theorem cat_parts {x y : FVec Ideal S4x4096x128 .f32} {z w : FVec Ideal S4x256x128 .f32} (h₁ : x = y) (h₂ : z = w) :
    concatenate S4x4352x128 1 [⟨S4x4096x128, x⟩, ⟨S4x256x128, z⟩] concatenates_S4x4096x128_S4x256x128_S4x4352x128_d1
      = concatenate S4x4352x128 1 [⟨S4x4096x128, y⟩, ⟨S4x256x128, w⟩] concatenates_S4x4096x128_S4x256x128_S4x4352x128_d1 := by
  rw [h₁, h₂]

/-- Four tables agree when each does. -/
theorem cat_four {x₀ x₁ x₂ x₃ y₀ y₁ y₂ y₃ : FVec Ideal S1x4096x128 .f32} (h₀ : x₀ = y₀) (h₁ : x₁ = y₁) (h₂ : x₂ = y₂)
    (h₃ : x₃ = y₃) :
    concatenate S4x4096x128 0 [⟨S1x4096x128, x₀⟩, ⟨S1x4096x128, x₁⟩, ⟨S1x4096x128, x₂⟩, ⟨S1x4096x128, x₃⟩]
        concatenates_S1x4096x128_S1x4096x128_S1x4096x128_S1x4096x128_S4x4096x128_d0
      = concatenate S4x4096x128 0 [⟨S1x4096x128, y₀⟩, ⟨S1x4096x128, y₁⟩, ⟨S1x4096x128, y₂⟩, ⟨S1x4096x128, y₃⟩]
        concatenates_S1x4096x128_S1x4096x128_S1x4096x128_S1x4096x128_S4x4096x128_d0 := by
  rw [h₀, h₁, h₂, h₃]

set_option maxHeartbeats 2000000 in
theorem V_v113 : V m c main_v113 = tabArr := by
  show StableHlo.after (List.flatten [hostOps0, hostOps0_1, hostOps0_2, hostOps0_3, hostOps0_4]) (fun b => m (c, b))
    (Proc.devRef .tc main_v113) = _
  simp only [List.flatten_cons, List.flatten_nil, List.append_nil]
  after_reads_simp [↓ StableHlo.readPieces, Matrix.cons_val]
  simp only [StableHlo.TRef.ofBuf_toBuf, id]
  unfold tabArr
  refine cat_parts (cat_four ?_ ?_ ?_ ?_) ?_
  · rfl
  · rfl
  · rfl
  · rfl
  · rfl

end Cert.InProj

end
-- ==== Proof.InEq.lean ====
/- The in-projection call's results are the reference's. -/
module

public import proofs.«01_k».proof.Proof.InOut
public import proofs.«01_k».proof.Proof.InEntry
public import proofs.«01_k».proof.Proof.InTab

@[expose] public section

set_option maxRecDepth 16384

noncomputable section

namespace Cert.InProj

open Cert.Kernel2Ideal Cert.Kernel2Ideal.Gen Idealize.ShloMosaic Idealize.ShloMosaic.TcCoe Idealize.SL.Sem

theorem mul_w {a b b' : ℕ} (u : Fin a → EReal) (w : Fin a → Fin b → EReal) (w' : Fin a → Fin b' → EReal) (j : Fin b) (j' : Fin b')
    (h : ∀ k, w k j = w' k j') : mul u w j = mul u w' j' :=
  Finset.sum_congr rfl fun k _ => by rw [h k]

theorem mul_none {a b : ℕ} (u : Fin a → EReal) (w : Fin a → Fin b → EReal) (j : Fin b) (h : ∀ k, w k j = 0) : mul u w j = 0 := by
  unfold mul
  simp only [h, mul_zero, Finset.sum_const_zero]

variable (m : (ℓ : Loc nD τ sig) → Buf (Elt Ideal) ℓ) (c : Dev nD)

/-- The argument rows, modulated. -/
abbrev ul (b : Fin 4) (n : Fin 4096) : Fin 1024 → EReal := uL (A m c main_arg0) (A m c main_arg2) (A m c main_arg3) b n
abbrev uc (b : Fin 4) (n : Fin 256) : Fin 1024 → EReal := uC (A m c main_arg1) (A m c main_arg2) (A m c main_arg3) b n

theorem mods_V (b : Fin 4) (s : Fin 2) (k : Fin 6) (e : Fin 1024) (r : Fin 8) (j : Fin 6144)
    (hr : r.val = if s.val = 0 then b.val else 4) (hj : j.val = k.val * 1024 + e.val) :
    V m c main_v120 (ix5 0 b s k e) = A m c main_arg2 (ix3 0 r j) := by
  rw [V_v120, modsArr_at]
  exact congrArg₂ (fun r j => A m c main_arg2 (ix3 0 r j)) (Fin.ext (Eq.trans (by split <;> rfl) hr.symm)) (Fin.ext hj.symm)

theorem rowV_lat (b : Fin 4) (s : Fin 4352) (n : Fin 4096) (h : s.val = n.val) : rowV m c b s = ul m c b n := by
  funext k
  have hs : s.val / 4096 = 0 := by omega
  refine congrFun (congr (congr (congr (congrArg modRow (funext fun e => ?_)) (funext fun e => V_v122 m c e))
    (funext fun e => mods_V m c b _ 0 e _ _ ?_ ?_)) (funext fun e => mods_V m c b _ 1 e _ _ ?_ ?_)) k
  · rw [V_v121, rowsArr_at, dif_pos (by omega)]
    exact congrArg (fun n => A m c main_arg0 (ix3 b n e)) (Fin.ext h)
  · simp only [hs, if_true]
  · exact (by omega : e.val = 0 * 1024 + e.val)
  · simp only [hs, if_true]
  · exact (by omega : 1024 + e.val = 1 * 1024 + e.val)

theorem rowV_ctx (b : Fin 4) (s : Fin 4352) (n : Fin 256) (h : s.val = 4096 + n.val) : rowV m c b s = uc m c b n := by
  funext k
  have hs : ¬ s.val / 4096 = 0 := by omega
  refine congrFun (congr (congr (congr (congrArg modRow (funext fun e => ?_)) (funext fun e => V_v122 m c e))
    (funext fun e => mods_V m c b _ 0 e _ _ ?_ ?_)) (funext fun e => mods_V m c b _ 1 e _ _ ?_ ?_)) k
  · rw [V_v121, rowsArr_at, dif_neg (by omega)]
    exact congrArg (fun n => A m c main_arg1 (ix3 b n e)) (Fin.ext (by simp only; omega))
  · simp only [hs, if_false]; rfl
  · exact (by omega : e.val = 0 * 1024 + e.val)
  · simp only [hs, if_false]; rfl
  · exact (by omega : 1024 + e.val = 1 * 1024 + e.val)

theorem p34 (u : Fin 1024 → EReal) (j : Fin 1536) :
    mul u (fun k j => V m c main_v34 (ix3 0 k j)) j = pS (A m c main_arg4) u ⟨j.val, by omega⟩ :=
  mul_w _ _ _ _ _ fun k => by rw [V_v34]; exact wCols_at _ _ _ _ k j _ (Nat.zero_add _).symm

theorem p36 (u : Fin 1024 → EReal) (j : Fin 2048) :
    mul u (fun k j => V m c main_v36 (ix3 0 k j)) j = pS (A m c main_arg4) u ⟨2208 + j.val, by omega⟩ :=
  mul_w _ _ _ _ _ fun k => by rw [V_v36]; exact wCols_at _ _ _ _ k j _ rfl

theorem p38 (u : Fin 1024 → EReal) (j : Fin 384) :
    mul u (fun k j => V m c main_v38 (ix3 0 k j)) j = pS (A m c main_arg4) u ⟨1536 + j.val, by omega⟩ :=
  mul_w _ _ _ _ _ fun k => by rw [V_v38]; exact wCols_at _ _ _ _ k j _ rfl

theorem p40 (u : Fin 1024 → EReal) (j : Fin 256) :
    mul u (fun k j => V m c main_v40 (ix3 0 k j)) j = pS (A m c main_arg4) u ⟨1920 + j.val, by omega⟩ :=
  mul_w _ _ _ _ _ fun k => by rw [V_v40]; exact wCols_at _ _ _ _ k j _ rfl

theorem cqV_eq (b : Fin 4) (s : Fin 4352) : cqV m c b s = cqS (A m c main_arg4) (A m c main_arg5) (rowV m c b s) := by
  funext e
  exact congrFun (congr (congrArg (rms n384) (funext fun e => p38 m c _ e)) (funext fun e => V_v123 m c e)) e

theorem ckvV_eq (b : Fin 4) (s : Fin 4352) : ckvV m c b s = ckvS (A m c main_arg4) (A m c main_arg6) (rowV m c b s) := by
  funext e
  exact congrFun (congr (congrArg (rms n256) (funext fun e => p40 m c _ e)) (funext fun e => V_v124 m c e)) e

/-- A head's queries, by lanes. -/
abbrev qs (u : Fin 1024 → EReal) (h : Fin 8) (d : Fin 96) : EReal := qS (A m c main_arg4) (A m c main_arg5) (A m c main_arg7) u h d
abbrev kvs (u : Fin 1024 → EReal) (h : Fin 8) (d : Fin 128) : EReal := kvS (A m c main_arg4) (A m c main_arg6) (A m c main_arg8) u h d

theorem q42 (b : Fin 4) (s : Fin 4352) (h : Fin 8) (l : Fin 128) :
    mul (cqV m c b s) (fun e j => V m c main_v42 (ix3 0 e j)) (col h l)
      = qs m c (rowV m c b s) h ⟨if l.val < 96 then l.val else l.val - 32, by split <;> omega⟩ := by
  rw [cqV_eq]
  exact mul_w _ _ _ _ _ fun e => by rw [V_v42]; exact wuqArr_at _ e h l

theorem q43 (b : Fin 4) (s : Fin 4352) (h : Fin 8) (l : Fin 128) :
    mul (cqV m c b s) (fun e j => V m c main_v43 (ix3 0 e j)) (col h l)
      = if hl : 64 ≤ l.val ∧ l.val < 96 then qs m c (rowV m c b s) h ⟨64 + (swap ⟨l.val - 64, by omega⟩).val, by omega⟩ else 0 := by
  rw [cqV_eq, V_v43]
  by_cases hl : 64 ≤ l.val ∧ l.val < 96
  · rw [dif_pos hl]
    refine mul_w _ _ _ _ _ fun e => (wuqsArr_at _ e h l).trans ((dif_pos hl).trans ?_)
    exact congrArg (fun n => A m c main_arg7 (ix3 0 e n)) (Fin.ext (Nat.add_assoc _ _ _))
  · rw [dif_neg hl]
    exact mul_none _ _ _ fun e => (wuqsArr_at _ e h l).trans (dif_neg hl)

theorem k44 (b : Fin 4) (s : Fin 4352) (h : Fin 8) (l : Fin 128) :
    mul (ckvV m c b s) (fun e j => V m c main_v44 (ix3 0 e j)) (col h l)
      = if hl : l.val < 64 then kvs m c (rowV m c b s) h ⟨l.val, by omega⟩ else 0 := by
  rw [ckvV_eq, V_v44]
  by_cases hl : l.val < 64
  · rw [dif_pos hl]
    exact mul_w _ _ _ _ _ fun e => (wukvArr_at _ 0 _ (by omega) e h l).trans (dif_pos hl)
  · rw [dif_neg hl]
    exact mul_none _ _ _ fun e => (wukvArr_at _ 0 _ (by omega) e h l).trans (dif_neg hl)

theorem v45 (b : Fin 4) (s : Fin 4352) (h : Fin 8) (l : Fin 128) :
    mul (ckvV m c b s) (fun e j => V m c main_v45 (ix3 0 e j)) (col h l)
      = if hl : l.val < 64 then kvs m c (rowV m c b s) h ⟨64 + l.val, by omega⟩ else 0 := by
  rw [ckvV_eq, V_v45]
  by_cases hl : l.val < 64
  · rw [dif_pos hl]
    refine mul_w _ _ _ _ _ fun e => (wukvArr_at _ 64 _ (by omega) e h l).trans ((dif_pos hl).trans ?_)
    exact congrArg (fun n => A m c main_arg8 (ix3 0 e n)) (Fin.ext (Nat.add_assoc _ _ _))
  · rw [dif_neg hl]
    exact mul_none _ _ _ fun e => (wukvArr_at _ 64 _ (by omega) e h l).trans (dif_neg hl)

theorem k41 (u : Fin 1024 → EReal) (l : Fin 128) :
    mul u (fun k j => V m c main_v41 (ix3 0 k j)) ⟨l.val, by omega⟩
      = if l.val < 64 then 0 else krS (A m c main_arg4) u ⟨l.val % 32, by omega⟩ := by
  rw [V_v41]
  by_cases hl : l.val < 64
  · rw [if_pos hl]
    exact mul_none _ _ _ fun k => (wkrArr_at _ k l).trans (if_pos hl)
  · rw [if_neg hl]
    exact mul_w u (fun k j => wkrArr (A m c main_arg4) (ix3 0 k j)) (fun k j => A m c main_arg4 (ix3 0 k j)) _ _
      fun k => (wkrArr_at _ k l).trans (if_neg hl)

theorem k41s (u : Fin 1024 → EReal) (l : Fin 128) :
    mul u (fun k j => V m c main_v41 (ix3 0 k j)) ⟨128 + l.val, by omega⟩
      = if h : 64 ≤ l.val ∧ l.val < 96 then krS (A m c main_arg4) u (swap ⟨l.val - 64, by omega⟩) else 0 := by
  rw [V_v41]
  by_cases hl : 64 ≤ l.val ∧ l.val < 96
  · rw [dif_pos hl]
    exact mul_w u (fun k j => wkrArr (A m c main_arg4) (ix3 0 k j)) (fun k j => A m c main_arg4 (ix3 0 k j)) _ _
      fun k => (wkrArr_swap _ k l).trans (dif_pos hl)
  · rw [dif_neg hl]
    exact mul_none _ _ _ fun k => (wkrArr_swap _ k l).trans (dif_neg hl)

/-- Dividing by `√96 · log 2` is multiplying by the scale. -/
theorem div_den (y : EReal) : Ideal.div y den = y * Cert.Attn.κ0 := by
  have hp : 0 < Real.sqrt 96 * Real.log 2 := mul_pos (Real.sqrt_pos.mpr (by norm_num)) (Real.log_pos (by norm_num))
  rw [Cert.Attn.κ0_eq]
  unfold den
  rw [Cert.Attn.ofBits_96, Cert.Attn.ofBits_2, Ideal.sqrt_coe, Ideal.log_coe, if_neg (by norm_num), if_neg (by norm_num),
    ← EReal.coe_mul]
  unfold Ideal.div
  rw [if_neg (by exact_mod_cast hp.ne'), ← EReal.coe_inv]

theorem add_κ (x y : EReal) : (x + y) * Cert.Attn.κ0 = x * Cert.Attn.κ0 + y * Cert.Attn.κ0 := by
  have hp : (0 : ℝ) ≤ (Real.sqrt 96 * Real.log 2)⁻¹ :=
    (inv_pos.mpr (mul_pos (Real.sqrt_pos.mpr (by norm_num)) (Real.log_pos (by norm_num)))).le
  rw [Cert.Attn.κ0_eq, EReal.right_distrib_of_nonneg_of_ne_top (EReal.coe_nonneg.mpr hp) (EReal.coe_ne_top _)]

/-- The rotation as the call computes it: the lane times the cosine, and its partner times the signed sine. -/
theorem rot_eq (n : Fin 4096) (x : Fin 32 → EReal) (p : Fin 32) :
    rot n x p = x p * cosArr (ix2 n p) + x (swap p) * sinArr (ix2 n p) := by
  rw [cosArr_at, sinArr_at]
  unfold rot
  split
  · rw [mul_neg, sub_eq_add_neg]
  · exact add_comm _ _

theorem onLanes_in (x : EReal) (r : Fin 32 → EReal) (l : Fin 128) (h : 64 ≤ l.val ∧ l.val < 96) :
    onLanes x r l = r ⟨l.val - 64, by omega⟩ := dif_pos h

theorem onLanes_out (x : EReal) (r : Fin 32 → EReal) (l : Fin 128) (h : ¬ (64 ≤ l.val ∧ l.val < 96)) : onLanes x r l = x := dif_neg h

theorem q_lat (b : Fin 4) (h : Fin 8) (n : Fin 4096) (l : Fin 128) :
    qV m c b h ⟨n.val, by omega⟩ l
      = Ideal.div (qLat (A m c main_arg4) (A m c main_arg5) (A m c main_arg7) (ul m c b n) n h l) den := by
  unfold qV
  rw [q42, q43, V_v113, tab0_lat, tab1_lat, rowV_lat m c b _ n rfl, div_den]
  unfold qLat
  by_cases hl : 64 ≤ l.val ∧ l.val < 96
  · rw [dif_pos hl, onLanes_in _ _ _ hl, onLanes_in _ _ _ hl, dif_neg (by omega), dif_pos hl.2, rot_eq, add_κ, ← mul_assoc, ← mul_assoc]
    have h0 : (⟨if l.val < 96 then l.val else l.val - 32, by split <;> omega⟩ : Fin 96) = ⟨64 + (l.val - 64), by omega⟩ :=
      Fin.ext (by simp only [hl.2, if_true]; omega)
    rw [h0]
  · rw [dif_neg hl, onLanes_out _ _ _ hl, onLanes_out _ _ _ hl, zero_mul, add_zero, one_mul]
    by_cases h0 : l.val < 64
    · have h1 : l.val < 96 := by omega
      rw [dif_pos h0]
      simp only [h1, if_true]
    · have h1 : ¬ l.val < 96 := by omega
      rw [dif_neg h0, dif_neg h1]
      simp only [h1, if_false]

theorem q_ctx (b : Fin 4) (h : Fin 8) (n : Fin 256) (l : Fin 128) :
    qV m c b h ⟨4096 + n.val, by omega⟩ l
      = Ideal.div (qCtx (A m c main_arg4) (A m c main_arg5) (A m c main_arg7) (uc m c b n) h l) den := by
  unfold qV
  rw [q42, V_v113, tab0_ctx, tab1_ctx, rowV_ctx m c b _ n rfl, div_den, mul_zero, add_zero]
  rfl

theorem k_lat (b : Fin 4) (h : Fin 8) (n : Fin 4096) (l : Fin 128) :
    kV m c b h ⟨n.val, by omega⟩ l = kLat (A m c main_arg4) (A m c main_arg6) (A m c main_arg8) (ul m c b n) n h l := by
  unfold kV krV
  rw [k44, k41, k41s, V_v113, tab2_lat, tab3_lat, rowV_lat m c b _ n rfl]
  unfold kLat
  by_cases h0 : l.val < 64
  · have hl : ¬ (64 ≤ l.val ∧ l.val < 96) := by omega
    rw [dif_pos h0, dif_pos h0, if_pos h0, dif_neg hl, zero_mul, zero_mul, add_zero, add_zero]
  · rw [dif_neg h0, dif_neg h0, if_neg h0, zero_add]
    by_cases h1 : l.val < 96
    · have hl : 64 ≤ l.val ∧ l.val < 96 := by omega
      rw [dif_pos hl, dif_pos h1, onLanes_in _ _ _ hl, onLanes_in _ _ _ hl, rot_eq]
      have h2 : (⟨l.val % 32, by omega⟩ : Fin 32) = ⟨l.val - 64, by omega⟩ := Fin.ext (by simp only; omega)
      rw [h2]
    · have hl : ¬ (64 ≤ l.val ∧ l.val < 96) := by omega
      rw [dif_neg hl, dif_neg h1, onLanes_out _ _ _ hl, onLanes_out _ _ _ hl, mul_zero, mul_zero, add_zero]

theorem k_ctx (b : Fin 4) (h : Fin 8) (n : Fin 256) (l : Fin 128) :
    kV m c b h ⟨4096 + n.val, by omega⟩ l = kCtx (A m c main_arg4) (A m c main_arg6) (A m c main_arg8) (uc m c b n) h l := by
  unfold kV krV
  rw [k44, k41, V_v113, tab2_ctx, tab3_ctx, rowV_ctx m c b _ n rfl, mul_zero, add_zero]
  unfold kCtx
  by_cases h0 : l.val < 64
  · rw [dif_pos h0, dif_pos h0, if_pos h0, zero_mul, add_zero]
  · rw [dif_neg h0, dif_neg h0, if_neg h0, zero_add]
    by_cases h1 : l.val < 96
    · rw [if_pos h1, dif_pos h1, mul_zero]
    · rw [if_neg h1, dif_neg h1, mul_one]
      exact congrArg (krS _ _) (Fin.ext (by simp only; omega))

theorem v_row (b : Fin 4) (h : Fin 8) (s : Fin 4352) (l : Fin 128) :
    vV m c b h s l = vRow (A m c main_arg4) (A m c main_arg6) (A m c main_arg8) (rowV m c b s) h l := by
  unfold vV vRow
  rw [v45]
  by_cases h0 : l.val < 64
  · rw [dif_pos h0, dif_pos h0, if_neg (by omega), add_zero]
  · rw [dif_neg h0, dif_neg h0, zero_add]

theorem conv3_congr {b b' p0 p0' w0 w0' p1 p1' w1 w1' p2 p2' w2 w2' : EReal} (hb : b = b') (h0 : p0 = p0') (g0 : w0 = w0')
    (h1 : p1 = p1') (g1 : w1 = w1') (h2 : p2 = p2') (g2 : w2 = w2') :
    conv3 b p0 w0 p1 w1 p2 w2 = conv3 b' p0' w0' p1' w1' p2' w2' := by
  rw [hb, h0, g0, h1, g1, h2, g2]

theorem p_lat (b : Fin 4) (s : Fin 4352) (n : Fin 4096) (h : s.val = n.val) (j : Fin 1536) :
    mul (rowV m c b s) (fun k j => V m c main_v34 (ix3 0 k j)) j = pS (A m c main_arg4) (ul m c b n) ⟨j.val, by omega⟩ := by
  rw [p34, rowV_lat m c b s n h]

theorem p_ctx (b : Fin 4) (s : Fin 4352) (n : Fin 256) (h : s.val = 4096 + n.val) (j : Fin 1536) :
    mul (rowV m c b s) (fun k j => V m c main_v34 (ix3 0 k j)) j = pS (A m c main_arg4) (uc m c b n) ⟨j.val, by omega⟩ := by
  rw [p34, rowV_ctx m c b s n h]

theorem t252 (b : Fin 4) (i : Fin 4098) (j : Fin 1536) (n : Fin 4096) (h : i.val = n.val + 1) :
    Cert.Reference2Ideal.Read.val_main_v252 (F := Ideal) (A m c main_arg0) (A m c main_arg2) (A m c main_arg3) (A m c main_arg4)
      (ix3 b i j) = pS (A m c main_arg4) (ul m c b n) ⟨j.val, by omega⟩ := by
  have hn : (⟨i.val - 1, by omega⟩ : Fin 4096) = n := Fin.ext (by show i.val - 1 = n.val; omega)
  have hi : ¬ (i.val = 0 ∨ i.val = 4097) := by omega
  rw [v252_at, dif_neg hi, hn]

theorem t281 (b : Fin 4) (i : Fin 258) (j : Fin 1536) (n : Fin 256) (h : i.val = n.val + 1) :
    Cert.Reference2Ideal.Read.val_main_v281 (F := Ideal) (A m c main_arg1) (A m c main_arg2) (A m c main_arg3) (A m c main_arg4)
      (ix3 b i j) = pS (A m c main_arg4) (uc m c b n) ⟨j.val, by omega⟩ := by
  have hn : (⟨i.val - 1, by omega⟩ : Fin 256) = n := Fin.ext (by show i.val - 1 = n.val; omega)
  have hi : ¬ (i.val = 0 ∨ i.val = 257) := by omega
  rw [v281_at, dif_neg hi, hn]

theorem u_lat (b : Fin 4) (n : Fin 4096) (j : Fin 1536) :
    uhyV m c b ⟨n.val, by omega⟩ j = Cert.Reference2Ideal.Read.val_main_v305 (F := Ideal) (A m c main_arg0) (A m c main_arg1)
      (A m c main_arg2) (A m c main_arg3) (A m c main_arg4) (A m c main_arg9) (A m c main_arg10)
      (ix3 b ⟨n.val, by omega⟩ j) := by
  rw [v305_lat]
  refine conv3_congr (V_v125 m c j) ?_ (congrFun (V_arg9 m c) _) (((p_lat m c b _ n rfl j)).trans
    (t252 m c b _ j n (Nat.add_comm _ _)).symm) (congrFun (V_arg9 m c) _) ?_ (congrFun (V_arg9 m c) _)
  · by_cases h0 : n.val = 0
    · rw [dif_pos (Or.inl (by show n.val = _; omega)), v252_at, dif_pos (Or.inl h0)]
    · rw [dif_neg (by show ¬ (n.val = 0 ∨ n.val = 4096); omega)]
      exact (p_lat m c b _ ⟨n.val - 1, by omega⟩ (by show n.val - 1 = (n.val - 1); omega) j).trans
        (t252 m c b _ j ⟨n.val - 1, by omega⟩ (by show n.val = n.val - 1 + 1; omega)).symm
  · by_cases h0 : n.val = 4095
    · rw [dif_pos (Or.inl (by show n.val = _; omega)), v252_at, dif_pos (Or.inr (by show 2 + n.val = _; omega))]
    · rw [dif_neg (by show ¬ (n.val = 4095 ∨ n.val = 4351); omega)]
      exact (p_lat m c b _ ⟨n.val + 1, by omega⟩ (by show n.val + 1 = (n.val + 1); omega) j).trans
        (t252 m c b _ j ⟨n.val + 1, by omega⟩ (by show 2 + n.val = n.val + 1 + 1; omega)).symm

theorem u_ctx (b : Fin 4) (n : Fin 256) (j : Fin 1536) :
    uhyV m c b ⟨4096 + n.val, by omega⟩ j = Cert.Reference2Ideal.Read.val_main_v305 (F := Ideal) (A m c main_arg0) (A m c main_arg1)
      (A m c main_arg2) (A m c main_arg3) (A m c main_arg4) (A m c main_arg9) (A m c main_arg10)
      (ix3 b ⟨4096 + n.val, by omega⟩ j) := by
  rw [v305_ctx]
  refine conv3_congr (V_v125 m c j) ?_ (congrFun (V_arg9 m c) _) (((p_ctx m c b _ n rfl j)).trans
    (t281 m c b _ j n (Nat.add_comm _ _)).symm) (congrFun (V_arg9 m c) _) ?_ (congrFun (V_arg9 m c) _)
  · by_cases h0 : n.val = 0
    · rw [dif_pos (Or.inr (by show 4096 + n.val = _; omega)), v281_at, dif_pos (Or.inl h0)]
    · rw [dif_neg (by show ¬ (4096 + n.val = 0 ∨ 4096 + n.val = 4096); omega)]
      exact (p_ctx m c b _ ⟨n.val - 1, by omega⟩ (by show 4096 + n.val - 1 = 4096 + (n.val - 1); omega) j).trans
        (t281 m c b _ j ⟨n.val - 1, by omega⟩ (by show n.val = n.val - 1 + 1; omega)).symm
  · by_cases h0 : n.val = 255
    · rw [dif_pos (Or.inr (by show 4096 + n.val = _; omega)), v281_at, dif_pos (Or.inr (by show 2 + n.val = _; omega))]
    · rw [dif_neg (by show ¬ (4096 + n.val = 4095 ∨ 4096 + n.val = 4351); omega)]
      exact (p_ctx m c b _ ⟨n.val + 1, by omega⟩ (by show 4096 + n.val + 1 = 4096 + (n.val + 1); omega) j).trans
        (t281 m c b _ j ⟨n.val + 1, by omega⟩ (by show 2 + n.val = n.val + 1 + 1; omega)).symm

theorem g_row (b : Fin 4) (s : Fin 4352) (j : Fin 2048) :
    sgV m c b s j = Ideal.logistic (pS (A m c main_arg4) (rowV m c b s) ⟨2208 + j.val, by omega⟩) :=
  congrArg Ideal.logistic (p36 m c _ j)

end Cert.InProj

end
-- ==== Proof.InTiles.lean ====
/- The in-projection call's result arrays after the run: every tile is written back, and the tiles cover the arrays. -/
module

public import proofs.«01_k».proof.Proof.InFinal

@[expose] public section

set_option maxRecDepth 16384
set_option maxHeartbeats 1000000

noncomputable section

namespace Cert.InProj

open Cert.Kernel2Ideal Cert.Kernel2Ideal.Gen Idealize.ShloMosaic Idealize.ShloMosaic.TcCoe Idealize.SL.Sem

variable (m : (ℓ : Loc nD τ sig) → Buf (Elt Ideal) ℓ) (c : Dev nD)

theorem final20 : (dats m 0 c).arrAt 20 cfg0.N = fun i : S4x4352x2048.Idx => sgV m c (i 0) (i 1) (i 2) := by
  refine (dats m 0 c).arrAt_eq_of_covers 20 _ (by decide +kernel) fun t hf y => ?_
  blk_simp
  rw [after0_20]
  idx_vars y
  obtain rfl : y0 = 0 := Subsingleton.elim _ _
  obtain ⟨a0, a1, a2⟩ := (idx_moves t).2.2.2.2.2.2.2.1
  rw [out20_at]
  simp only [uB_at, blk11_at]
  unfold sgV
  have e0 : ((View.whole main_v126_1).slice (win0_20.rect t)).emb (ix3 0 y1 y2) 0 = tb t := Fin.ext
    ((Pipeline.Window.rect_emb_val win0_20 t (ix3 0 y1 y2) 0 rfl).trans (by rw [a0]; exact Nat.mul_one _))
  have e1 : ((View.whole main_v126_1).slice (win0_20.rect t)).emb (ix3 0 y1 y2) 1 = tr t y1 := Fin.ext
    ((Pipeline.Window.rect_emb_val win0_20 t (ix3 0 y1 y2) 1 rfl).trans (by rw [a1]; rfl))
  have e2 : ((View.whole main_v126_1).slice (win0_20.rect t)).emb (ix3 0 y1 y2) 2 = y2 := Fin.ext
    ((Pipeline.Window.rect_emb_val win0_20 t (ix3 0 y1 y2) 2 rfl).trans (by rw [a2]; exact Nat.zero_add _))
  rw [e0, e1, e2]

theorem final19 : (dats m 0 c).arrAt 19 cfg0.N = fun i : S4x4352x1536.Idx => uhyV m c (i 0) (i 1) (i 2) := by
  refine (dats m 0 c).arrAt_eq_of_covers 19 _ (by decide +kernel) fun t hf y => ?_
  blk_simp
  rw [after0_19]
  idx_vars y
  obtain rfl : y0 = 0 := Subsingleton.elim _ _
  have a2 := (idx_moves t).2.2.2.2.2.2.1
  rw [out19_at _ _ _ _ _ _ _ _ _ _ _ _ _ _ _ _ _ _ _ _ (tn t) (idx_moves t).1.2.2]
  have e0 : ((View.whole main_v126_0).slice (win0_19.rect t)).emb (ix3 0 y1 y2) 0 = tb t := Fin.ext
    ((Pipeline.Window.rect_emb_val win0_19 t (ix3 0 y1 y2) 0 rfl).trans (Nat.mul_one _))
  have e1 : ((View.whole main_v126_0).slice (win0_19.rect t)).emb (ix3 0 y1 y2) 1 = tr t y1 := Fin.ext
    ((Pipeline.Window.rect_emb_val win0_19 t (ix3 0 y1 y2) 1 rfl).trans rfl)
  have e2 : ((View.whole main_v126_0).slice (win0_19.rect t)).emb (ix3 0 y1 y2) 2 = y2 := Fin.ext
    ((Pipeline.Window.rect_emb_val win0_19 t (ix3 0 y1 y2) 2 rfl).trans (by rw [a2]; exact Nat.zero_add _))
  rw [e0, e1, e2]
  exact uhy_step m c t y1 y2

theorem final21 : (dats m 0 c).arrAt 21 cfg0.N = fun i : S4x8x4352x128.Idx => qV m c (i 0) (i 1) (i 2) (i 3) := by
  refine (dats m 0 c).arrAt_eq_of_covers 21 _ (by decide +kernel) fun t hf y => ?_
  blk_simp
  rw [after0_21]
  idx_vars y
  obtain rfl : y0 = 0 := Subsingleton.elim _ _
  obtain ⟨a0, a1, a2, a3⟩ := (idx_moves t).2.2.2.2.2.2.2.2.1
  rw [out21_at]
  simp only [cqB_at, blk5_at, blk15_at, blk16_at]
  unfold qV
  have e0 : ((View.whole main_v126_2).slice (win0_21.rect t)).emb (ix4 0 y1 y2 y3) 0 = tb t := Fin.ext
    ((Pipeline.Window.rect_emb_val win0_21 t (ix4 0 y1 y2 y3) 0 rfl).trans (by rw [a0]; exact Nat.mul_one _))
  have e1 : ((View.whole main_v126_2).slice (win0_21.rect t)).emb (ix4 0 y1 y2 y3) 1 = y1 := Fin.ext
    ((Pipeline.Window.rect_emb_val win0_21 t (ix4 0 y1 y2 y3) 1 rfl).trans (by rw [a1]; exact Nat.zero_add _))
  have e2 : ((View.whole main_v126_2).slice (win0_21.rect t)).emb (ix4 0 y1 y2 y3) 2 = tr t y2 := Fin.ext
    ((Pipeline.Window.rect_emb_val win0_21 t (ix4 0 y1 y2 y3) 2 rfl).trans (by rw [a2]; rfl))
  have e3 : ((View.whole main_v126_2).slice (win0_21.rect t)).emb (ix4 0 y1 y2 y3) 3 = y3 := Fin.ext
    ((Pipeline.Window.rect_emb_val win0_21 t (ix4 0 y1 y2 y3) 3 rfl).trans (by rw [a3]; exact Nat.zero_add _))
  rw [e0, e1, e2, e3]

theorem final22 : (dats m 0 c).arrAt 22 cfg0.N = fun i : S4x8x4352x128.Idx => kV m c (i 0) (i 1) (i 2) (i 3) := by
  refine (dats m 0 c).arrAt_eq_of_covers 22 _ (by decide +kernel) fun t hf y => ?_
  blk_simp
  rw [after0_22]
  idx_vars y
  obtain rfl : y0 = 0 := Subsingleton.elim _ _
  obtain ⟨a0, a1, a2, a3⟩ := (idx_moves t).2.2.2.2.2.2.2.2.2.1
  rw [out22_at]
  simp only [ckvB_at, krB_at, blk17_at]
  unfold kV
  have e0 : ((View.whole main_v126_3).slice (win0_22.rect t)).emb (ix4 0 y1 y2 y3) 0 = tb t := Fin.ext
    ((Pipeline.Window.rect_emb_val win0_22 t (ix4 0 y1 y2 y3) 0 rfl).trans (by rw [a0]; exact Nat.mul_one _))
  have e1 : ((View.whole main_v126_3).slice (win0_22.rect t)).emb (ix4 0 y1 y2 y3) 1 = y1 := Fin.ext
    ((Pipeline.Window.rect_emb_val win0_22 t (ix4 0 y1 y2 y3) 1 rfl).trans (by rw [a1]; exact Nat.zero_add _))
  have e2 : ((View.whole main_v126_3).slice (win0_22.rect t)).emb (ix4 0 y1 y2 y3) 2 = tr t y2 := Fin.ext
    ((Pipeline.Window.rect_emb_val win0_22 t (ix4 0 y1 y2 y3) 2 rfl).trans (by rw [a2]; rfl))
  have e3 : ((View.whole main_v126_3).slice (win0_22.rect t)).emb (ix4 0 y1 y2 y3) 3 = y3 := Fin.ext
    ((Pipeline.Window.rect_emb_val win0_22 t (ix4 0 y1 y2 y3) 3 rfl).trans (by rw [a3]; exact Nat.zero_add _))
  rw [e0, e1, e2, e3]

theorem final23 : (dats m 0 c).arrAt 23 cfg0.N = fun i : S4x8x4352x128.Idx => vV m c (i 0) (i 1) (i 2) (i 3) := by
  refine (dats m 0 c).arrAt_eq_of_covers 23 _ (by decide +kernel) fun t hf y => ?_
  blk_simp
  rw [after0_23]
  idx_vars y
  obtain rfl : y0 = 0 := Subsingleton.elim _ _
  obtain ⟨a0, a1, a2, a3⟩ := (idx_moves t).2.2.2.2.2.2.2.2.2.2
  rw [out23_at]
  simp only [ckvB_at, blk18_at]
  unfold vV
  have e0 : ((View.whole main_v126_4).slice (win0_23.rect t)).emb (ix4 0 y1 y2 y3) 0 = tb t := Fin.ext
    ((Pipeline.Window.rect_emb_val win0_23 t (ix4 0 y1 y2 y3) 0 rfl).trans (by rw [a0]; exact Nat.mul_one _))
  have e1 : ((View.whole main_v126_4).slice (win0_23.rect t)).emb (ix4 0 y1 y2 y3) 1 = y1 := Fin.ext
    ((Pipeline.Window.rect_emb_val win0_23 t (ix4 0 y1 y2 y3) 1 rfl).trans (by rw [a1]; exact Nat.zero_add _))
  have e2 : ((View.whole main_v126_4).slice (win0_23.rect t)).emb (ix4 0 y1 y2 y3) 2 = tr t y2 := Fin.ext
    ((Pipeline.Window.rect_emb_val win0_23 t (ix4 0 y1 y2 y3) 2 rfl).trans (by rw [a2]; rfl))
  have e3 : ((View.whole main_v126_4).slice (win0_23.rect t)).emb (ix4 0 y1 y2 y3) 3 = y3 := Fin.ext
    ((Pipeline.Window.rect_emb_val win0_23 t (ix4 0 y1 y2 y3) 3 rfl).trans (by rw [a3]; exact Nat.zero_add _))
  rw [e0, e1, e2, e3]

end Cert.InProj

end
-- ==== Proof.InResults.lean ====
/- The in-projection call leaves the reference's five results. -/
module

public import proofs.«01_k».proof.Proof.InEq
public import proofs.«01_k».proof.Proof.InTiles

@[expose] public section

set_option maxRecDepth 16384

noncomputable section

namespace Cert.InProj

open Cert.Kernel2Ideal Cert.Kernel2Ideal.Gen Idealize.ShloMosaic Idealize.ShloMosaic.TcCoe Idealize.SL.Sem
open Cert.Reference2Ideal.Read (val_main_v305 val_main_v315 val_main_v316 val_main_v317 val_main_v318)

variable (m : (ℓ : Loc nD τ sig) → Buf (Elt Ideal) ℓ) (c : Dev nD)

/-- A row is a latent's or a context token's. -/
theorem row_cases {P : Fin 4352 → Prop} (hl : ∀ n : Fin 4096, P ⟨n.val, by omega⟩) (hc : ∀ n : Fin 256, P ⟨4096 + n.val, by omega⟩)
    (s : Fin 4352) : P s := by
  by_cases h : s.val < 4096
  · exact hl ⟨s.val, h⟩
  · have e : s = ⟨4096 + (s.val - 4096), by omega⟩ := Fin.ext (by show s.val = 4096 + (s.val - 4096); omega)
    rw [e]
    exact hc ⟨s.val - 4096, by omega⟩

theorem result19 : (dats m 0 c).arrAt 19 cfg0.N = val_main_v305 (F := Ideal) (A m c main_arg0) (A m c main_arg1) (A m c main_arg2)
    (A m c main_arg3) (A m c main_arg4) (A m c main_arg9) (A m c main_arg10) := by
  rw [final19]
  funext y
  idx_vars y
  exact row_cases (P := fun s => uhyV m c y0 s y2 = val_main_v305 (F := Ideal) (A m c main_arg0) (A m c main_arg1)
    (A m c main_arg2) (A m c main_arg3) (A m c main_arg4) (A m c main_arg9) (A m c main_arg10) (ix3 y0 s y2))
    (fun n => u_lat m c y0 n y2) (fun n => u_ctx m c y0 n y2) y1

theorem result20 : (dats m 0 c).arrAt 20 cfg0.N = val_main_v315 (F := Ideal) (A m c main_arg0) (A m c main_arg1) (A m c main_arg2)
    (A m c main_arg3) (A m c main_arg4) := by
  rw [final20]
  funext y
  idx_vars y
  refine row_cases (P := fun s => sgV m c y0 s y2 = val_main_v315 (F := Ideal) (A m c main_arg0) (A m c main_arg1)
    (A m c main_arg2) (A m c main_arg3) (A m c main_arg4) (ix3 y0 s y2)) (fun n => ?_) (fun n => ?_) y1
  · rw [g_row, rowV_lat m c y0 _ n rfl, v315_lat]
  · rw [g_row, rowV_ctx m c y0 _ n rfl, v315_ctx]

theorem result21 : (dats m 0 c).arrAt 21 cfg0.N = val_main_v316 (F := Ideal) (A m c main_arg0) (A m c main_arg1) (A m c main_arg2)
    (A m c main_arg3) (A m c main_arg4) (A m c main_arg5) (A m c main_arg7) := by
  rw [final21]
  funext y
  idx_vars y
  refine row_cases (P := fun s => qV m c y0 y1 s y3 = val_main_v316 (F := Ideal) (A m c main_arg0) (A m c main_arg1)
    (A m c main_arg2) (A m c main_arg3) (A m c main_arg4) (A m c main_arg5) (A m c main_arg7) (ix4 y0 y1 s y3))
    (fun n => ?_) (fun n => ?_) y2
  · rw [q_lat, v316_lat]
  · rw [q_ctx, v316_ctx]

theorem result22 : (dats m 0 c).arrAt 22 cfg0.N = val_main_v317 (F := Ideal) (A m c main_arg0) (A m c main_arg1) (A m c main_arg2)
    (A m c main_arg3) (A m c main_arg4) (A m c main_arg6) (A m c main_arg8) := by
  rw [final22]
  funext y
  idx_vars y
  refine row_cases (P := fun s => kV m c y0 y1 s y3 = val_main_v317 (F := Ideal) (A m c main_arg0) (A m c main_arg1)
    (A m c main_arg2) (A m c main_arg3) (A m c main_arg4) (A m c main_arg6) (A m c main_arg8) (ix4 y0 y1 s y3))
    (fun n => ?_) (fun n => ?_) y2
  · rw [k_lat, v317_lat]
  · rw [k_ctx, v317_ctx]

theorem result23 : (dats m 0 c).arrAt 23 cfg0.N = val_main_v318 (F := Ideal) (A m c main_arg0) (A m c main_arg1) (A m c main_arg2)
    (A m c main_arg3) (A m c main_arg4) (A m c main_arg6) (A m c main_arg8) := by
  rw [final23]
  funext y
  idx_vars y
  refine row_cases (P := fun s => vV m c y0 y1 s y3 = val_main_v318 (F := Ideal) (A m c main_arg0) (A m c main_arg1)
    (A m c main_arg2) (A m c main_arg3) (A m c main_arg4) (A m c main_arg6) (A m c main_arg8) (ix4 y0 y1 s y3))
    (fun n => ?_) (fun n => ?_) y2
  · rw [v_row, rowV_lat m c y0 _ n rfl, v318_lat]
  · rw [v_row, rowV_ctx m c y0 _ n rfl, v318_ctx]

end Cert.InProj

end
-- ==== Proof.MgTile.lean ====
/- One tile of each of the merge kernel's results, at an index, from the blocks that the tile reads. -/
module

public import proofs.«01_k».proof.Proof.InBlocks
public import proofs.«01_k».proof.Proof.Gen.Kernel3Ideal.Value

@[expose] public section

set_option maxRecDepth 16384

noncomputable section

namespace Cert.Merge

open Cert.Kernel3Ideal Cert.Kernel3Ideal.Gen Idealize.ShloMosaic
open Cert.InProj (mul rms modRow eps n1024 ofBits_eps ofBits_1024)

/-- The two branches' projections, each times its gates, summed and projected again. -/
def merge (g : Fin 2048 → EReal) (hy att : Fin 512 → EReal) (wh wm : Fin 512 → Fin 1024 → EReal)
    (wo : Fin 1024 → Fin 1024 → EReal) (k : Fin 1024) : EReal :=
  mul (fun e => g ⟨e.val, by omega⟩ * mul hy wh e + g ⟨1024 + e.val, by omega⟩ * mul att wm e) wo k

theorem is_ctx : ∀ n : Fin 17, Scalar.cmpi .sge (BitVec.ofNat 32 n.val) 16#32 = if 16 ≤ n.val then 1#1 else 0#1 := by
  decide +kernel

theorem select_one {α : Type} (a b : α) : Scalar.select 1#1 a b = a := rfl
theorem select_zero {α : Type} (a b : α) : Scalar.select 0#1 a b = b := rfl

/-- The merged rows of a tile: of the context's branches in the last tile, of the latents' in the others. -/
theorem pay4_at (i : grid0.Coords) (n : Fin 17) (hn : (i 1).val = n.val) (v1 v3 : Vec Ideal S1x256x512 .f32)
    (v7 v9 : Vec Ideal S1x256x512 .bf16) (v12 : Vec Ideal S1x256x2048 .bf16) (v16 v21 : Vec Ideal S1x512x1024 .bf16)
    (v27 : Vec Ideal S1x1024x1024 .bf16) (r : Fin 256) (k : Fin 1024) :
    k0_pay4 i v1 v3 v7 v9 v12 v16 v21 v27 (ix2 r k)
      = merge (fun j => v12 (ix3 0 r j)) (fun e => if 16 ≤ n.val then v1 (ix3 0 r e) else v3 (ix3 0 r e))
        (fun e => if 16 ≤ n.val then v7 (ix3 0 r e) else v9 (ix3 0 r e)) (fun e j => v16 (ix3 0 e j))
        (fun e j => v21 (ix3 0 e j)) (fun e j => v27 (ix3 0 e j)) k := by
  unfold merge mul k0_pay4
  rw [hn]
  by_cases h : 16 ≤ n.val
  · simp only [is_ctx, if_pos h, select_one]
    pointwise []
  · simp only [is_ctx, if_neg h, select_zero]
    pointwise []

theorem pay5_at (v : Vec Ideal S1x1x1x1x1024 .f32) (k : Fin 1024) : k0_pay5 v (ix2 0 k) = v (ix5 0 0 0 0 k) := by
  pointwise [k0_pay5]

theorem pay6_at (y : FVec Ideal S256x1024 .f32) (v30 : Vec Ideal S1x1x1x1x1024 .f32) (v36 : Vec Ideal S1x256x1024 .f32)
    (r : Fin 256) (k : Fin 1024) :
    k0_pay6 y v30 v36 (ix2 r k) = v36 (ix3 0 r k) + v30 (ix5 0 0 0 0 k) * y (ix2 r k) := by
  pointwise [k0_pay6]

theorem pay8_at (y : FVec Ideal S256x1024 .f32) (v30 : Vec Ideal S1x1x1x1x1024 .f32) (v36 : Vec Ideal S1x256x1024 .f32)
    (v44 : Vec Ideal S1x1x1024 .f32) (r : Fin 256) (k : Fin 1024) :
    k0_pay8 y v30 v36 v44 (ix2 r k) = rms n1024 (fun e => k0_pay6 y v30 v36 (ix2 r e)) (fun e => v44 (ix3 0 0 e)) k := by
  unfold rms
  pointwise [k0_pay8, ofBits_eps, ofBits_1024]

theorem pay9_at (v34 : Vec Ideal S1x1x1x1x1024 .f32) (r : Fin 256) (k : Fin 1024) :
    k0_pay9 v34 (ix2 r k) = 1 + v34 (ix5 0 0 0 0 k) := by
  pointwise [k0_pay9]

theorem pay11_at (v33 : FVec Ideal S1x1024 .f32) (v57 v60 : FVec Ideal S256x1024 .f32) (r : Fin 256) (k : Fin 1024) :
    k0_pay11 v33 v57 v60 (ix3 0 r k) = v57 (ix2 r k) * v60 (ix2 r k) + v33 (ix2 0 k) := by
  pointwise [k0_pay11, k0_pay10]

variable (i : grid0.Coords) (n : Fin 17) (hn : (i 1).val = n.val) (x0 : Vec Ideal S1x256x1024 .f32)
  (x1 : Vec Ideal S1x256x2048 .bf16) (x2 x3 : Vec Ideal S1x256x512 .f32) (x4 x5 : Vec Ideal S1x256x512 .bf16)
  (x6 : Vec Ideal S1x1x1x6x1024 .f32) (x7 : Vec Ideal S1x1x1024 .f32) (x8 x9 : Vec Ideal S1x512x1024 .bf16)
  (x10 : Vec Ideal S1x1024x1024 .bf16) (x11 : Vec Ideal S1x1024x128 .f32) (x12 : Vec Ideal S1x1x128 .f32)

/-- A tile's merged rows. -/
def yB (r : Fin 256) (k : Fin 1024) : EReal :=
  merge (fun j => x1 (ix3 0 r j)) (fun e => if 16 ≤ n.val then x3 (ix3 0 r e) else x2 (ix3 0 r e))
    (fun e => if 16 ≤ n.val then x5 (ix3 0 r e) else x4 (ix3 0 r e)) (fun e j => x8 (ix3 0 e j)) (fun e j => x9 (ix3 0 e j))
    (fun e j => x10 (ix3 0 e j)) k

/-- A tile's rows with the merged rows added. -/
def h1B (r : Fin 256) (k : Fin 1024) : EReal := x0 (ix3 0 r k) + x6 (ix5 0 0 0 2 k) * yB n x1 x2 x3 x4 x5 x8 x9 x10 r k

include hn in
theorem pay37_at (r : Fin 256) (k : Fin 1024) :
    k0_pay37 i x0 x1 x2 x3 x4 x5 x6 x7 x8 x9 x10 x11 x12 (ix2 r k) = yB n x1 x2 x3 x4 x5 x8 x9 x10 r k := by
  unfold k0_pay37 yB
  rw [pay4_at i n hn]
  pointwise []

include hn in
theorem h1_at (r : Fin 256) (k : Fin 1024) :
    k0_pay6 (k0_pay37 i x0 x1 x2 x3 x4 x5 x6 x7 x8 x9 x10 x11 x12) (View.ld x6 r0_4) (View.ld x0 r0_7) (ix2 r k)
      = h1B n x0 x1 x2 x3 x4 x5 x6 x8 x9 x10 r k := by
  unfold h1B
  rw [pay6_at, pay37_at i n hn]
  pointwise []

include hn in
/-- The rows that a tile leaves. -/
theorem out13_at (r : Fin 256) (k : Fin 1024) :
    out0_13 i x0 x1 x2 x3 x4 x5 x6 x7 x8 x9 x10 x11 x12 (ix3 0 r k) = h1B n x0 x1 x2 x3 x4 x5 x6 x8 x9 x10 r k := by
  unfold out0_13
  rw [View.canon_unit_zero (by decide), ← h1_at i n hn x0 x1 x2 x3 x4 x5 x6 x7 x8 x9 x10 x11 x12]
  pointwise [k0_pay7]

include hn in
/-- Those rows normalised, scaled and shifted. -/
theorem out14_at (r : Fin 256) (k : Fin 1024) :
    out0_14 i x0 x1 x2 x3 x4 x5 x6 x7 x8 x9 x10 x11 x12 (ix3 0 r k)
      = modRow (h1B n x0 x1 x2 x3 x4 x5 x6 x8 x9 x10 r) (fun e => x7 (ix3 0 0 e)) (fun e => x6 (ix5 0 0 0 3 e))
        (fun e => x6 (ix5 0 0 0 4 e)) k := by
  unfold out0_14 k0_pay38 k0_pay39 k0_pay40 modRow
  rw [View.canon_unit_zero (by decide), pay11_at, pay8_at, pay9_at, pay5_at]
  simp only [h1_at i n hn]
  refine congrArg₂ (· + ·) (congrArg₂ (· * ·) (congrFun (congrArg (rms n1024 _) (funext fun e => ?_)) k)
    (congrArg (1 + ·) ?_)) ?_ <;> pointwise []

end Cert.Merge

end
-- ==== Proof.MgFinal.lean ====
/- The merge call's result arrays after the run, from the arrays that the call is given. -/
module

public import proofs.«01_k».proof.Proof.MgTile
public import proofs.«01_k».proof.Proof.InFinal

@[expose] public section

set_option maxRecDepth 16384
set_option maxHeartbeats 1000000

noncomputable section

namespace Cert.Merge

open Cert.Kernel3Ideal Cert.Kernel3Ideal.Gen Idealize.ShloMosaic Idealize.ShloMosaic.TcCoe Idealize.SL.Sem
open Cert.InProj (mul rms modRow stays_at)

variable (m : (ℓ : Loc nD τ sig) → Buf (Elt Ideal) ℓ) (c : Dev nD)

/-- Where each grid point's blocks lie that move with the point. -/
theorem idx_moves : ∀ t : Fin grid0.N,
    (win0_13.index t 0 < 4 ∧ win0_13.index t 1 < 17 ∧ (grid0.coords t 1).val = win0_13.index t 1)
    ∧ (win0_0.index t 0 = win0_13.index t 0 ∧ win0_0.index t 1 = win0_13.index t 1 ∧ win0_0.index t 2 = 0)
    ∧ (win0_1.index t 0 = win0_13.index t 0 ∧ win0_1.index t 1 = win0_13.index t 1 ∧ win0_1.index t 2 = 0)
    ∧ (win0_2.index t 0 = win0_13.index t 0 ∧ win0_2.index t 1 = min (win0_13.index t 1) 15 ∧ win0_2.index t 2 = 0)
    ∧ (win0_3.index t 0 = win0_13.index t 0 ∧ win0_3.index t 1 = 0 ∧ win0_3.index t 2 = 0)
    ∧ (win0_4.index t 0 = win0_13.index t 0 ∧ win0_4.index t 1 = min (win0_13.index t 1) 15 ∧ win0_4.index t 2 = 0)
    ∧ (win0_5.index t 0 = win0_13.index t 0 ∧ win0_5.index t 1 = 0 ∧ win0_5.index t 2 = 0)
    ∧ (win0_6.index t 0 = 0 ∧ win0_6.index t 1 = win0_13.index t 0 ∧ win0_6.index t 2 = win0_13.index t 1 / 16
        ∧ win0_6.index t 3 = 0 ∧ win0_6.index t 4 = 0)
    ∧ (win0_13.index t 2 = 0)
    ∧ (win0_14.index t 0 = win0_13.index t 0 ∧ win0_14.index t 1 = win0_13.index t 1 ∧ win0_14.index t 2 = 0) := by
  decide +kernel

/-- The blocks that every grid point takes from the same place. -/
theorem idx_stays : ∀ t : Fin grid0.N, ∀ a : Fin 3,
    win0_7.index t a = 0 ∧ win0_8.index t a = 0 ∧ win0_9.index t a = 0 ∧ win0_10.index t a = 0 := by
  decide +kernel

/-- A grid point's sequence. -/
def tb (t : Fin grid0.N) : Fin 4 := ⟨win0_13.index t 0, (idx_moves t).1.1⟩

/-- A grid point's tile of rows. -/
def tn (t : Fin grid0.N) : Fin 17 := ⟨win0_13.index t 1, (idx_moves t).1.2.1⟩

/-- A row of a grid point's tile among the rows of the sequence. -/
def tr (t : Fin grid0.N) (r : Fin 256) : Fin 4352 := ⟨(tn t).val * 256 + r.val, by omega⟩

theorem blk0_at (t : Fin grid0.N) (r : Fin 256) (e : Fin 1024) :
    iblk m c 0 t (ix3 0 r e) = V m c main_v13 (ix3 (tb t) (tr t r) e) := by
  obtain ⟨h0, h1, h2⟩ := (idx_moves t).2.1
  refine congrArg (V m c main_v13) (funext fun a => Fin.ext ?_)
  match a with
  | 0 => exact (Pipeline.Window.rect_emb_val win0_0 t (ix3 0 r e) 0 rfl).trans (by rw [h0]; exact Nat.mul_one _)
  | 1 => exact (Pipeline.Window.rect_emb_val win0_0 t (ix3 0 r e) 1 rfl).trans (by rw [h1]; rfl)
  | 2 => exact (Pipeline.Window.rect_emb_val win0_0 t (ix3 0 r e) 2 rfl).trans (by rw [h2]; exact Nat.zero_add _)

theorem blk1_at (t : Fin grid0.N) (r : Fin 256) (e : Fin 2048) :
    iblk m c 1 t (ix3 0 r e) = V m c main_arg2 (ix3 (tb t) (tr t r) e) := by
  obtain ⟨h0, h1, h2⟩ := (idx_moves t).2.2.1
  refine congrArg (V m c main_arg2) (funext fun a => Fin.ext ?_)
  match a with
  | 0 => exact (Pipeline.Window.rect_emb_val win0_1 t (ix3 0 r e) 0 rfl).trans (by rw [h0]; exact Nat.mul_one _)
  | 1 => exact (Pipeline.Window.rect_emb_val win0_1 t (ix3 0 r e) 1 rfl).trans (by rw [h1]; rfl)
  | 2 => exact (Pipeline.Window.rect_emb_val win0_1 t (ix3 0 r e) 2 rfl).trans (by rw [h2]; exact Nat.zero_add _)

/-- The latents' branches, in the tiles of latents. -/
theorem blk2_at (t : Fin grid0.N) (r : Fin 256) (e : Fin 512) (h : (tn t).val < 16) :
    iblk m c 2 t (ix3 0 r e) = V m c main_arg3 (ix3 (tb t) ⟨(tn t).val * 256 + r.val, by omega⟩ e) := by
  obtain ⟨h0, h1, h2⟩ := (idx_moves t).2.2.2.1
  have h' : win0_13.index t 1 < 16 := h
  refine congrArg (V m c main_arg3) (funext fun a => Fin.ext ?_)
  match a with
  | 0 => exact (Pipeline.Window.rect_emb_val win0_2 t (ix3 0 r e) 0 rfl).trans (by rw [h0]; exact Nat.mul_one _)
  | 1 => exact (Pipeline.Window.rect_emb_val win0_2 t (ix3 0 r e) 1 rfl).trans (by rw [h1, Nat.min_eq_left (by omega)]; rfl)
  | 2 => exact (Pipeline.Window.rect_emb_val win0_2 t (ix3 0 r e) 2 rfl).trans (by rw [h2]; exact Nat.zero_add _)

theorem blk4_at (t : Fin grid0.N) (r : Fin 256) (e : Fin 512) (h : (tn t).val < 16) :
    iblk m c 4 t (ix3 0 r e) = V m c main_arg5 (ix3 (tb t) ⟨(tn t).val * 256 + r.val, by omega⟩ e) := by
  obtain ⟨h0, h1, h2⟩ := (idx_moves t).2.2.2.2.2.1
  have h' : win0_13.index t 1 < 16 := h
  refine congrArg (V m c main_arg5) (funext fun a => Fin.ext ?_)
  match a with
  | 0 => exact (Pipeline.Window.rect_emb_val win0_4 t (ix3 0 r e) 0 rfl).trans (by rw [h0]; exact Nat.mul_one _)
  | 1 => exact (Pipeline.Window.rect_emb_val win0_4 t (ix3 0 r e) 1 rfl).trans (by rw [h1, Nat.min_eq_left (by omega)]; rfl)
  | 2 => exact (Pipeline.Window.rect_emb_val win0_4 t (ix3 0 r e) 2 rfl).trans (by rw [h2]; exact Nat.zero_add _)

/-- The context's branches. -/
theorem blk3_at (t : Fin grid0.N) (r : Fin 256) (e : Fin 512) :
    iblk m c 3 t (ix3 0 r e) = V m c main_arg4 (ix3 (tb t) r e) := by
  obtain ⟨h0, h1, h2⟩ := (idx_moves t).2.2.2.2.1
  refine congrArg (V m c main_arg4) (funext fun a => Fin.ext ?_)
  match a with
  | 0 => exact (Pipeline.Window.rect_emb_val win0_3 t (ix3 0 r e) 0 rfl).trans (by rw [h0]; exact Nat.mul_one _)
  | 1 => exact (Pipeline.Window.rect_emb_val win0_3 t (ix3 0 r e) 1 rfl).trans (by rw [h1]; exact Nat.zero_add _)
  | 2 => exact (Pipeline.Window.rect_emb_val win0_3 t (ix3 0 r e) 2 rfl).trans (by rw [h2]; exact Nat.zero_add _)

theorem blk5_at (t : Fin grid0.N) (r : Fin 256) (e : Fin 512) :
    iblk m c 5 t (ix3 0 r e) = V m c main_arg6 (ix3 (tb t) r e) := by
  obtain ⟨h0, h1, h2⟩ := (idx_moves t).2.2.2.2.2.2.1
  refine congrArg (V m c main_arg6) (funext fun a => Fin.ext ?_)
  match a with
  | 0 => exact (Pipeline.Window.rect_emb_val win0_5 t (ix3 0 r e) 0 rfl).trans (by rw [h0]; exact Nat.mul_one _)
  | 1 => exact (Pipeline.Window.rect_emb_val win0_5 t (ix3 0 r e) 1 rfl).trans (by rw [h1]; exact Nat.zero_add _)
  | 2 => exact (Pipeline.Window.rect_emb_val win0_5 t (ix3 0 r e) 2 rfl).trans (by rw [h2]; exact Nat.zero_add _)

/-- The modulation of the latent rows (first) or of the context's (second). -/
theorem blk6_at (t : Fin grid0.N) (k : Fin 6) (e : Fin 1024) :
    iblk m c 6 t (ix5 0 0 0 k e) = V m c main_v6 (ix5 0 (tb t) ⟨(tn t).val / 16, by omega⟩ k e) := by
  obtain ⟨h0, h1, h2, h3, h4⟩ := (idx_moves t).2.2.2.2.2.2.2.1
  refine congrArg (V m c main_v6) (funext fun a => Fin.ext ?_)
  match a with
  | 0 => exact (Pipeline.Window.rect_emb_val win0_6 t (ix5 0 0 0 k e) 0 rfl).trans (by rw [h0]; rfl)
  | 1 => exact (Pipeline.Window.rect_emb_val win0_6 t (ix5 0 0 0 k e) 1 rfl).trans (by rw [h1]; exact Nat.mul_one _)
  | 2 => exact (Pipeline.Window.rect_emb_val win0_6 t (ix5 0 0 0 k e) 2 rfl).trans (by rw [h2]; exact Nat.mul_one _)
  | 3 => exact (Pipeline.Window.rect_emb_val win0_6 t (ix5 0 0 0 k e) 3 rfl).trans (by rw [h3]; exact Nat.zero_add _)
  | 4 => exact (Pipeline.Window.rect_emb_val win0_6 t (ix5 0 0 0 k e) 4 rfl).trans (by rw [h4]; exact Nat.zero_add _)

theorem blk7_at (t : Fin grid0.N) (e : Fin 1024) : iblk m c 7 t (ix3 0 0 e) = V m c main_v7 (ix3 0 0 e) :=
  congrArg (V m c main_v7) (funext fun a => Fin.ext ((Pipeline.Window.rect_emb_val win0_7 t (ix3 0 0 e) a rfl).trans
    (stays_at (idx_stays t a).1 (by match a with | 0 | 1 | 2 => rfl))))

theorem blk8_at (t : Fin grid0.N) (r : Fin 512) (e : Fin 1024) : iblk m c 8 t (ix3 0 r e) = V m c main_v14 (ix3 0 r e) :=
  congrArg (V m c main_v14) (funext fun a => Fin.ext ((Pipeline.Window.rect_emb_val win0_8 t (ix3 0 r e) a rfl).trans
    (stays_at (idx_stays t a).2.1 (by match a with | 0 | 1 | 2 => rfl))))

theorem blk9_at (t : Fin grid0.N) (r : Fin 512) (e : Fin 1024) : iblk m c 9 t (ix3 0 r e) = V m c main_v15 (ix3 0 r e) :=
  congrArg (V m c main_v15) (funext fun a => Fin.ext ((Pipeline.Window.rect_emb_val win0_9 t (ix3 0 r e) a rfl).trans
    (stays_at (idx_stays t a).2.2.1 (by match a with | 0 | 1 | 2 => rfl))))

theorem blk10_at (t : Fin grid0.N) (r : Fin 1024) (e : Fin 1024) : iblk m c 10 t (ix3 0 r e) = V m c main_v16 (ix3 0 r e) :=
  congrArg (V m c main_v16) (funext fun a => Fin.ext ((Pipeline.Window.rect_emb_val win0_10 t (ix3 0 r e) a rfl).trans
    (stays_at (idx_stays t a).2.2.2 (by match a with | 0 | 1 | 2 => rfl))))

/-- The row `s` of the Hyena branch, of the latents or of the context. -/
def hyV (b : Fin 4) (s : Fin 4352) (e : Fin 512) : EReal :=
  if h : s.val < 4096 then V m c main_arg3 (ix3 b ⟨s.val, h⟩ e) else V m c main_arg4 (ix3 b ⟨s.val - 4096, by omega⟩ e)

/-- The row `s` of the attention branch. -/
def attV (b : Fin 4) (s : Fin 4352) (e : Fin 512) : EReal :=
  if h : s.val < 4096 then V m c main_arg5 (ix3 b ⟨s.val, h⟩ e) else V m c main_arg6 (ix3 b ⟨s.val - 4096, by omega⟩ e)

/-- A number and a multiple of another. -/
def addMul (x g y : EReal) : EReal := x + g * y

/-- The row `s` of sequence `b` with its merged branches added. -/
def h1V (b : Fin 4) (s : Fin 4352) (k : Fin 1024) : EReal :=
  addMul (V m c main_v13 (ix3 b s k)) (V m c main_v6 (ix5 0 b ⟨s.val / 4096, by omega⟩ 2 k))
    (merge (fun j => V m c main_arg2 (ix3 b s j)) (hyV m c b s) (attV m c b s) (fun e j => V m c main_v14 (ix3 0 e j))
      (fun e j => V m c main_v15 (ix3 0 e j)) (fun e j => V m c main_v16 (ix3 0 e j)) k)

/-- That row normalised, scaled and shifted. -/
def u2V (b : Fin 4) (s : Fin 4352) (k : Fin 1024) : EReal :=
  modRow (h1V m c b s) (fun e => V m c main_v7 (ix3 0 0 e)) (fun e => V m c main_v6 (ix5 0 b ⟨s.val / 4096, by omega⟩ 3 e))
    (fun e => V m c main_v6 (ix5 0 b ⟨s.val / 4096, by omega⟩ 4 e)) k

theorem part_at (t : Fin grid0.N) (r : Fin 256) : (tn t).val / 16 = (tr t r).val / 4096 := by
  simp only [tr]; omega

theorem hyB_at (t : Fin grid0.N) (r : Fin 256) (e : Fin 512) :
    ((if 16 ≤ (tn t).val then iblk m c 3 t (ix3 0 r e) else iblk m c 2 t (ix3 0 r e)) : EReal) = hyV m c (tb t) (tr t r) e := by
  have hn := (tn t).isLt
  have hs : (tr t r).val = (tn t).val * 256 + r.val := rfl
  unfold hyV
  by_cases h : 16 ≤ (tn t).val
  · rw [if_pos h, dif_neg (by omega), blk3_at]
    exact congrArg (fun r => V m c main_arg4 (ix3 (tb t) r e)) (Fin.ext (by simp only; omega))
  · rw [if_neg h, dif_pos (by omega), blk2_at m c t r e (by omega)]
    rfl

theorem attB_at (t : Fin grid0.N) (r : Fin 256) (e : Fin 512) :
    ((if 16 ≤ (tn t).val then iblk m c 5 t (ix3 0 r e) else iblk m c 4 t (ix3 0 r e)) : EReal) = attV m c (tb t) (tr t r) e := by
  have hn := (tn t).isLt
  have hs : (tr t r).val = (tn t).val * 256 + r.val := rfl
  unfold attV
  by_cases h : 16 ≤ (tn t).val
  · rw [if_pos h, dif_neg (by omega), blk5_at]
    exact congrArg (fun r => V m c main_arg6 (ix3 (tb t) r e)) (Fin.ext (by simp only; omega))
  · rw [if_neg h, dif_pos (by omega), blk4_at m c t r e (by omega)]
    rfl

theorem h1B_at (t : Fin grid0.N) (r : Fin 256) :
    h1B (tn t) (iblk m c 0 t) (iblk m c 1 t) (iblk m c 2 t) (iblk m c 3 t) (iblk m c 4 t) (iblk m c 5 t) (iblk m c 6 t)
      (iblk m c 8 t) (iblk m c 9 t) (iblk m c 10 t) r = h1V m c (tb t) (tr t r) := by
  funext k
  unfold h1B yB h1V addMul
  simp only [hyB_at, attB_at, blk0_at, blk1_at, blk6_at, blk8_at, blk9_at, blk10_at, part_at t r]

theorem final13 : (dats m 0 c).arrAt 13 cfg0.N = fun i : S4x4352x1024.Idx => h1V m c (i 0) (i 1) (i 2) := by
  refine (dats m 0 c).arrAt_eq_of_covers 13 _ (by decide +kernel) fun t hf y => ?_
  blk_simp
  rw [after0_13]
  idx_vars y
  obtain rfl : y0 = 0 := Subsingleton.elim _ _
  have a2 := (idx_moves t).2.2.2.2.2.2.2.2.1
  rw [out13_at _ (tn t) (idx_moves t).1.2.2, h1B_at]
  have e0 : ((View.whole main_v17_0).slice (win0_13.rect t)).emb (ix3 0 y1 y2) 0 = tb t := Fin.ext
    ((Pipeline.Window.rect_emb_val win0_13 t (ix3 0 y1 y2) 0 rfl).trans (Nat.mul_one _))
  have e1 : ((View.whole main_v17_0).slice (win0_13.rect t)).emb (ix3 0 y1 y2) 1 = tr t y1 := Fin.ext
    ((Pipeline.Window.rect_emb_val win0_13 t (ix3 0 y1 y2) 1 rfl).trans rfl)
  have e2 : ((View.whole main_v17_0).slice (win0_13.rect t)).emb (ix3 0 y1 y2) 2 = y2 := Fin.ext
    ((Pipeline.Window.rect_emb_val win0_13 t (ix3 0 y1 y2) 2 rfl).trans (by rw [a2]; exact Nat.zero_add _))
  rw [e0, e1, e2]

theorem final14 : (dats m 0 c).arrAt 14 cfg0.N = fun i : S4x4352x1024.Idx => u2V m c (i 0) (i 1) (i 2) := by
  refine (dats m 0 c).arrAt_eq_of_covers 14 _ (by decide +kernel) fun t hf y => ?_
  blk_simp
  rw [after0_14]
  idx_vars y
  obtain rfl : y0 = 0 := Subsingleton.elim _ _
  obtain ⟨a0, a1, a2⟩ := (idx_moves t).2.2.2.2.2.2.2.2.2
  rw [out14_at _ (tn t) (idx_moves t).1.2.2, h1B_at]
  simp only [blk6_at, blk7_at, part_at t y1]
  unfold u2V
  have e0 : ((View.whole main_v17_1).slice (win0_14.rect t)).emb (ix3 0 y1 y2) 0 = tb t := Fin.ext
    ((Pipeline.Window.rect_emb_val win0_14 t (ix3 0 y1 y2) 0 rfl).trans (by rw [a0]; exact Nat.mul_one _))
  have e1 : ((View.whole main_v17_1).slice (win0_14.rect t)).emb (ix3 0 y1 y2) 1 = tr t y1 := Fin.ext
    ((Pipeline.Window.rect_emb_val win0_14 t (ix3 0 y1 y2) 1 rfl).trans (by rw [a1]; rfl))
  have e2 : ((View.whole main_v17_1).slice (win0_14.rect t)).emb (ix3 0 y1 y2) 2 = y2 := Fin.ext
    ((Pipeline.Window.rect_emb_val win0_14 t (ix3 0 y1 y2) 2 rfl).trans (by rw [a2]; exact Nat.zero_add _))
  rw [e0, e1, e2]

end Cert.Merge

end
-- ==== Proof.MgRef.lean ====
/- The merge's reference at an index, as the gated products of its arguments' rows. -/
module

public import proofs.«01_k».proof.Proof.MgTile
public import proofs.«01_k».proof.Proof.Gen.Reference3Ideal.Read

@[expose] public section

set_option maxRecDepth 16384

noncomputable section

namespace Cert.Merge

open Cert.Reference3Ideal Cert.Reference3Ideal.Gen Cert.Reference3Ideal.Read Idealize.ShloMosaic
open Cert.InProj (mul rms modRow eps n1024 ofBits_eps ofBits_1024)

variable (x0 : FVec Ideal S4x4096x1024 .f32) (x1 : FVec Ideal S4x256x1024 .f32) (x2 : FVec Ideal S4x4352x2048 .bf16)
  (x3 : FVec Ideal S4x4096x512 .f32) (x4 : FVec Ideal S4x256x512 .f32) (x5 : FVec Ideal S4x4096x512 .bf16)
  (x6 : FVec Ideal S4x256x512 .bf16) (x7 : FVec Ideal S4x8x6144 .f32) (x8 : FVec Ideal S4x1024 .f32)
  (x9 x10 : FVec Ideal S4x512x1024 .f32) (x11 : FVec Ideal S4x1024x1024 .f32)

/-- A row with its merged branches added, under the modulation's row `r`. -/
def h1S (x : Fin 1024 → EReal) (g : Fin 2048 → EReal) (hy att : Fin 512 → EReal) (r : Fin 8) (k : Fin 1024) : EReal :=
  x k + x7 (ix3 0 r ⟨2048 + k.val, by omega⟩)
    * merge g hy att (fun e j => x9 (ix3 0 e j)) (fun e j => x10 (ix3 0 e j)) (fun e j => x11 (ix3 0 e j)) k

/-- A row normalised, scaled and shifted by the modulation's row `r`. -/
def u2S (x : Fin 1024 → EReal) (r : Fin 8) (k : Fin 1024) : EReal :=
  modRow x (fun e => x8 (ix2 0 e)) (fun e => x7 (ix3 0 r ⟨3072 + e.val, by omega⟩)) (fun e => x7 (ix3 0 r ⟨4096 + e.val, by omega⟩)) k

/-- A latent's row with its merged branches added. -/
abbrev h1L (b : Fin 4) (n : Fin 4096) : Fin 1024 → EReal :=
  h1S x7 x9 x10 x11 (fun k => x0 (ix3 b n k)) (fun j => x2 (ix3 b ⟨n.val, by omega⟩ j)) (fun e => x3 (ix3 b n e))
    (fun e => x5 (ix3 b n e)) ⟨b.val, by omega⟩

/-- A context token's. -/
abbrev h1C (b : Fin 4) (n : Fin 256) : Fin 1024 → EReal :=
  h1S x7 x9 x10 x11 (fun k => x1 (ix3 b n k)) (fun j => x2 (ix3 b ⟨4096 + n.val, by omega⟩ j)) (fun e => x4 (ix3 b n e))
    (fun e => x6 (ix3 b n e)) 4

theorem v19_at (b : Fin 4) (n : Fin 4096) (e : Fin 1024) :
    val_main_v19 (F := Ideal) x2 x3 x5 x9 x10 (ix3 b n e)
      = x2 (ix3 b ⟨n.val, by omega⟩ ⟨e.val, by omega⟩) * mul (fun e => x3 (ix3 b n e)) (fun e j => x9 (ix3 0 e j)) e
        + x2 (ix3 b ⟨n.val, by omega⟩ ⟨1024 + e.val, by omega⟩) * mul (fun e => x5 (ix3 b n e)) (fun e j => x10 (ix3 0 e j)) e := by
  unfold mul
  pointwise [val_main_v19, val_main_v18, val_main_v17, val_main_v16, val_main_v15, val_main_v14, val_main_v13, val_main_v12,
    val_main_v11, val_main_v10, val_main_v9, val_main_v8, val_main_v7, val_main_v5]

theorem v25_at (b : Fin 4) (n : Fin 4096) (k : Fin 1024) :
    val_main_v25 (F := Ideal) x0 x2 x3 x5 x7 x9 x10 x11 (ix3 b n k) = h1L x0 x2 x3 x5 x7 x9 x10 x11 b n k := by
  unfold h1L h1S merge
  pointwise [val_main_v25, val_main_v24, val_main_v23, val_main_v22, val_main_v21, val_main_v20, v19_at, val_main_v6,
    val_main_v2, val_main_v1, val_main_v0]
  rfl

theorem v39_at (b : Fin 4) (n : Fin 256) (e : Fin 1024) :
    val_main_v39 (F := Ideal) x2 x4 x6 x9 x10 (ix3 b n e)
      = x2 (ix3 b ⟨4096 + n.val, by omega⟩ ⟨e.val, by omega⟩) * mul (fun e => x4 (ix3 b n e)) (fun e j => x9 (ix3 0 e j)) e
        + x2 (ix3 b ⟨4096 + n.val, by omega⟩ ⟨1024 + e.val, by omega⟩)
          * mul (fun e => x6 (ix3 b n e)) (fun e j => x10 (ix3 0 e j)) e := by
  unfold mul
  pointwise [val_main_v39, val_main_v38, val_main_v37, val_main_v36, val_main_v35, val_main_v34, val_main_v33, val_main_v32,
    val_main_v31, val_main_v30, val_main_v29, val_main_v28, val_main_v27, val_main_v5]

theorem v46_at (b : Fin 4) (n : Fin 256) (k : Fin 1024) :
    val_main_v46 (F := Ideal) x1 x2 x4 x6 x7 x9 x10 x11 (ix3 b n k) = h1C x1 x2 x4 x6 x7 x9 x10 x11 b n k := by
  unfold h1C h1S merge
  pointwise [val_main_v46, val_main_v45, val_main_v44, val_main_v43, val_main_v42, val_main_v41, val_main_v40, v39_at,
    val_main_v26, val_main_v4, val_main_v3]
  rfl

theorem v56_at (b : Fin 4) (n : Fin 4096) : val_main_v56 (F := Ideal) x0 x2 x3 x5 x7 x9 x10 x11 (ix3 b n 0)
    = Ideal.rsqrt (Ideal.div (∑ e, h1L x0 x2 x3 x5 x7 x9 x10 x11 b n e * h1L x0 x2 x3 x5 x7 x9 x10 x11 b n e) n1024 + eps) := by
  pointwise [val_main_v56, val_main_v55, val_main_v54, val_main_cst_1, val_main_v53, val_main_v52, val_main_cst_0, val_main_v51,
    val_main_v50, val_main_cst, val_main_v49, v25_at, ofBits_eps, ofBits_1024]

theorem v69_at (b : Fin 4) (n : Fin 4096) (k : Fin 1024) :
    val_main_v69 (F := Ideal) x0 x2 x3 x5 x7 x8 x9 x10 x11 (ix3 b n k)
      = u2S x7 x8 (h1L x0 x2 x3 x5 x7 x9 x10 x11 b n) ⟨b.val, by omega⟩ k := by
  unfold u2S modRow rms
  pointwise [val_main_v69, val_main_v68, val_main_v67, val_main_v66, val_main_v65, val_main_v64, val_main_v63, val_main_cst_2,
    val_main_v62, val_main_v61, val_main_v60, val_main_v59, val_main_v58, val_main_v57, v56_at, v25_at, val_main_v48,
    val_main_v47, val_main_v2, val_main_v1, val_main_v0]

theorem v79_at (b : Fin 4) (n : Fin 256) : val_main_v79 (F := Ideal) x1 x2 x4 x6 x7 x9 x10 x11 (ix3 b n 0)
    = Ideal.rsqrt (Ideal.div (∑ e, h1C x1 x2 x4 x6 x7 x9 x10 x11 b n e * h1C x1 x2 x4 x6 x7 x9 x10 x11 b n e) n1024 + eps) := by
  pointwise [val_main_v79, val_main_v78, val_main_v77, val_main_cst_5, val_main_v76, val_main_v75, val_main_cst_4, val_main_v74,
    val_main_v73, val_main_cst_3, val_main_v72, v46_at, ofBits_eps, ofBits_1024]

theorem v94_at (b : Fin 4) (n : Fin 256) (k : Fin 1024) :
    val_main_v94 (F := Ideal) x1 x2 x4 x6 x7 x8 x9 x10 x11 (ix3 b n k)
      = u2S x7 x8 (h1C x1 x2 x4 x6 x7 x9 x10 x11 b n) 4 k := by
  unfold u2S modRow rms
  pointwise [val_main_v94, val_main_v93, val_main_v92, val_main_v91, val_main_v90, val_main_v89, val_main_v88, val_main_v87,
    val_main_v86, val_main_cst_6, val_main_v85, val_main_v84, val_main_v83, val_main_v82, val_main_v81, val_main_v80, v79_at,
    v46_at, val_main_v71, val_main_v70, val_main_v4, val_main_v3]

theorem v95_lat (b : Fin 4) (n : Fin 4096) (k : Fin 1024) :
    val_main_v95 (F := Ideal) x0 x1 x2 x3 x4 x5 x6 x7 x9 x10 x11 (ix3 b ⟨n.val, by omega⟩ k)
      = h1L x0 x2 x3 x5 x7 x9 x10 x11 b n k := by
  pointwise [val_main_v95, v25_at]

theorem v95_ctx (b : Fin 4) (n : Fin 256) (k : Fin 1024) :
    val_main_v95 (F := Ideal) x0 x1 x2 x3 x4 x5 x6 x7 x9 x10 x11 (ix3 b ⟨4096 + n.val, by omega⟩ k)
      = h1C x1 x2 x4 x6 x7 x9 x10 x11 b n k := by
  pointwise [val_main_v95, v46_at]

theorem v96_lat (b : Fin 4) (n : Fin 4096) (k : Fin 1024) :
    val_main_v96 (F := Ideal) x0 x1 x2 x3 x4 x5 x6 x7 x8 x9 x10 x11 (ix3 b ⟨n.val, by omega⟩ k)
      = u2S x7 x8 (h1L x0 x2 x3 x5 x7 x9 x10 x11 b n) ⟨b.val, by omega⟩ k := by
  pointwise [val_main_v96, v69_at]

theorem v96_ctx (b : Fin 4) (n : Fin 256) (k : Fin 1024) :
    val_main_v96 (F := Ideal) x0 x1 x2 x3 x4 x5 x6 x7 x8 x9 x10 x11 (ix3 b ⟨4096 + n.val, by omega⟩ k)
      = u2S x7 x8 (h1C x1 x2 x4 x6 x7 x9 x10 x11 b n) 4 k := by
  pointwise [val_main_v96, v94_at]

end Cert.Merge

end
-- ==== Proof.MgResults.lean ====
/- The merge call leaves the reference's rows: the residual rows, and those rows normalised and modulated. -/
module

public import proofs.«01_k».proof.Proof.MgFinal
public import proofs.«01_k».proof.Proof.MgRef
public import proofs.«01_k».proof.Proof.InResults

@[expose] public section

set_option maxRecDepth 16384

noncomputable section

namespace Cert.Merge

open Cert.Kernel3Ideal Cert.Kernel3Ideal.Gen Idealize.ShloMosaic Idealize.ShloMosaic.TcCoe Idealize.SL.Sem
open Cert.InProj (modRow modsArr modsArr_at rowsArr rowsArr_at row_cases)
open Cert.Reference3Ideal.Read (val_main_v95 val_main_v96)

variable (m : (ℓ : Loc nD τ sig) → Buf (Elt Ideal) ℓ) (c : Dev nD)

/-- An argument array. -/
abbrev A (b : Ref sig .tc) : Buf (Elt Ideal) ((c : Thread nD τ).loc b) := m ((c : Thread nD τ).loc b)

theorem V_v6 : V m c main_v6 = modsArr (A m c main_arg7) := by
  show StableHlo.after hostOps0 (fun b => m (c, b)) (Proc.devRef .tc main_v6) = _
  unfold hostOps0
  after_results
  rfl

theorem V_v13 : V m c main_v13 = rowsArr (A m c main_arg0) (A m c main_arg1) := by
  show StableHlo.after hostOps0 (fun b => m (c, b)) (Proc.devRef .tc main_v13) = _
  unfold hostOps0
  after_results
  rfl

theorem V_v7 (e : Fin 1024) : V m c main_v7 (ix3 0 0 e) = A m c main_arg8 (ix2 0 e) := by
  have h : V m c main_v7 = (shapeCast S4x1x1024 (A m c main_arg8) shapeCasts_S4x1024_S4x1x1024 : FVec Ideal S4x1x1024 .f32) := by
    show StableHlo.after hostOps0 (fun b => m (c, b)) (Proc.devRef .tc main_v7) = _
    unfold hostOps0
    after_results
    rfl
  rw [h]
  pointwise []

theorem V_v14 : V m c main_v14 = A m c main_arg9 := by
  show StableHlo.after hostOps0 (fun b => m (c, b)) (Proc.devRef .tc main_v14) = _
  unfold hostOps0
  after_results
  rfl

theorem V_v15 : V m c main_v15 = A m c main_arg10 := by
  show StableHlo.after hostOps0 (fun b => m (c, b)) (Proc.devRef .tc main_v15) = _
  unfold hostOps0
  after_results
  rfl

theorem V_v16 : V m c main_v16 = A m c main_arg11 := by
  show StableHlo.after hostOps0 (fun b => m (c, b)) (Proc.devRef .tc main_v16) = _
  unfold hostOps0
  after_results
  rfl

theorem mods_V (b : Fin 4) (s : Fin 2) (k : Fin 6) (e : Fin 1024) (r : Fin 8) (j : Fin 6144)
    (hr : r.val = if s.val = 0 then b.val else 4) (hj : j.val = k.val * 1024 + e.val) :
    V m c main_v6 (ix5 0 b s k e) = A m c main_arg7 (ix3 0 r j) := by
  rw [V_v6, modsArr_at]
  exact congrArg₂ (fun r j => A m c main_arg7 (ix3 0 r j)) (Fin.ext (Eq.trans (by split <;> rfl) hr.symm)) (Fin.ext hj.symm)

/-- The row of the modulation that a row of the sequence takes. -/
def modR (b : Fin 4) (s : Fin 4352) : Fin 8 := ⟨if s.val / 4096 = 0 then b.val else 4, by split <;> omega⟩

theorem h1V_eq (b : Fin 4) (s : Fin 4352) (x : Fin 1024 → EReal) (hy att : Fin 512 → EReal) (r : Fin 8)
    (hx : ∀ k, V m c main_v13 (ix3 b s k) = x k) (hh : hyV m c b s = hy) (ha : attV m c b s = att) (hr : modR b s = r) :
    h1V m c b s = h1S (A m c main_arg7) (A m c main_arg9) (A m c main_arg10) (A m c main_arg11) x
      (fun j => A m c main_arg2 (ix3 b s j)) hy att r := by
  funext k
  unfold h1V h1S addMul
  rw [hx k, hh, ha, V_v14, V_v15, V_v16, V_main_arg2,
    mods_V m c b ⟨s.val / 4096, by omega⟩ 2 k r ⟨2048 + k.val, by omega⟩ (congrArg Fin.val hr.symm) rfl]

theorem u2V_eq (b : Fin 4) (s : Fin 4352) (r : Fin 8) (hr : modR b s = r) :
    u2V m c b s = u2S (A m c main_arg7) (A m c main_arg8) (h1V m c b s) r := by
  funext k
  exact congrFun (congr (congr (congrArg (modRow _) (funext fun e => V_v7 m c e))
    (funext fun e => mods_V m c b ⟨s.val / 4096, by omega⟩ 3 e r ⟨3072 + e.val, by omega⟩ (congrArg Fin.val hr.symm) rfl))
    (funext fun e => mods_V m c b ⟨s.val / 4096, by omega⟩ 4 e r ⟨4096 + e.val, by omega⟩ (congrArg Fin.val hr.symm) rfl)) k

theorem modR_lat (b : Fin 4) (n : Fin 4096) : modR b ⟨n.val, by omega⟩ = ⟨b.val, by omega⟩ :=
  Fin.ext (if_pos (by simp only; omega))

theorem modR_ctx (b : Fin 4) (n : Fin 256) : modR b ⟨4096 + n.val, by omega⟩ = 4 :=
  Fin.ext (if_neg (by simp only; omega))

theorem h1_lat (b : Fin 4) (n : Fin 4096) : h1V m c b ⟨n.val, by omega⟩
    = h1L (A m c main_arg0) (A m c main_arg2) (A m c main_arg3) (A m c main_arg5) (A m c main_arg7) (A m c main_arg9)
      (A m c main_arg10) (A m c main_arg11) b n := by
  refine h1V_eq m c b _ _ _ _ _ (fun k => ?_) (funext fun e => ?_) (funext fun e => ?_) (modR_lat b n)
  · rw [V_v13, rowsArr_at, dif_pos n.isLt]
  · exact (dif_pos n.isLt).trans (by rw [V_main_arg3])
  · exact (dif_pos n.isLt).trans (by rw [V_main_arg5])

theorem h1_ctx (b : Fin 4) (n : Fin 256) : h1V m c b ⟨4096 + n.val, by omega⟩
    = h1C (A m c main_arg1) (A m c main_arg2) (A m c main_arg4) (A m c main_arg6) (A m c main_arg7) (A m c main_arg9)
      (A m c main_arg10) (A m c main_arg11) b n := by
  have hn : ¬ 4096 + n.val < 4096 := by omega
  have e : (⟨4096 + n.val - 4096, by omega⟩ : Fin 256) = n := Fin.ext (Nat.add_sub_cancel_left _ _)
  refine h1V_eq m c b _ _ _ _ _ (fun k => ?_) (funext fun k => ?_) (funext fun k => ?_) (modR_ctx b n)
  · rw [V_v13, rowsArr_at, dif_neg hn]
    exact congrArg (fun r => A m c main_arg1 (ix3 b r k)) e
  · refine (dif_neg hn).trans ?_
    rw [V_main_arg4]
    exact congrArg (fun r => A m c main_arg4 (ix3 b r k)) e
  · refine (dif_neg hn).trans ?_
    rw [V_main_arg6]
    exact congrArg (fun r => A m c main_arg6 (ix3 b r k)) e

theorem result13 : (dats m 0 c).arrAt 13 cfg0.N = val_main_v95 (F := Ideal) (A m c main_arg0) (A m c main_arg1) (A m c main_arg2)
    (A m c main_arg3) (A m c main_arg4) (A m c main_arg5) (A m c main_arg6) (A m c main_arg7) (A m c main_arg9)
    (A m c main_arg10) (A m c main_arg11) := by
  rw [final13]
  funext y
  idx_vars y
  refine row_cases (P := fun s => h1V m c y0 s y2 = val_main_v95 (F := Ideal) (A m c main_arg0) (A m c main_arg1)
    (A m c main_arg2) (A m c main_arg3) (A m c main_arg4) (A m c main_arg5) (A m c main_arg6) (A m c main_arg7)
    (A m c main_arg9) (A m c main_arg10) (A m c main_arg11) (ix3 y0 s y2)) (fun n => ?_) (fun n => ?_) y1
  · rw [h1_lat, v95_lat]
  · rw [h1_ctx, v95_ctx]

theorem result14 : (dats m 0 c).arrAt 14 cfg0.N = val_main_v96 (F := Ideal) (A m c main_arg0) (A m c main_arg1) (A m c main_arg2)
    (A m c main_arg3) (A m c main_arg4) (A m c main_arg5) (A m c main_arg6) (A m c main_arg7) (A m c main_arg8)
    (A m c main_arg9) (A m c main_arg10) (A m c main_arg11) := by
  rw [final14]
  funext y
  idx_vars y
  refine row_cases (P := fun s => u2V m c y0 s y2 = val_main_v96 (F := Ideal) (A m c main_arg0) (A m c main_arg1)
    (A m c main_arg2) (A m c main_arg3) (A m c main_arg4) (A m c main_arg5) (A m c main_arg6) (A m c main_arg7)
    (A m c main_arg8) (A m c main_arg9) (A m c main_arg10) (A m c main_arg11) (ix3 y0 s y2)) (fun n => ?_) (fun n => ?_) y1
  · rw [u2V_eq m c _ _ _ (modR_lat y0 n), h1_lat, v96_lat]
  · rw [u2V_eq m c _ _ _ (modR_ctx y0 n), h1_ctx, v96_ctx]

end Cert.Merge

end
-- ==== Proof.CbTile.lean ====
/- One tile of the last combine's result, at an index, from the blocks that the tile reads. -/
module

public import proofs.«01_k».proof.Proof.InBlocks
public import proofs.«01_k».proof.Proof.Gen.Kernel4Ideal.Value

@[expose] public section

set_option maxRecDepth 16384

noncomputable section

namespace Cert.Combine

open Cert.Kernel4Ideal Cert.Kernel4Ideal.Gen Idealize.ShloMosaic
open Cert.InProj (rms eps n1024 ofBits_eps ofBits_1024)

/-- A row with its two experts' outputs added, each times its weight, under the gate `g`. -/
def comb (x g : Fin 1024 → EReal) (w0 w1 : EReal) (y0 y1 : Fin 1024 → EReal) (k : Fin 1024) : EReal :=
  x k + g k * (w0 * y0 k + w1 * y1 k)

theorem pay1_at (v21 : FVec Ideal S256x1024 .f32) (v23 : FVec Ideal S1x1024 .f32) (v32 : FVec Ideal S256x1024 .f32)
    (r : Fin 256) (k : Fin 1024) : k0_pay1 v21 v23 v32 (ix3 0 r k) = v21 (ix2 r k) * v32 (ix2 r k) * v23 (ix2 0 k) := by
  pointwise [k0_pay1]

theorem pay2_at (v0 : Vec Ideal S1x256x1024 .f32) (v2 : Vec Ideal S1x1x1x1x1024 .f32) (v4 : Vec Ideal S1x256x2 .f32)
    (v7 v14 : Vec Ideal S1x1x256x1024 .f32) (r : Fin 256) (k : Fin 1024) :
    k0_pay2 v0 v2 v4 v7 v14 (ix2 r k)
      = comb (fun e => v0 (ix3 0 r e)) (fun e => v2 (ix5 0 0 0 0 e)) (v4 (ix3 0 r 0)) (v4 (ix3 0 r 1))
        (fun e => v7 (ix4 0 0 r e)) (fun e => v14 (ix4 0 0 r e)) k := by
  unfold comb
  pointwise [k0_pay2]

theorem pay4_at (v0 : Vec Ideal S1x256x1024 .f32) (v2 : Vec Ideal S1x1x1x1x1024 .f32) (v4 : Vec Ideal S1x256x2 .f32)
    (v7 v14 : Vec Ideal S1x1x256x1024 .f32) (r : Fin 256) (k : Fin 1024) :
    k0_pay4 v0 v2 v4 v7 v14 (ix2 r k)
      = Ideal.rsqrt (Ideal.div (∑ e, k0_pay2 v0 v2 v4 v7 v14 (ix2 r e) * k0_pay2 v0 v2 v4 v7 v14 (ix2 r e)) n1024 + eps) := by
  pointwise [k0_pay4, ofBits_eps, ofBits_1024]

variable (x0 : Vec Ideal S1x256x1024 .f32) (x1 : Vec Ideal S2x1x256x1024 .f32) (x2 : Vec Ideal S1x256x2 .f32)
  (x3 : Vec Ideal S1x1x1x6x1024 .f32) (x4 : Vec Ideal S1x1024 .f32)

/-- The rows that a tile leaves: the combined rows, normalised. -/
theorem out5_at (r : Fin 256) (k : Fin 1024) :
    out0_5 x0 x1 x2 x3 x4 (ix3 0 r k)
      = rms n1024 (comb (fun e => x0 (ix3 0 r e)) (fun e => x3 (ix5 0 0 0 5 e)) (x2 (ix3 0 r 0)) (x2 (ix3 0 r 1))
        (fun e => x1 (ix4 0 0 r e)) (fun e => x1 (ix4 1 0 r e))) (fun e => x4 (ix2 0 e)) k := by
  have h (e : Fin 1024) : k0_pay2 (View.ld x0 r0_0) (View.ld x3 r0_1) (View.ld x2 r0_2) (View.ld x1 r0_3) (View.ld x1 r0_4) (ix2 r e)
      = comb (fun e => x0 (ix3 0 r e)) (fun e => x3 (ix5 0 0 0 5 e)) (x2 (ix3 0 r 0)) (x2 (ix3 0 r 1))
        (fun e => x1 (ix4 0 0 r e)) (fun e => x1 (ix4 1 0 r e)) e := by
    rw [pay2_at]
    unfold comb
    pointwise []
  unfold out0_5 rms
  rw [View.canon_unit_zero (by decide), pay1_at, pay4_at]
  simp only [h]
  refine congrArg _ ?_
  pointwise [k0_pay3]

end Cert.Combine

end
-- ==== Proof.CbRef.lean ====
/- The last combine's reference at an index, and the modulation that both take. -/
module

public import proofs.«01_k».proof.Proof.CbTile
public import proofs.«01_k».proof.Proof.InWeights
public import proofs.«01_k».proof.Proof.Gen.Reference4Ideal.Read

@[expose] public section

set_option maxRecDepth 16384

noncomputable section

namespace Cert.Combine

open Cert.Reference4Ideal Cert.Reference4Ideal.Gen Cert.Reference4Ideal.Read Idealize.ShloMosaic
open Cert.InProj (rms eps n1024 ofBits_eps ofBits_1024 modsArr)

variable (x0 : FVec Ideal S4x4096x1024 .f32) (x1 : FVec Ideal S32768x1024 .f32) (x2 : FVec Ideal S4x4096x2 .f32)
  (x3 : FVec Ideal S4x8x6144 .f32) (x4 : FVec Ideal S1024 .f32)

/-- The combined row of a latent. -/
abbrev combR (b : Fin 4) (n : Fin 4096) : Fin 1024 → EReal :=
  comb (fun e => x0 (ix3 b n e)) (fun e => x3 (ix3 3 ⟨b.val, by omega⟩ ⟨5120 + e.val, by omega⟩)) (x2 (ix3 b n 0)) (x2 (ix3 b n 1))
    (fun e => val_main_v3 (F := Ideal) x1 (ix4 0 b n e)) (fun e => val_main_v3 (F := Ideal) x1 (ix4 1 b n e))

theorem v7_at (i : Fin 2) (b : Fin 4) (n : Fin 4096) (k : Fin 1024) :
    val_main_v7 (F := Ideal) x1 x2 (ix4 i b n k) = x2 (ix3 b n i) * val_main_v3 (F := Ideal) x1 (ix4 i b n k) := by
  refine Eq.trans ?_ (mul_comm _ _)
  pointwise [val_main_v7, val_main_v6, val_main_v5, val_main_v4]

theorem v8_at (b : Fin 4) (n : Fin 4096) (k : Fin 1024) :
    val_main_v8 (F := Ideal) x1 x2 (ix3 b n k) = x2 (ix3 b n 0) * val_main_v3 (F := Ideal) x1 (ix4 0 b n k)
      + x2 (ix3 b n 1) * val_main_v3 (F := Ideal) x1 (ix4 1 b n k) := by
  rw [← v7_at, ← v7_at, ← Fin.sum_univ_two (fun i => val_main_v7 (F := Ideal) x1 x2 (ix4 i b n k))]
  pointwise [val_main_v8, val_main_cst]

theorem v12_at (b : Fin 4) (n : Fin 4096) (k : Fin 1024) :
    val_main_v12 (F := Ideal) x0 x1 x2 x3 (ix3 b n k) = combR x0 x1 x2 x3 b n k := by
  unfold combR comb
  pointwise [val_main_v12, val_main_v11, val_main_v10, val_main_v9, v8_at, val_main_v2, val_main_v1, val_main_v0]

theorem v20_at (b : Fin 4) (n : Fin 4096) : val_main_v20 (F := Ideal) x0 x1 x2 x3 (ix3 b n 0)
    = Ideal.rsqrt (Ideal.div (∑ e, combR x0 x1 x2 x3 b n e * combR x0 x1 x2 x3 b n e) n1024 + eps) := by
  pointwise [val_main_v20, val_main_v19, val_main_v18, val_main_cst_2, val_main_v17, val_main_v16, val_main_cst_1,
    val_main_v15, val_main_v14, val_main_cst_0, val_main_v13, v12_at, ofBits_eps, ofBits_1024]

theorem v25_at (b : Fin 4) (n : Fin 4096) (k : Fin 1024) :
    val_main_v25 (F := Ideal) x0 x1 x2 x3 x4 (ix3 b n k) = rms n1024 (combR x0 x1 x2 x3 b n) (fun e => x4 (ix1 e)) k := by
  unfold rms
  pointwise [val_main_v25, val_main_v24, val_main_v23, val_main_v22, val_main_v21, v20_at, v12_at]

/-- The last layer's second gate of a latent, in the array that the call takes. -/
theorem gate_at (b : Fin 4) (e : Fin 1024) :
    modsArr x3 (ix5 3 b 0 5 e) = x3 (ix3 3 ⟨b.val, by omega⟩ ⟨5120 + e.val, by omega⟩) := by
  pointwise [modsArr]

end Cert.Combine

end
-- ==== Proof.CbFinal.lean ====
/- The last combine's result array after the run, equal to its reference's. -/
module

public import proofs.«01_k».proof.Proof.CbRef
public import proofs.«01_k».proof.Proof.InFinal

@[expose] public section

set_option maxRecDepth 16384
set_option maxHeartbeats 1000000

noncomputable section

namespace Cert.Combine

open Cert.Kernel4Ideal Cert.Kernel4Ideal.Gen Idealize.ShloMosaic Idealize.ShloMosaic.TcCoe Idealize.SL.Sem
open Cert.InProj (rms n1024 stays_at modsArr)
open Cert.Reference4Ideal.Read (val_main_v3 val_main_v25)

variable (m : (ℓ : Loc nD τ sig) → Buf (Elt Ideal) ℓ) (c : Dev nD)

/-- An argument array. -/
abbrev A (b : Ref sig .tc) : Buf (Elt Ideal) ((c : Thread nD τ).loc b) := m ((c : Thread nD τ).loc b)

theorem V_v6 : V m c main_v6 = modsArr (A m c main_arg3) := by
  show StableHlo.after hostOps0 (fun b => m (c, b)) (Proc.devRef .tc main_v6) = _
  unfold hostOps0
  after_results
  rfl

theorem V_v7 : V m c main_v7 = val_main_v3 (F := Ideal) (A m c main_arg1) := by
  show StableHlo.after hostOps0 (fun b => m (c, b)) (Proc.devRef .tc main_v7) = _
  unfold hostOps0
  after_results
  rfl

theorem V_v8 (e : Fin 1024) : V m c main_v8 (ix2 0 e) = A m c main_arg4 (ix1 e) := by
  have h : V m c main_v8 = (shapeCast S1x1024 (A m c main_arg4) shapeCasts_S1024_S1x1024 : FVec Ideal S1x1024 .f32) := by
    show StableHlo.after hostOps0 (fun b => m (c, b)) (Proc.devRef .tc main_v8) = _
    unfold hostOps0
    after_results
    rfl
  rw [h]
  pointwise []

/-- Where each grid point's blocks lie. -/
theorem idx_moves : ∀ t : Fin grid0.N,
    (win0_5.index t 0 < 4 ∧ win0_5.index t 1 < 16 ∧ win0_5.index t 2 = 0)
    ∧ (win0_0.index t 0 = win0_5.index t 0 ∧ win0_0.index t 1 = win0_5.index t 1 ∧ win0_0.index t 2 = 0)
    ∧ (win0_1.index t 0 = 0 ∧ win0_1.index t 1 = win0_5.index t 0 ∧ win0_1.index t 2 = win0_5.index t 1 ∧ win0_1.index t 3 = 0)
    ∧ (win0_2.index t 0 = win0_5.index t 0 ∧ win0_2.index t 1 = win0_5.index t 1 ∧ win0_2.index t 2 = 0)
    ∧ (win0_3.index t 0 = 3 ∧ win0_3.index t 1 = win0_5.index t 0 ∧ win0_3.index t 2 = 0 ∧ win0_3.index t 3 = 0
        ∧ win0_3.index t 4 = 0)
    ∧ (win0_4.index t 0 = 0 ∧ win0_4.index t 1 = 0) := by
  decide +kernel

/-- A grid point's sequence. -/
def tb (t : Fin grid0.N) : Fin 4 := ⟨win0_5.index t 0, (idx_moves t).1.1⟩

/-- A row of a grid point's tile among the rows of the sequence. -/
def tr (t : Fin grid0.N) (r : Fin 256) : Fin 4096 := ⟨win0_5.index t 1 * 256 + r.val, by have := (idx_moves t).1.2.1; omega⟩

theorem blk0_at (t : Fin grid0.N) (r : Fin 256) (e : Fin 1024) :
    iblk m c 0 t (ix3 0 r e) = A m c main_arg0 (ix3 (tb t) (tr t r) e) := by
  obtain ⟨h0, h1, h2⟩ := (idx_moves t).2.1
  refine Eq.trans (congrArg (V m c main_arg0) (funext fun a => Fin.ext ?_)) (congrFun (V_main_arg0 m c) _)
  match a with
  | 0 => exact (Pipeline.Window.rect_emb_val win0_0 t (ix3 0 r e) 0 rfl).trans (by rw [h0]; exact Nat.mul_one _)
  | 1 => exact (Pipeline.Window.rect_emb_val win0_0 t (ix3 0 r e) 1 rfl).trans (by rw [h1]; rfl)
  | 2 => exact (Pipeline.Window.rect_emb_val win0_0 t (ix3 0 r e) 2 rfl).trans (by rw [h2]; exact Nat.zero_add _)

theorem blk1_at (t : Fin grid0.N) (i : Fin 2) (r : Fin 256) (e : Fin 1024) :
    iblk m c 1 t (ix4 i 0 r e) = val_main_v3 (F := Ideal) (A m c main_arg1) (ix4 i (tb t) (tr t r) e) := by
  obtain ⟨h0, h1, h2, h3⟩ := (idx_moves t).2.2.1
  rw [← V_v7]
  refine congrArg (V m c main_v7) (funext fun a => Fin.ext ?_)
  match a with
  | 0 => exact (Pipeline.Window.rect_emb_val win0_1 t (ix4 i 0 r e) 0 rfl).trans (by rw [h0]; exact Nat.zero_add _)
  | 1 => exact (Pipeline.Window.rect_emb_val win0_1 t (ix4 i 0 r e) 1 rfl).trans (by rw [h1]; exact Nat.mul_one _)
  | 2 => exact (Pipeline.Window.rect_emb_val win0_1 t (ix4 i 0 r e) 2 rfl).trans (by rw [h2]; rfl)
  | 3 => exact (Pipeline.Window.rect_emb_val win0_1 t (ix4 i 0 r e) 3 rfl).trans (by rw [h3]; exact Nat.zero_add _)

theorem blk2_at (t : Fin grid0.N) (r : Fin 256) (i : Fin 2) :
    iblk m c 2 t (ix3 0 r i) = A m c main_arg2 (ix3 (tb t) (tr t r) i) := by
  obtain ⟨h0, h1, h2⟩ := (idx_moves t).2.2.2.1
  refine Eq.trans (congrArg (V m c main_arg2) (funext fun a => Fin.ext ?_)) (congrFun (V_main_arg2 m c) _)
  match a with
  | 0 => exact (Pipeline.Window.rect_emb_val win0_2 t (ix3 0 r i) 0 rfl).trans (by rw [h0]; exact Nat.mul_one _)
  | 1 => exact (Pipeline.Window.rect_emb_val win0_2 t (ix3 0 r i) 1 rfl).trans (by rw [h1]; rfl)
  | 2 => exact (Pipeline.Window.rect_emb_val win0_2 t (ix3 0 r i) 2 rfl).trans (by rw [h2]; exact Nat.zero_add _)

theorem blk3_at (t : Fin grid0.N) (e : Fin 1024) :
    iblk m c 3 t (ix5 0 0 0 5 e) = A m c main_arg3 (ix3 3 ⟨(tb t).val, by omega⟩ ⟨5120 + e.val, by omega⟩) := by
  obtain ⟨h0, h1, h2, h3, h4⟩ := (idx_moves t).2.2.2.2.1
  rw [← gate_at (A m c main_arg3), ← V_v6]
  refine congrArg (V m c main_v6) (funext fun a => Fin.ext ?_)
  match a with
  | 0 => exact (Pipeline.Window.rect_emb_val win0_3 t (ix5 0 0 0 5 e) 0 rfl).trans (by rw [h0]; rfl)
  | 1 => exact (Pipeline.Window.rect_emb_val win0_3 t (ix5 0 0 0 5 e) 1 rfl).trans (by rw [h1]; exact Nat.mul_one _)
  | 2 => exact (Pipeline.Window.rect_emb_val win0_3 t (ix5 0 0 0 5 e) 2 rfl).trans (by rw [h2]; rfl)
  | 3 => exact (Pipeline.Window.rect_emb_val win0_3 t (ix5 0 0 0 5 e) 3 rfl).trans (by rw [h3]; rfl)
  | 4 => exact (Pipeline.Window.rect_emb_val win0_3 t (ix5 0 0 0 5 e) 4 rfl).trans (by rw [h4]; exact Nat.zero_add _)

theorem blk4_at (t : Fin grid0.N) (e : Fin 1024) : iblk m c 4 t (ix2 0 e) = A m c main_arg4 (ix1 e) := by
  obtain ⟨h0, h1⟩ := (idx_moves t).2.2.2.2.2
  rw [← V_v8]
  refine congrArg (V m c main_v8) (funext fun a => Fin.ext ?_)
  match a with
  | 0 => exact (Pipeline.Window.rect_emb_val win0_4 t (ix2 0 e) 0 rfl).trans (stays_at h0 rfl)
  | 1 => exact (Pipeline.Window.rect_emb_val win0_4 t (ix2 0 e) 1 rfl).trans (stays_at h1 rfl)

/-- The run leaves the reference's array. -/
theorem result5 : (dats m 0 c).arrAt 5 cfg0.N = val_main_v25 (F := Ideal) (A m c main_arg0) (A m c main_arg1) (A m c main_arg2)
    (A m c main_arg3) (A m c main_arg4) := by
  refine (dats m 0 c).arrAt_eq_of_covers 5 _ (by decide +kernel) fun t hf y => ?_
  blk_simp
  rw [after0_5]
  idx_vars y
  obtain rfl : y0 = 0 := Subsingleton.elim _ _
  have a2 := (idx_moves t).1.2.2
  have e : ((View.whole main_v9).slice (win0_5.rect t)).emb (ix3 0 y1 y2) = ix3 (tb t) (tr t y1) y2 := funext fun a => Fin.ext (by
    match a with
    | 0 => exact (Pipeline.Window.rect_emb_val win0_5 t (ix3 0 y1 y2) 0 rfl).trans (Nat.mul_one _)
    | 1 => exact (Pipeline.Window.rect_emb_val win0_5 t (ix3 0 y1 y2) 1 rfl).trans rfl
    | 2 => exact (Pipeline.Window.rect_emb_val win0_5 t (ix3 0 y1 y2) 2 rfl).trans (by rw [a2]; exact Nat.zero_add _))
  rw [e, v25_at, out5_at]
  simp only [blk0_at, blk1_at, blk2_at, blk3_at, blk4_at]

end Cert.Combine

end
-- ==== Proof.CxTile.lean ====
/- One block of the context attention's result at an index: each of its four heads is the quotient of the weighted sums
   over the head's 256 keys. -/
module

public import proofs.«01_k».proof.Proof.Flash
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.CtxAttn

open Cert.Kernel5Ideal Cert.Kernel5Ideal.Gen Idealize.ShloMosaic
open Cert.Attn (floor0 wsum ofBits_floor0 exp2_def ofBits_neg_inf fold_max_bot)

/-- One head's queries, keys or values. -/
abbrev Blk : Type := Vec Ideal S1x1x256x128 .bf16

/-- One row of queries against all keys of its head: the scores. -/
def scores (q : Fin 128 → EReal) (k : Fin 256 → Fin 128 → EReal) (j : Fin 256) : EReal := ∑ e : Fin 128, q e * k j e

/-- One lane of a row's weighted values. -/
def sumAt (q : Fin 128 → EReal) (k v : Fin 256 → Fin 128 → EReal) (d : Fin 128) : EReal :=
  wsum (max floor0 (Finset.univ.sup (scores q k))) (scores q k) (fun j => v j d)

/-- One row of attention at lane `d`: the weighted values over the weighted lane 64. -/
def attnAt (q : Fin 128 → EReal) (k v : Fin 256 → Fin 128 → EReal) (d : Fin 64) : EReal :=
  Ideal.div (sumAt q k v ⟨d.val, by omega⟩) (sumAt q k v 64)

theorem pay2_at (r : Fin 256) : k0_pay2 (F := Ideal) (ix2 r 0) = floor0 := ofBits_floor0

theorem pay3_at (r : Fin 256) (d : Fin 128) : k0_pay3 (F := Ideal) (ix2 r d) = 0 := Ideal.ofBits_zero_f32

theorem pay5_at (q k : Blk) (r j : Fin 256) :
    k0_pay5 q k (ix2 r j) = scores (fun e => q (ix4 0 0 r e)) (fun j e => k (ix4 0 0 j e)) j := by
  unfold scores
  pointwise [k0_pay5]

theorem pay6_at (q k : Blk) (r : Fin 256) :
    k0_pay6 q k (ix2 r 0)
      = max floor0 (Finset.univ.sup (scores (fun e => q (ix4 0 0 r e)) (fun j e => k (ix4 0 0 j e)))) := by
  pointwise [k0_pay6, pay5_at, pay2_at, ofBits_neg_inf]
  rw [fold_max_bot]

theorem pay7_at (m : FVec Ideal S256x1 .f32) (a : FVec Ideal S256x128 .f32) (S : FVec Ideal S256x256 .f32)
    (m' : FVec Ideal S256x1 .f32) (v : Blk) (r : Fin 256) (d : Fin 128) :
    k0_pay7 m a S m' v (ix2 r d) = a (ix2 r d) * Ideal.exp2 (m (ix2 r 0) - m' (ix2 r 0))
      + wsum (m' (ix2 r 0)) (fun j : Fin 256 => S (ix2 r j)) (fun j => v (ix4 0 0 j d)) := by
  unfold wsum
  pointwise [k0_pay7, exp2_def]

/-- One head's running sums. -/
theorem pay4_at (q k v : Blk) (r : Fin 256) (d : Fin 128) :
    k0_pay4 q k v (ix2 r d)
      = sumAt (fun e => q (ix4 0 0 r e)) (fun j e => k (ix4 0 0 j e)) (fun j e => v (ix4 0 0 j e)) d := by
  have h : k0_pay4 q k v = k0_pay7 k0_pay2 k0_pay3 (k0_pay5 q k) (k0_pay6 q k) v := rfl
  rw [h, pay7_at, pay3_at, zero_mul, zero_add, pay6_at]
  simp only [pay5_at]
  rfl

/-- One head's result from its running sums: the first 64 lanes over lane 64. -/
def headOut (a : FVec Ideal S256x128 .f32) : FVec Ideal S256x64 .f32 :=
  divf (extractStridedSlice S256x64 ![0, 0] a slices_S256x128_o0_0_S256x64)
    (broadcastTo S256x64 (extractStridedSlice S256x1 ![0, 64] a slices_S256x128_o0_64_S256x1) broadcasts_S256x1_S256x64)

theorem headOut_at (a : FVec Ideal S256x128 .f32) (r : Fin 256) (d : Fin 64) :
    headOut a (ix2 r d) = Ideal.div (a (ix2 r ⟨d.val, by omega⟩)) (a (ix2 r 64)) := by
  pointwise [headOut]

/-- One head's result at a row and lane, from loads that hold its rows, keys and values. -/
theorem head_rows (q k v : Blk) (r : Fin 256) (d : Fin 64) (Q : Fin 128 → EReal) (K V : Fin 256 → Fin 128 → EReal)
    (hq : ∀ e, q (ix4 0 0 r e) = Q e) (hk : ∀ j e, k (ix4 0 0 j e) = K j e) (hv : ∀ j e, v (ix4 0 0 j e) = V j e) :
    headOut (k0_pay4 q k v) (ix2 r d) = attnAt Q K V d := by
  rw [headOut_at, pay4_at, pay4_at, funext hq, funext fun j => funext (hk j), funext fun j => funext (hv j)]
  rfl

/-- Four heads side by side, 64 lanes each. -/
theorem heads_at (a b c d : FVec Ideal S256x64 .f32) (r : Fin 256) (l : Fin 256) :
    concatenate S256x256 1 [⟨S256x64, a⟩, ⟨S256x64, b⟩, ⟨S256x64, c⟩, ⟨S256x64, d⟩]
        concatenates_S256x64_S256x64_S256x64_S256x64_S256x256_d1 (ix2 r l)
      = (![a, b, c, d] ⟨l.val / 64, by omega⟩) (ix2 r ⟨l.val % 64, by omega⟩) := by
  pointwise []
  by_cases h0 : l.val < 64
  · rw [dif_pos h0]
    have e : (⟨l.val / 64, by omega⟩ : Fin 4) = 0 := Fin.ext (by show l.val / 64 = 0; omega)
    rw [e]
    exact congrArg (fun n : Fin 64 => a (ix2 r n)) (Fin.ext (by show l.val = l.val % 64; omega))
  rw [dif_neg h0]
  by_cases h1 : l.val - 64 < 64
  · rw [dif_pos h1]
    have e : (⟨l.val / 64, by omega⟩ : Fin 4) = 1 := Fin.ext (by show l.val / 64 = 1; omega)
    rw [e]
    exact congrArg (fun n : Fin 64 => b (ix2 r n)) (Fin.ext (by show l.val - 64 = l.val % 64; omega))
  rw [dif_neg h1]
  by_cases h2 : l.val - 64 - 64 < 64
  · rw [dif_pos h2]
    have e : (⟨l.val / 64, by omega⟩ : Fin 4) = 2 := Fin.ext (by show l.val / 64 = 2; omega)
    rw [e]
    exact congrArg (fun n : Fin 64 => c (ix2 r n)) (Fin.ext (by show l.val - 64 - 64 = l.val % 64; omega))
  rw [dif_neg h2]
  have e : (⟨l.val / 64, by omega⟩ : Fin 4) = 3 := Fin.ext (by show l.val / 64 = 3; omega)
  rw [e]
  exact congrArg (fun n : Fin 64 => d (ix2 r n)) (Fin.ext (by show l.val - 64 - 64 - 64 = l.val % 64; omega))

variable (x0 x1 x2 : Vec Ideal S1x4x256x128 .bf16)

/-- The four heads of the block, one per 64 lanes. -/
theorem out_at (r : Fin 256) (l : Fin 256) :
    out0_3 x0 x1 x2 (ix3 0 r l)
      = attnAt (fun e => x0 (ix4 0 ⟨l.val / 64, by omega⟩ r e)) (fun j e => x1 (ix4 0 ⟨l.val / 64, by omega⟩ j e))
          (fun j e => x2 (ix4 0 ⟨l.val / 64, by omega⟩ j e)) ⟨l.val % 64, by omega⟩ := by
  unfold_out out0_3
  rw [View.canon_unit_zero (by decide)]
  have h : ∀ (q k v q' k' v' q'' k'' v'' q3 k3 v3 : Blk),
      k0_pay1 k0_pay2 k0_pay3 (k0_pay4 q k v) (k0_pay7 k0_pay2 k0_pay3 (k0_pay5 q' k') (k0_pay6 q' k') v')
          (k0_pay8 k0_pay2 k0_pay3 q'' k'' v'') (k0_pay9 q3) k3 v3 (ix3 0 r l)
        = concatenate S256x256 1 [⟨S256x64, headOut (k0_pay4 q k v)⟩, ⟨S256x64, headOut (k0_pay4 q' k' v')⟩,
            ⟨S256x64, headOut (k0_pay4 q'' k'' v'')⟩, ⟨S256x64, headOut (k0_pay4 q3 k3 v3)⟩]
            concatenates_S256x64_S256x64_S256x64_S256x64_S256x256_d1 (ix2 r l) := fun q k v q' k' v' q'' k'' v'' q3 k3 v3 => by
    have h1 : k0_pay1 k0_pay2 k0_pay3 (k0_pay4 q k v) (k0_pay7 k0_pay2 k0_pay3 (k0_pay5 q' k') (k0_pay6 q' k') v')
          (k0_pay8 k0_pay2 k0_pay3 q'' k'' v'') (k0_pay9 q3) k3 v3
        = shapeCast S1x256x256 (truncf .bf16 (concatenate S256x256 1 [⟨S256x64, headOut (k0_pay4 q k v)⟩,
            ⟨S256x64, headOut (k0_pay4 q' k' v')⟩,
            ⟨S256x64, headOut (k0_pay4 q'' k'' v'')⟩, ⟨S256x64, headOut (k0_pay4 q3 k3 v3)⟩]
            concatenates_S256x64_S256x64_S256x64_S256x64_S256x256_d1) bitsLt_bf16_f32) shapeCasts_S256x256_S1x256x256 := rfl
    rw [h1]
    generalize concatenate S256x256 1 _ _ = y
    pointwise []
  refine (h _ _ _ _ _ _ _ _ _ _ _ _).trans ?_
  rw [heads_at]
  generalize (⟨l.val / 64, by omega⟩ : Fin 4) = n
  generalize (⟨l.val % 64, by omega⟩ : Fin 64) = d
  match n with
  | 0 => refine head_rows (View.ld x0 r0_0) (View.ld x1 r0_0) (View.ld x2 r0_0) r d _ _ _ ?_ ?_ ?_ <;> intros <;> pointwise []
  | 1 => refine head_rows (View.ld x0 r0_1) (View.ld x1 r0_1) (View.ld x2 r0_1) r d _ _ _ ?_ ?_ ?_ <;> intros <;> pointwise []
  | 2 => refine head_rows (View.ld x0 r0_2) (View.ld x1 r0_2) (View.ld x2 r0_2) r d _ _ _ ?_ ?_ ?_ <;> intros <;> pointwise []
  | 3 => refine head_rows (View.ld x0 r0_3) (View.ld x1 r0_3) (View.ld x2 r0_3) r d _ _ _ ?_ ?_ ?_ <;> intros <;> pointwise []

end Cert.CtxAttn

end
-- ==== Proof.CxFinal.lean ====
/- The context attention call's result array after the run, from the arguments: the queries, keys and values that the
   host lines lay out after the latents' rows, and the call's blocks over them. -/
module

public import proofs.«01_k».proof.Proof.Entry
public import proofs.«01_k».proof.Proof.CxTile

@[expose] public section

set_option maxRecDepth 16384

noncomputable section

namespace Cert.CtxAttn

open Cert.Kernel5Ideal Cert.Kernel5Ideal.Gen Idealize.ShloMosaic Idealize.ShloMosaic.TcCoe Idealize.SL.Sem
open Cert.Attn (κ0 κ0_eq cut_lanes sum_mul_coe)

theorem attnAt_congr {q q' : Fin 128 → EReal} {k k' v v' : Fin 256 → Fin 128 → EReal} {d d' : Fin 64}
    (hq : ∀ e, q e = q' e) (hk : ∀ j e, k j e = k' j e) (hv : ∀ j e, v j e = v' j e) (hd : d = d') :
    attnAt q k v d = attnAt q' k' v' d' := by
  rw [funext hq, funext fun j => funext (hk j), funext fun j => funext (hv j), hd]

/-- Row `r` of the contexts, among the rows of latents and contexts. -/
abbrev ctxRow (r : Fin 256) : Fin 4352 := ⟨4096 + r.val, by omega⟩

/-- The result array: batch `b`, row `i`, head `h`, lane `d`. -/
def attnOf (q k v : Vec Ideal S4x8x4352x128 .bf16) (b : Fin 4) (i : Fin 256) (h : Fin 8) (d : Fin 64) : EReal :=
  attnAt (fun e => q (ix4 b h (ctxRow i) e)) (fun j e => k (ix4 b h (ctxRow j) e)) (fun j e => v (ix4 b h (ctxRow j) e)) d

variable (m : (ℓ : Loc nD τ sig) → Buf (Elt Ideal) ℓ)

/-- Where each grid point's blocks lie. -/
theorem idx_eqs : ∀ t : Fin grid0.N,
    win0_0.index t 0 = win0_3.index t 0 ∧ win0_0.index t 1 = win0_3.index t 2 ∧ win0_0.index t 2 = 16 ∧ win0_0.index t 3 = 0
    ∧ win0_1.index t 0 = win0_3.index t 0 ∧ win0_1.index t 1 = win0_3.index t 2 ∧ win0_1.index t 2 = 16 ∧ win0_1.index t 3 = 0
    ∧ win0_2.index t 0 = win0_3.index t 0 ∧ win0_2.index t 1 = win0_3.index t 2 ∧ win0_2.index t 2 = 16 ∧ win0_2.index t 3 = 0
    ∧ win0_3.index t 1 = 0 := by
  decide +kernel

/-- A point's block of queries, read at an index, is the array there. -/
theorem blk0_at (c : Dev nD) (t : Fin grid0.N) (h : Fin 4) (r : Fin 256) (e : Fin 128) (b : Fin 4) (h' : Fin 8) (r' : Fin 4352)
    (hb : b.val = win0_0.index t 0) (hh : h'.val = win0_0.index t 1 * 4 + h.val) (hr : r'.val = win0_0.index t 2 * 256 + r.val)
    (he : win0_0.index t 3 = 0) :
    iblk m c 0 t (ix4 0 h r e) = V m c main_v15 (ix4 b h' r' e) := by
  unfold iblk
  show V m c main_v15 (((win0 0).blk t).view.emb (ix4 0 h r e)) = _
  refine congrArg (V m c main_v15) (funext fun a => Fin.ext ?_)
  match a with
  | 0 => blk_simp; show win0_0.index t 0 + 0 = b.val; omega
  | 1 => blk_simp; show win0_0.index t 1 * 4 + h.val = h'.val; omega
  | 2 => blk_simp; show win0_0.index t 2 * 256 + r.val = r'.val; omega
  | 3 => blk_simp; show win0_0.index t 3 * 128 + e.val = e.val; omega

/-- A point's block of keys, read at an index, is the array there. -/
theorem blk1_at (c : Dev nD) (t : Fin grid0.N) (h : Fin 4) (r : Fin 256) (e : Fin 128) (b : Fin 4) (h' : Fin 8) (r' : Fin 4352)
    (hb : b.val = win0_1.index t 0) (hh : h'.val = win0_1.index t 1 * 4 + h.val) (hr : r'.val = win0_1.index t 2 * 256 + r.val)
    (he : win0_1.index t 3 = 0) :
    iblk m c 1 t (ix4 0 h r e) = V m c main_v22 (ix4 b h' r' e) := by
  unfold iblk
  show V m c main_v22 (((win0 1).blk t).view.emb (ix4 0 h r e)) = _
  refine congrArg (V m c main_v22) (funext fun a => Fin.ext ?_)
  match a with
  | 0 => blk_simp; show win0_1.index t 0 + 0 = b.val; omega
  | 1 => blk_simp; show win0_1.index t 1 * 4 + h.val = h'.val; omega
  | 2 => blk_simp; show win0_1.index t 2 * 256 + r.val = r'.val; omega
  | 3 => blk_simp; show win0_1.index t 3 * 128 + e.val = e.val; omega

/-- A point's block of values, read at an index, is the array there. -/
theorem blk2_at (c : Dev nD) (t : Fin grid0.N) (h : Fin 4) (r : Fin 256) (e : Fin 128) (b : Fin 4) (h' : Fin 8) (r' : Fin 4352)
    (hb : b.val = win0_2.index t 0) (hh : h'.val = win0_2.index t 1 * 4 + h.val) (hr : r'.val = win0_2.index t 2 * 256 + r.val)
    (he : win0_2.index t 3 = 0) :
    iblk m c 2 t (ix4 0 h r e) = V m c main_v28 (ix4 b h' r' e) := by
  unfold iblk
  show V m c main_v28 (((win0 2).blk t).view.emb (ix4 0 h r e)) = _
  refine congrArg (V m c main_v28) (funext fun a => Fin.ext ?_)
  match a with
  | 0 => blk_simp; show win0_2.index t 0 + 0 = b.val; omega
  | 1 => blk_simp; show win0_2.index t 1 * 4 + h.val = h'.val; omega
  | 2 => blk_simp; show win0_2.index t 2 * 256 + r.val = r'.val; omega
  | 3 => blk_simp; show win0_2.index t 3 * 128 + e.val = e.val; omega

theorem final (c : Dev nD) :
    (dats m 0 c).arrAt 3 cfg0.N = fun i : S4x256x512.Idx =>
      attnOf (V m c main_v15) (V m c main_v22) (V m c main_v28) (i 0) (i 1)
        ⟨(i 2).val / 64, by have : (i 2).val < 512 := (i 2).isLt; omega⟩ ⟨(i 2).val % 64, by omega⟩ := by
  refine (dats m 0 c).arrAt_eq_of_covers 3 _ (by decide +kernel) fun t hf y => ?_
  blk_simp
  rw [after0_3]
  idx_vars y
  obtain rfl : y0 = 0 := Subsingleton.elim _ _
  rw [out_at]
  obtain ⟨a0, a1, a2, a3, b0, b1, b2, b3, c0, c1, c2, c3, d1⟩ := idx_eqs t
  have h0 : ((((View.whole main_v29).slice (win0_3.rect t)).emb (ix3 0 y1 y2) 0).val : ℕ) = win0_3.index t 0 * 1 + 0 :=
    Pipeline.Window.rect_emb_val win0_3 t (ix3 0 y1 y2) 0 rfl
  have h1 : ((((View.whole main_v29).slice (win0_3.rect t)).emb (ix3 0 y1 y2) 1).val : ℕ) = win0_3.index t 1 * 256 + y1.val :=
    Pipeline.Window.rect_emb_val win0_3 t (ix3 0 y1 y2) 1 rfl
  unfold attnOf
  refine attnAt_congr (fun e => blk0_at m c t _ _ _ _ _ _ ?_ ?_ ?_ a3)
    (fun j e => blk1_at m c t _ _ _ _ _ _ ?_ ?_ ?_ b3) (fun j e => blk2_at m c t _ _ _ _ _ _ ?_ ?_ ?_ c3) ?_
  · rw [a0]; exact h0.trans (by omega)
  · show (win0_3.index t 2 * 256 + y2.val) / 64 = win0_0.index t 1 * 4 + y2.val / 64
    rw [a1]; omega
  · rw [a2]; exact congrArg (4096 + ·) (h1.trans (by omega))
  · rw [b0]; exact h0.trans (by omega)
  · show (win0_3.index t 2 * 256 + y2.val) / 64 = win0_1.index t 1 * 4 + y2.val / 64
    rw [b1]; omega
  · rw [b2]
  · rw [c0]; exact h0.trans (by omega)
  · show (win0_3.index t 2 * 256 + y2.val) / 64 = win0_2.index t 1 * 4 + y2.val / 64
    rw [c1]; omega
  · rw [c2]
  · exact Fin.ext (by show y2.val % 64 = (win0_3.index t 2 * 256 + y2.val) % 64; omega)

/-- The scale of the scores, as the host lines compute it. -/
def qScale : FVec Ideal S_ .f32 :=
  Host.divf (constant S_ .f32 0x3F800000#32)
    (mulf (Host.sqrt (constant S_ .f32 0x42C00000#32)) (Host.log (constant S_ .f32 0x40000000#32)))

theorem qScale_at (i : S_.Idx) : qScale i = κ0 := by
  unfold qScale κ0
  rw [← Ideal.ofBits_one_f32]
  rfl

/-- The latents' rows and then the contexts'. -/
def rows (a : FVec Ideal S4x8x4096x128 .bf16) (b : FVec Ideal S4x8x256x128 .bf16) : FVec Ideal S4x8x4352x128 .bf16 :=
  concatenate S4x8x4352x128 2 [⟨S4x8x4096x128, a⟩, ⟨S4x8x256x128, b⟩] concatenates_S4x8x4096x128_S4x8x256x128_S4x8x4352x128_d2

theorem rows_at (a : FVec Ideal S4x8x4096x128 .bf16) (y : FVec Ideal S4x8x256x128 .bf16) (b : Fin 4) (h : Fin 8) (r : Fin 256)
    (e : Fin 128) : rows a y (ix4 b h (ctxRow r) e) = y (ix4 b h r e) := by
  pointwise [rows]

/-- The contexts' queries. -/
def qArr (x3 : FVec Ideal S4x256x8x64 .f32) (x4 : FVec Ideal S4x256x8x32 .f32) : FVec Ideal S4x8x256x128 .bf16 :=
  truncf .bf16 (concatenate S4x8x256x128 3
      [⟨S4x8x256x64, mulf (transpose S4x8x256x64 [0, 2, 1, 3] x3 transposes_S4x256x8x64_S4x8x256x64_0_2_1_3)
          (broadcastInDim S4x8x256x64 ![] bcast_S_S4x8x256x64 qScale)⟩,
       ⟨S4x8x256x32, mulf (transpose S4x8x256x32 [0, 2, 1, 3] x4 transposes_S4x256x8x32_S4x8x256x32_0_2_1_3)
          (broadcastInDim S4x8x256x32 ![] bcast_S_S4x8x256x32 qScale)⟩,
       ⟨S4x8x256x32, mulf (transpose S4x8x256x32 [0, 2, 1, 3] x4 transposes_S4x256x8x32_S4x8x256x32_0_2_1_3)
          (broadcastInDim S4x8x256x32 ![] bcast_S_S4x8x256x32 qScale)⟩]
      concatenates_S4x8x256x64_S4x8x256x32_S4x8x256x32_S4x8x256x128_d3) bitsLt_bf16_f32

/-- The contexts' keys. -/
def kArr (x5 : FVec Ideal S4x256x8x64 .f32) (x6 : FVec Ideal S4x256x32 .f32) : FVec Ideal S4x8x256x128 .bf16 :=
  truncf .bf16 (concatenate S4x8x256x128 3
      [⟨S4x8x256x64, transpose S4x8x256x64 [0, 2, 1, 3] x5 transposes_S4x256x8x64_S4x8x256x64_0_2_1_3⟩,
       ⟨S4x8x256x32, broadcastInDim S4x8x256x32 ![] bcast_S_S4x8x256x32 (constant S_ .f32 0x00000000#32 : FVec Ideal S_ .f32)⟩,
       ⟨S4x8x256x32, broadcastInDim S4x8x256x32 ![0, 1, 2, 3] bcast_S4x1x256x32_S4x8x256x32_0_1_2_3
          (broadcastInDim S4x1x256x32 ![0, 2, 3] bcast_S4x256x32_S4x1x256x32_0_2_3 x6)⟩]
      concatenates_S4x8x256x64_S4x8x256x32_S4x8x256x32_S4x8x256x128_d3) bitsLt_bf16_f32

/-- The contexts' values, with a lane of ones after each row's 64 lanes. -/
def vArr (x7 : FVec Ideal S4x256x8x64 .f32) : FVec Ideal S4x8x256x128 .bf16 :=
  truncf .bf16 (concatenate S4x8x256x128 3
      [⟨S4x8x256x64, transpose S4x8x256x64 [0, 2, 1, 3] x7 transposes_S4x256x8x64_S4x8x256x64_0_2_1_3⟩,
       ⟨S4x8x256x1, broadcastInDim S4x8x256x1 ![] bcast_S_S4x8x256x1 (constant S_ .f32 0x3F800000#32 : FVec Ideal S_ .f32)⟩,
       ⟨S4x8x256x63, broadcastInDim S4x8x256x63 ![] bcast_S_S4x8x256x63 (constant S_ .f32 0x00000000#32 : FVec Ideal S_ .f32)⟩]
      concatenates_S4x8x256x64_S4x8x256x1_S4x8x256x63_S4x8x256x128_d3) bitsLt_bf16_f32

theorem V_q (c : Dev nD) : V m c main_v15 = rows (m ((c : Thread nD τ).loc main_arg0))
    (qArr (m ((c : Thread nD τ).loc main_arg3)) (m ((c : Thread nD τ).loc main_arg4))) := by
  show StableHlo.after hostOps0 (fun b => m (c, b)) (Proc.devRef .tc main_v15) = _
  unfold hostOps0
  after_results
  rfl

theorem V_k (c : Dev nD) : V m c main_v22 = rows (m ((c : Thread nD τ).loc main_arg1))
    (kArr (m ((c : Thread nD τ).loc main_arg5)) (m ((c : Thread nD τ).loc main_arg6))) := by
  show StableHlo.after hostOps0 (fun b => m (c, b)) (Proc.devRef .tc main_v22) = _
  unfold hostOps0
  after_results
  rfl

theorem V_v (c : Dev nD) : V m c main_v28 = rows (m ((c : Thread nD τ).loc main_arg2))
    (vArr (m ((c : Thread nD τ).loc main_arg7))) := by
  show StableHlo.after hostOps0 (fun b => m (c, b)) (Proc.devRef .tc main_v28) = _
  unfold hostOps0
  after_results
  rfl

/-- The products of a row of queries with a row of keys, before any scale. -/
def raw (x3 : FVec Ideal S4x256x8x64 .f32) (x4 : FVec Ideal S4x256x8x32 .f32) (x5 : FVec Ideal S4x256x8x64 .f32)
    (x6 : FVec Ideal S4x256x32 .f32) (b : Fin 4) (h : Fin 8) (i j : Fin 256) : EReal :=
  ∑ e : Fin 64, x3 (ix4 b i h e) * x5 (ix4 b j h e) + ∑ e : Fin 32, x4 (ix4 b i h e) * x6 (ix3 b j e)

/-- The call's scores are the products times the scale; the lanes of zeros add nothing. -/
theorem scores_eq (x3 : FVec Ideal S4x256x8x64 .f32) (x4 : FVec Ideal S4x256x8x32 .f32) (x5 : FVec Ideal S4x256x8x64 .f32)
    (x6 : FVec Ideal S4x256x32 .f32) (b : Fin 4) (h : Fin 8) (i j : Fin 256) :
    scores (fun e => qArr x3 x4 (ix4 b h i e)) (fun j e => kArr x5 x6 (ix4 b h j e)) j
      = raw x3 x4 x5 x6 b h i j * (((Real.sqrt 96 * Real.log 2)⁻¹ : ℝ) : EReal) := by
  have hp : (0 : ℝ) ≤ (Real.sqrt 96 * Real.log 2)⁻¹ :=
    (inv_pos.mpr (mul_pos (Real.sqrt_pos.mpr (by norm_num)) (Real.log_pos (by norm_num)))).le
  have hd : ∀ a b : EReal, (a + b) * κ0 = a * κ0 + b * κ0 := fun a b => by
    rw [κ0_eq, EReal.right_distrib_of_nonneg_of_ne_top (EReal.coe_nonneg.mpr hp) (EReal.coe_ne_top _)]
  have hs : ∀ {n : ℕ} (f : Fin n → EReal), (∑ e, f e) * κ0 = ∑ e, f e * κ0 := fun f => by
    rw [κ0_eq]; exact sum_mul_coe _ _ hp
  rw [← κ0_eq]
  unfold scores raw
  rw [hd, hs, hs]
  pointwise [qArr, kArr, qScale_at]
  rw [cut_lanes]
  rw [add_assoc]
  refine congrArg₂ (· + ·) (Finset.sum_congr rfl fun e _ => ?_) ?_
  · rw [dif_pos e.isLt, dif_pos e.isLt, mul_right_comm]
  refine (congrArg₂ (· + ·) (Finset.sum_eq_zero fun e _ => ?_) (Finset.sum_congr rfl fun e _ => ?_)).trans (zero_add _)
  · have h1 : ¬ 64 + e.val < 64 := by omega
    have h2 : 64 + e.val - 64 < 32 := by omega
    rw [dif_neg h1, dif_neg h1, dif_pos h2, dif_pos h2, mul_zero]
  · have h1 : ¬ 96 + e.val < 64 := by omega
    have h2 : ¬ 96 + e.val - 64 < 32 := by omega
    have h3 : 96 + e.val - 64 - 32 = e.val := by omega
    rw [dif_neg h1, dif_neg h1, dif_neg h2, dif_neg h2, mul_right_comm]
    simp only [h3]

/-- The values' lanes. -/
theorem vArr_at (x7 : FVec Ideal S4x256x8x64 .f32) (b : Fin 4) (h : Fin 8) (j : Fin 256) (d : Fin 64) :
    vArr x7 (ix4 b h j ⟨d.val, by omega⟩) = x7 (ix4 b j h d) := by
  pointwise [vArr]

theorem vArr_one (x7 : FVec Ideal S4x256x8x64 .f32) (b : Fin 4) (h : Fin 8) (j : Fin 256) : vArr x7 (ix4 b h j 64) = 1 := by
  pointwise [vArr]

end Cert.CtxAttn

end
-- ==== Proof.CxRef.lean ====
/- The context attention's reference at an index, and the call's result equal to it. -/
module

public import proofs.«01_k».proof.Proof.CxFinal
public import proofs.«01_k».proof.Proof.Gen.Reference5Ideal.Read

@[expose] public section

set_option maxRecDepth 16384

noncomputable section

namespace Cert.CtxAttn

open Cert.Reference5Ideal Cert.Reference5Ideal.Read Idealize.ShloMosaic
open Cert.Attn (ofBits_96 ofBits_neg_inf fold_max_bot quotient_eq)

variable (x3 : FVec Ideal S4x256x8x64 .f32) (x4 : FVec Ideal S4x256x8x32 .f32) (x5 : FVec Ideal S4x256x8x64 .f32)
    (x6 : FVec Ideal S4x256x32 .f32) (x7 : FVec Ideal S4x256x8x64 .f32)

/-- The reference's scores, before the division by `√96`. -/
theorem ref_raw (b : Fin 4) (h : Fin 8) (i j : Fin 256) :
    val_main_v3 (F := Ideal) x3 x4 x5 x6 (ix4 b h i j) = raw x3 x4 x5 x6 b h i j := by
  unfold raw
  pointwise [val_main_v3, val_main_v2, val_main_v1, val_main_v0]
  simp only [mul_comm (x6 _)]

/-- The softmax's argument. -/
def arg (b : Fin 4) (h : Fin 8) (i j : Fin 256) : EReal :=
  Ideal.div (raw x3 x4 x5 x6 b h i j) ((Real.sqrt 96 : ℝ) : EReal)

theorem ref_arg (b : Fin 4) (h : Fin 8) (i j : Fin 256) :
    val_main_v6 (F := Ideal) x3 x4 x5 x6 (ix4 b h i j) = arg x3 x4 x5 x6 b h i j := by
  have hd : ∀ y, val_main_v5 (F := Ideal) y = ((Real.sqrt 96 : ℝ) : EReal) := fun y => by
    rw [val_main_v5_apply, val_main_v4_apply]
    show Ideal.sqrt (Ideal.ofBits .f32 0x42C00000#32) = _
    rw [ofBits_96, Ideal.sqrt_coe, if_neg (by norm_num)]
  rw [val_main_v6_apply, ref_raw, hd]
  rfl

theorem ref_max (b : Fin 4) (h : Fin 8) (i : Fin 256) :
    val_main_v7 (F := Ideal) x3 x4 x5 x6 (ix3 b h i) = Finset.univ.sup fun j => arg x3 x4 x5 x6 b h i j := by
  pointwise [val_main_v7, ref_arg, val_main_cst_0]
  rw [ofBits_neg_inf, fold_max_bot]

theorem ref_exp (b : Fin 4) (h : Fin 8) (i j : Fin 256) :
    val_main_v11 (F := Ideal) x3 x4 x5 x6 (ix4 b h i j)
      = Ideal.exp (arg x3 x4 x5 x6 b h i j - Finset.univ.sup fun j => arg x3 x4 x5 x6 b h i j) := by
  pointwise [val_main_v11, val_main_v10, val_main_v9, val_main_v8, ref_max, ref_arg]

/-- The reference at an index. -/
theorem ref_at (b : Fin 4) (i : Fin 256) (l : Fin 512) :
    val_main_v20 (F := Ideal) x3 x4 x5 x6 x7 (ix3 b i l)
      = Ideal.div (∑ j, Ideal.exp (arg x3 x4 x5 x6 b ⟨l.val / 64, by omega⟩ i j
            - Finset.univ.sup fun j => arg x3 x4 x5 x6 b ⟨l.val / 64, by omega⟩ i j)
          * x7 (ix4 b j ⟨l.val / 64, by omega⟩ ⟨l.val % 64, by omega⟩))
        (∑ j, Ideal.exp (arg x3 x4 x5 x6 b ⟨l.val / 64, by omega⟩ i j
            - Finset.univ.sup fun j => arg x3 x4 x5 x6 b ⟨l.val / 64, by omega⟩ i j)) := by
  generalize hh : (⟨l.val / 64, by omega⟩ : Fin 8) = h
  generalize hd : (⟨l.val % 64, by omega⟩ : Fin 64) = d
  have hn : val_main_v20 (F := Ideal) x3 x4 x5 x6 x7 (ix3 b i l) = val_main_v18 (F := Ideal) x3 x4 x5 x6 x7 (ix4 b i h d) := by
    rw [← hh, ← hd]
    pointwise [val_main_v20, val_main_v19]
  rw [hn]
  pointwise [val_main_v18, val_main_v17, val_main_v16, val_main_v15, val_main_v14, val_main_v13, val_main_v12, ref_exp,
    val_main_cst_1]
  simp only [mul_comm (x7 _)]

theorem attn_eq (a0 a1 a2 : FVec Ideal S4x8x4096x128 .bf16) (b : Fin 4) (i : Fin 256) (h : Fin 8) (d : Fin 64) :
    attnOf (rows a0 (qArr x3 x4)) (rows a1 (kArr x5 x6)) (rows a2 (vArr x7)) b i h d
      = Ideal.div (∑ j, Ideal.exp (arg x3 x4 x5 x6 b h i j
            - Finset.univ.sup fun j => arg x3 x4 x5 x6 b h i j) * x7 (ix4 b j h d))
        (∑ j, Ideal.exp (arg x3 x4 x5 x6 b h i j - Finset.univ.sup fun j => arg x3 x4 x5 x6 b h i j)) := by
  have hs := funext fun j => scores_eq x3 x4 x5 x6 b h i j
  have h96 : (0 : ℝ) < Real.sqrt 96 := Real.sqrt_pos.mpr (by norm_num)
  have h2 : (0 : ℝ) < Real.log 2 := Real.log_pos (by norm_num)
  unfold attnOf attnAt sumAt
  simp only [rows_at, vArr_at, vArr_one]
  rw [hs]
  exact quotient_eq _ _ _ _ (inv_pos.mpr (mul_pos h96 h2)) h96 (by field_simp)

open Cert.Kernel5Ideal Cert.Kernel5Ideal.Gen Idealize.ShloMosaic.TcCoe Idealize.SL.Sem in
/-- What the call leaves is the reference of the arguments. -/
theorem result_eq (m : (ℓ : Loc Kernel5Ideal.nD Kernel5Ideal.τ Kernel5Ideal.sig) → Buf (Elt Ideal) ℓ) (c : Dev Kernel5Ideal.nD) :
    (dats m 0 c).arrAt 3 cfg0.N = Cert.Reference5Ideal.Read.val_main_v20 (F := Ideal)
      (m ((c.tc : Thread Kernel5Ideal.nD Kernel5Ideal.τ).loc Kernel5Ideal.main_arg3))
      (m ((c.tc : Thread Kernel5Ideal.nD Kernel5Ideal.τ).loc Kernel5Ideal.main_arg4))
      (m ((c.tc : Thread Kernel5Ideal.nD Kernel5Ideal.τ).loc Kernel5Ideal.main_arg5))
      (m ((c.tc : Thread Kernel5Ideal.nD Kernel5Ideal.τ).loc Kernel5Ideal.main_arg6))
      (m ((c.tc : Thread Kernel5Ideal.nD Kernel5Ideal.τ).loc Kernel5Ideal.main_arg7)) := by
  rw [final, V_q, V_k, V_v]
  funext y
  idx_vars y
  rw [ref_at]
  exact attn_eq _ _ _ _ _ _ _ _ y0 y1 ⟨y2.val / 64, by omega⟩ ⟨y2.val % 64, by omega⟩

end Cert.CtxAttn

end
-- ==== Proof.EcTile.lean ====
/- One tile of the first layer's combine, and its reference, at an index. -/
module

public import proofs.«01_k».proof.Proof.CbTile
public import proofs.«01_k».proof.Proof.InWeights
public import proofs.«01_k».proof.Proof.Gen.Kernel6Ideal.Value
public import proofs.«01_k».proof.Proof.Gen.Reference6Ideal.Read

@[expose] public section

set_option maxRecDepth 16384

noncomputable section

namespace Cert.EarlyCombine

open Idealize.ShloMosaic
open Cert.Combine (comb)

section Tile

open Cert.Kernel6Ideal Cert.Kernel6Ideal.Gen

variable (x0 : Vec Ideal S1x256x1024 .f32) (x1 : Vec Ideal S2x1x256x1024 .f32) (x2 : Vec Ideal S1x256x2 .f32)
  (x3 : Vec Ideal S1x1x1x6x1024 .f32)

/-- The rows that a tile leaves. -/
theorem out4_at (r : Fin 256) (k : Fin 1024) :
    out0_4 x0 x1 x2 x3 (ix3 0 r k)
      = comb (fun e => x0 (ix3 0 r e)) (fun e => x3 (ix5 0 0 0 5 e)) (x2 (ix3 0 r 0)) (x2 (ix3 0 r 1))
        (fun e => x1 (ix4 0 0 r e)) (fun e => x1 (ix4 1 0 r e)) k := by
  unfold out0_4 comb
  rw [View.canon_unit_zero (by decide)]
  pointwise [k0_pay1]

end Tile

section Reference

open Cert.Reference6Ideal Cert.Reference6Ideal.Gen Cert.Reference6Ideal.Read

variable (x0 : FVec Ideal S4x4352x1024 .f32) (x1 : FVec Ideal S34816x1024 .f32) (x2 : FVec Ideal S4x4352x2 .f32)
  (x3 : FVec Ideal S4x8x6144 .f32)

theorem v9_at (i : Fin 2) (b : Fin 4) (n : Fin 4352) (k : Fin 1024) :
    val_main_v9 (F := Ideal) x1 x2 (ix4 i b n k) = x2 (ix3 b n i) * val_main_v5 (F := Ideal) x1 (ix4 i b n k) := by
  refine Eq.trans ?_ (mul_comm _ _)
  pointwise [val_main_v9, val_main_v8, val_main_v7, val_main_v6]

theorem v10_at (b : Fin 4) (n : Fin 4352) (k : Fin 1024) :
    val_main_v10 (F := Ideal) x1 x2 (ix3 b n k) = x2 (ix3 b n 0) * val_main_v5 (F := Ideal) x1 (ix4 0 b n k)
      + x2 (ix3 b n 1) * val_main_v5 (F := Ideal) x1 (ix4 1 b n k) := by
  rw [← v9_at, ← v9_at, ← Fin.sum_univ_two (fun i => val_main_v9 (F := Ideal) x1 x2 (ix4 i b n k))]
  pointwise [val_main_v10, val_main_cst]

theorem v16_at (b : Fin 4) (n : Fin 4096) (k : Fin 1024) :
    val_main_v16 (F := Ideal) x0 x1 x2 x3 (ix3 b n k)
      = x0 (ix3 b ⟨n.val, by omega⟩ k) + x3 (ix3 0 ⟨b.val, by omega⟩ ⟨5120 + k.val, by omega⟩)
        * val_main_v10 (F := Ideal) x1 x2 (ix3 b ⟨n.val, by omega⟩ k) := by
  pointwise [val_main_v16, val_main_v15, val_main_v14, val_main_v13, val_main_v12, val_main_v11, val_main_v2, val_main_v1, val_main_v0]

theorem v23_at (b : Fin 4) (n : Fin 256) (k : Fin 1024) :
    val_main_v23 (F := Ideal) x0 x1 x2 x3 (ix3 b n k)
      = x0 (ix3 b ⟨4096 + n.val, by omega⟩ k) + x3 (ix3 0 4 ⟨5120 + k.val, by omega⟩)
        * val_main_v10 (F := Ideal) x1 x2 (ix3 b ⟨4096 + n.val, by omega⟩ k) := by
  pointwise [val_main_v23, val_main_v22, val_main_v21, val_main_v20, val_main_v19, val_main_v18, val_main_v17, val_main_v4, val_main_v3]

/-- The latent rows come first, then the context's. -/
theorem v24_cases (b : Fin 4) (n : Fin 4352) (k : Fin 1024) :
    val_main_v24 (F := Ideal) x0 x1 x2 x3 (ix3 b n k)
      = if h : n.val < 4096 then val_main_v16 (F := Ideal) x0 x1 x2 x3 (ix3 b ⟨n.val, h⟩ k)
        else val_main_v23 (F := Ideal) x0 x1 x2 x3 (ix3 b ⟨n.val - 4096, by omega⟩ k) := by
  pointwise [val_main_v24]

/-- A row of the stream after the layer. -/
theorem v24_at (b : Fin 4) (n : Fin 4352) (k : Fin 1024) :
    val_main_v24 (F := Ideal) x0 x1 x2 x3 (ix3 b n k)
      = comb (fun e => x0 (ix3 b n e))
        (fun e => x3 (ix3 0 (if n.val / 4096 = 0 then ⟨b.val, by omega⟩ else 4) ⟨5 * 1024 + e.val, by omega⟩))
        (x2 (ix3 b n 0)) (x2 (ix3 b n 1))
        (fun e => val_main_v5 (F := Ideal) x1 (ix4 0 b n e)) (fun e => val_main_v5 (F := Ideal) x1 (ix4 1 b n e)) k := by
  rw [v24_cases]
  unfold comb
  by_cases h : n.val < 4096
  · rw [dif_pos h, v16_at, v10_at, if_pos (by omega)]
  · have e : (⟨4096 + (n.val - 4096), by omega⟩ : Fin 4352) = n := Fin.ext (by show 4096 + (n.val - 4096) = n.val; omega)
    rw [dif_neg h, v23_at, if_neg (by omega)]
    simp only [e, v10_at]

end Reference

end Cert.EarlyCombine

end
-- ==== Proof.EcFinal.lean ====
/- The first layer's combine's result array after the run, equal to its reference's. -/
module

public import proofs.«01_k».proof.Proof.EcTile
public import proofs.«01_k».proof.Proof.InFinal

@[expose] public section

set_option maxRecDepth 16384
set_option maxHeartbeats 1000000

noncomputable section

namespace Cert.EarlyCombine

open Cert.Kernel6Ideal Cert.Kernel6Ideal.Gen Idealize.ShloMosaic Idealize.ShloMosaic.TcCoe Idealize.SL.Sem
open Cert.InProj (modsArr modsArr_at)
open Cert.Reference6Ideal.Read (val_main_v5 val_main_v24)

variable (m : (ℓ : Loc nD τ sig) → Buf (Elt Ideal) ℓ) (c : Dev nD)

/-- An argument array. -/
abbrev A (b : Ref sig .tc) : Buf (Elt Ideal) ((c : Thread nD τ).loc b) := m ((c : Thread nD τ).loc b)

theorem V_v6 : V m c main_v6 = modsArr (A m c main_arg3) := by
  show StableHlo.after hostOps0 (fun b => m (c, b)) (Proc.devRef .tc main_v6) = _
  unfold hostOps0
  after_results
  rfl

theorem V_v7 : V m c main_v7 = val_main_v5 (F := Ideal) (A m c main_arg1) := by
  show StableHlo.after hostOps0 (fun b => m (c, b)) (Proc.devRef .tc main_v7) = _
  unfold hostOps0
  after_results
  rfl

/-- Where each grid point's blocks lie. -/
theorem idx_moves : ∀ t : Fin grid0.N,
    (win0_4.index t 0 < 4 ∧ win0_4.index t 1 < 17 ∧ win0_4.index t 2 = 0)
    ∧ (win0_0.index t 0 = win0_4.index t 0 ∧ win0_0.index t 1 = win0_4.index t 1 ∧ win0_0.index t 2 = 0)
    ∧ (win0_1.index t 0 = 0 ∧ win0_1.index t 1 = win0_4.index t 0 ∧ win0_1.index t 2 = win0_4.index t 1 ∧ win0_1.index t 3 = 0)
    ∧ (win0_2.index t 0 = win0_4.index t 0 ∧ win0_2.index t 1 = win0_4.index t 1 ∧ win0_2.index t 2 = 0)
    ∧ (win0_3.index t 0 = 0 ∧ win0_3.index t 1 = win0_4.index t 0 ∧ win0_3.index t 2 = win0_4.index t 1 / 16
        ∧ win0_3.index t 3 = 0 ∧ win0_3.index t 4 = 0) := by
  decide +kernel

/-- A grid point's sequence. -/
def tb (t : Fin grid0.N) : Fin 4 := ⟨win0_4.index t 0, (idx_moves t).1.1⟩

/-- A grid point's tile of rows. -/
def tn (t : Fin grid0.N) : Fin 17 := ⟨win0_4.index t 1, (idx_moves t).1.2.1⟩

/-- A row of a grid point's tile among the rows of the sequence. -/
def tr (t : Fin grid0.N) (r : Fin 256) : Fin 4352 := ⟨(tn t).val * 256 + r.val, by omega⟩

theorem blk0_at (t : Fin grid0.N) (r : Fin 256) (e : Fin 1024) :
    iblk m c 0 t (ix3 0 r e) = A m c main_arg0 (ix3 (tb t) (tr t r) e) := by
  obtain ⟨h0, h1, h2⟩ := (idx_moves t).2.1
  refine Eq.trans (congrArg (V m c main_arg0) (funext fun a => Fin.ext ?_)) (congrFun (V_main_arg0 m c) _)
  match a with
  | 0 => exact (Pipeline.Window.rect_emb_val win0_0 t (ix3 0 r e) 0 rfl).trans (by rw [h0]; exact Nat.mul_one _)
  | 1 => exact (Pipeline.Window.rect_emb_val win0_0 t (ix3 0 r e) 1 rfl).trans (by rw [h1]; rfl)
  | 2 => exact (Pipeline.Window.rect_emb_val win0_0 t (ix3 0 r e) 2 rfl).trans (by rw [h2]; exact Nat.zero_add _)

theorem blk1_at (t : Fin grid0.N) (i : Fin 2) (r : Fin 256) (e : Fin 1024) :
    iblk m c 1 t (ix4 i 0 r e) = val_main_v5 (F := Ideal) (A m c main_arg1) (ix4 i (tb t) (tr t r) e) := by
  obtain ⟨h0, h1, h2, h3⟩ := (idx_moves t).2.2.1
  rw [← V_v7]
  refine congrArg (V m c main_v7) (funext fun a => Fin.ext ?_)
  match a with
  | 0 => exact (Pipeline.Window.rect_emb_val win0_1 t (ix4 i 0 r e) 0 rfl).trans (by rw [h0]; exact Nat.zero_add _)
  | 1 => exact (Pipeline.Window.rect_emb_val win0_1 t (ix4 i 0 r e) 1 rfl).trans (by rw [h1]; exact Nat.mul_one _)
  | 2 => exact (Pipeline.Window.rect_emb_val win0_1 t (ix4 i 0 r e) 2 rfl).trans (by rw [h2]; rfl)
  | 3 => exact (Pipeline.Window.rect_emb_val win0_1 t (ix4 i 0 r e) 3 rfl).trans (by rw [h3]; exact Nat.zero_add _)

theorem blk2_at (t : Fin grid0.N) (r : Fin 256) (i : Fin 2) :
    iblk m c 2 t (ix3 0 r i) = A m c main_arg2 (ix3 (tb t) (tr t r) i) := by
  obtain ⟨h0, h1, h2⟩ := (idx_moves t).2.2.2.1
  refine Eq.trans (congrArg (V m c main_arg2) (funext fun a => Fin.ext ?_)) (congrFun (V_main_arg2 m c) _)
  match a with
  | 0 => exact (Pipeline.Window.rect_emb_val win0_2 t (ix3 0 r i) 0 rfl).trans (by rw [h0]; exact Nat.mul_one _)
  | 1 => exact (Pipeline.Window.rect_emb_val win0_2 t (ix3 0 r i) 1 rfl).trans (by rw [h1]; rfl)
  | 2 => exact (Pipeline.Window.rect_emb_val win0_2 t (ix3 0 r i) 2 rfl).trans (by rw [h2]; exact Nat.zero_add _)

/-- The gate of the latent rows or of the context's. -/
theorem blk3_at (t : Fin grid0.N) (r : Fin 256) (e : Fin 1024) :
    iblk m c 3 t (ix5 0 0 0 5 e)
      = A m c main_arg3 (ix3 0 (if (tr t r).val / 4096 = 0 then ⟨(tb t).val, by omega⟩ else 4) ⟨5 * 1024 + e.val, by omega⟩) := by
  obtain ⟨h0, h1, h2, h3, h4⟩ := (idx_moves t).2.2.2.2
  have e' : (tr t r).val / 4096 = (tn t).val / 16 := by
    show ((tn t).val * 256 + r.val) / 4096 = _
    omega
  rw [e']
  refine Eq.trans ?_ (modsArr_at (A m c main_arg3) (tb t) ⟨(tn t).val / 16, by omega⟩ 5 e)
  rw [← V_v6]
  refine congrArg (V m c main_v6) (funext fun a => Fin.ext ?_)
  match a with
  | 0 => exact (Pipeline.Window.rect_emb_val win0_3 t (ix5 0 0 0 5 e) 0 rfl).trans (by rw [h0]; rfl)
  | 1 => exact (Pipeline.Window.rect_emb_val win0_3 t (ix5 0 0 0 5 e) 1 rfl).trans (by rw [h1]; exact Nat.mul_one _)
  | 2 => exact (Pipeline.Window.rect_emb_val win0_3 t (ix5 0 0 0 5 e) 2 rfl).trans (by rw [h2]; exact Nat.mul_one _)
  | 3 => exact (Pipeline.Window.rect_emb_val win0_3 t (ix5 0 0 0 5 e) 3 rfl).trans (by rw [h3]; rfl)
  | 4 => exact (Pipeline.Window.rect_emb_val win0_3 t (ix5 0 0 0 5 e) 4 rfl).trans (by rw [h4]; exact Nat.zero_add _)

/-- The run leaves the reference's array. -/
theorem result4 : (dats m 0 c).arrAt 4 cfg0.N = val_main_v24 (F := Ideal) (A m c main_arg0) (A m c main_arg1) (A m c main_arg2)
    (A m c main_arg3) := by
  refine (dats m 0 c).arrAt_eq_of_covers 4 _ (by decide +kernel) fun t hf y => ?_
  blk_simp
  rw [after0_4]
  idx_vars y
  obtain rfl : y0 = 0 := Subsingleton.elim _ _
  have a2 := (idx_moves t).1.2.2
  have e : ((View.whole main_v8).slice (win0_4.rect t)).emb (ix3 0 y1 y2) = ix3 (tb t) (tr t y1) y2 := funext fun a => Fin.ext (by
    match a with
    | 0 => exact (Pipeline.Window.rect_emb_val win0_4 t (ix3 0 y1 y2) 0 rfl).trans (Nat.mul_one _)
    | 1 => exact (Pipeline.Window.rect_emb_val win0_4 t (ix3 0 y1 y2) 1 rfl).trans rfl
    | 2 => exact (Pipeline.Window.rect_emb_val win0_4 t (ix3 0 y1 y2) 2 rfl).trans (by rw [a2]; exact Nat.zero_add _))
  rw [e, v24_at, out4_at]
  simp only [blk0_at, blk1_at, blk2_at, blk3_at m c t y1]

end Cert.EarlyCombine

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Eq
public import proofs.«01_k».proof.Proof.InResults
public import proofs.«01_k».proof.Proof.MgResults
public import proofs.«01_k».proof.Proof.CbFinal
public import proofs.«01_k».proof.Proof.CxRef
public import proofs.«01_k».proof.Proof.EcFinal
public import Idealize.ShloMosaic.Adequacy
public import Idealize.ShloMosaic.Init

@[expose] public section

noncomputable section

namespace Cert.Proof

open Idealize.ShloMosaic Idealize.SL.Sem Cert.Kernel

/-- The reference leaves its arguments as they are, and it has no counters. -/
theorem reference_ends : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

/-- The attention call and its reference end with equal results. -/
theorem attention : @Cert.algebraic_KernelIdeal_ReferenceIdeal Cert.KernelIdeal.Gen.facts Cert.ReferenceIdeal.Gen.facts := by
  intro m g m' g' _ hargs
  refine ⟨fun c => (Cert.KernelIdeal.Gen.dats m 0 c).arrAt 3 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨h0, h1, h2, h3, h4, h5, h6, h7, h8⟩ := hargs c
  rw [Cert.ReferenceIdeal.Read.val_main_v30_eq, h0, h1, h2, h3, h4, h5, h6, h7, h8]
  exact (Cert.Attn.result_eq m c).symm

/-- The in-projection's reference leaves its arguments as they are, and it has no counters. -/
theorem inproj_reference_ends : @Cert.quiescent_Reference2Ideal Cert.Reference2Ideal.Gen.facts := fun m g _ =>
  (θ_run _ _ _).mono (fun r h => ⟨fun c => (h c).2.2.2.2.2, sem_eq_zero_of_no_sems (by decide) r.2⟩) (Cert.Reference2Ideal.Value.run m g)

set_option maxHeartbeats 4000000 in
/-- The in-projection call and its reference end with equal results, all five. -/
theorem inproj : @Cert.algebraic_Kernel2Ideal_Reference2Ideal Cert.Kernel2Ideal.Gen.facts Cert.Reference2Ideal.Gen.facts := by
  intro m g m' g' _ hargs
  refine ⟨fun c => (Cert.Kernel2Ideal.Gen.dats m 0 c).arrAt 19 Cert.Kernel2Ideal.cfg0.N,
    fun c => (Cert.Kernel2Ideal.Gen.dats m 0 c).arrAt 20 Cert.Kernel2Ideal.cfg0.N,
    fun c => (Cert.Kernel2Ideal.Gen.dats m 0 c).arrAt 21 Cert.Kernel2Ideal.cfg0.N,
    fun c => (Cert.Kernel2Ideal.Gen.dats m 0 c).arrAt 22 Cert.Kernel2Ideal.cfg0.N,
    fun c => (Cert.Kernel2Ideal.Gen.dats m 0 c).arrAt 23 Cert.Kernel2Ideal.cfg0.N, Cert.Kernel2Ideal.Value.run_blocks m g, ?_⟩
  refine (θ_run _ _ _).mono (fun r h c => ?_) (Cert.Reference2Ideal.Value.run m' g')
  obtain ⟨e0, e1, e2, e3, e4, e5⟩ := h c
  obtain ⟨h0, h1, h2, h3, h4, h5, h6, h7, h8, h9, h10⟩ := hargs c
  have a {b : Ref Cert.Reference2Ideal.sig .tc} {v : Buf (Elt Ideal) ((c.tc : Thread Cert.Reference2Ideal.nD Cert.Reference2Ideal.τ).loc b)}
      (h : m' ((c.tc : Thread Cert.Reference2Ideal.nD Cert.Reference2Ideal.τ).loc b) = v) :
      StableHlo.launchContents m' c (Proc.devRef .tc b) = v := h
  refine ⟨e0.trans ?_, e1.trans ?_, e2.trans ?_, e3.trans ?_, e4.trans ?_, e5⟩
  · rw [Cert.Reference2Ideal.Read.val_main_v305_eq, a h0, a h1, a h2, a h3, a h4, a h9, a h10]
    exact (Cert.InProj.result19 m c).symm
  · rw [Cert.Reference2Ideal.Read.val_main_v315_eq, a h0, a h1, a h2, a h3, a h4]
    exact (Cert.InProj.result20 m c).symm
  · rw [Cert.Reference2Ideal.Read.val_main_v316_eq, a h0, a h1, a h2, a h3, a h4, a h5, a h7]
    exact (Cert.InProj.result21 m c).symm
  · rw [Cert.Reference2Ideal.Read.val_main_v317_eq, a h0, a h1, a h2, a h3, a h4, a h6, a h8]
    exact (Cert.InProj.result22 m c).symm
  · rw [Cert.Reference2Ideal.Read.val_main_v318_eq, a h0, a h1, a h2, a h3, a h4, a h6, a h8]
    exact (Cert.InProj.result23 m c).symm

/-- The merge's reference leaves its arguments as they are, and it has no counters. -/
theorem merge_reference_ends : @Cert.quiescent_Reference3Ideal Cert.Reference3Ideal.Gen.facts := fun m g _ =>
  (θ_run _ _ _).mono (fun r h => ⟨fun c => (h c).2.2, sem_eq_zero_of_no_sems (by decide) r.2⟩) (Cert.Reference3Ideal.Value.run m g)

set_option maxHeartbeats 4000000 in
/-- The merge call and its reference end with equal results, the stream after the mixers and its modulated norm. -/
theorem merge : @Cert.algebraic_Kernel3Ideal_Reference3Ideal Cert.Kernel3Ideal.Gen.facts Cert.Reference3Ideal.Gen.facts := by
  intro m g m' g' _ hargs
  refine ⟨fun c => (Cert.Kernel3Ideal.Gen.dats m 0 c).arrAt 13 Cert.Kernel3Ideal.cfg0.N,
    fun c => (Cert.Kernel3Ideal.Gen.dats m 0 c).arrAt 14 Cert.Kernel3Ideal.cfg0.N,
    (θ_run _ _ _).mono (fun r h c => ⟨(h c).1, (h c).2.1, (h c).2.2.2.2.2⟩) (Cert.Kernel3Ideal.Value.run_blocks m g), ?_⟩
  refine (θ_run _ _ _).mono (fun r h c => ?_) (Cert.Reference3Ideal.Value.run m' g')
  obtain ⟨e0, e1, e2⟩ := h c
  obtain ⟨h0, h1, h2, h3, h4, h5, h6, h7, h8, h9, h10, h11, -⟩ := hargs c
  refine ⟨e0.trans ?_, e1.trans ?_, e2⟩
  · rw [Cert.Reference3Ideal.Read.val_main_v95_eq, h0, h1, h2, h3, h4, h5, h6, h7, h9, h10, h11]
    exact (Cert.Merge.result13 m c).symm
  · rw [Cert.Reference3Ideal.Read.val_main_v96_eq, h0, h1, h2, h3, h4, h5, h6, h7, h8, h9, h10, h11]
    exact (Cert.Merge.result14 m c).symm

/-- The last combine's reference leaves its arguments as they are, and it has no counters. -/
theorem combine_reference_ends : @Cert.quiescent_Reference4Ideal Cert.Reference4Ideal.Gen.facts := fun m g _ =>
  (θ_run _ _ _).mono (fun r h => ⟨fun c => (h c).2, sem_eq_zero_of_no_sems (by decide) r.2⟩) (Cert.Reference4Ideal.Value.run m g)

/-- The last combine and its reference end with equal results, the model's output. -/
theorem combine : @Cert.algebraic_Kernel4Ideal_Reference4Ideal Cert.Kernel4Ideal.Gen.facts Cert.Reference4Ideal.Gen.facts := by
  intro m g m' g' _ hargs
  refine ⟨fun c => (Cert.Kernel4Ideal.Gen.dats m 0 c).arrAt 5 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  obtain ⟨h0, h1, h2, h3, h4⟩ := hargs c
  rw [Cert.Reference4Ideal.Read.val_main_v25_eq, h0, h1, h2, h3, h4]
  exact (Cert.Combine.result5 m c).symm

/-- The context attention's reference leaves its arguments as they are, and it has no counters. -/
theorem ctx_reference_ends : @Cert.quiescent_Reference5Ideal Cert.Reference5Ideal.Gen.facts := fun m g _ =>
  (θ_run _ _ _).mono (fun r h => ⟨fun c => (h c).2, sem_eq_zero_of_no_sems (by decide) r.2⟩) (Cert.Reference5Ideal.Value.run m g)

/-- The context attention call and its reference end with equal results. -/
theorem ctx_attention : @Cert.algebraic_Kernel5Ideal_Reference5Ideal Cert.Kernel5Ideal.Gen.facts Cert.Reference5Ideal.Gen.facts := by
  intro m g m' g' _ hargs
  refine ⟨fun c => (Cert.Kernel5Ideal.Gen.dats m 0 c).arrAt 3 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨-, -, -, h3, h4, h5, h6, h7⟩ := hargs c
  rw [Cert.Reference5Ideal.Read.val_main_v20_eq, h3, h4, h5, h6, h7]
  exact (Cert.CtxAttn.result_eq m c).symm

/-- The first layer's combine's reference leaves its arguments as they are, and it has no counters. -/
theorem early_reference_ends : @Cert.quiescent_Reference6Ideal Cert.Reference6Ideal.Gen.facts := fun m g _ =>
  (θ_run _ _ _).mono (fun r h => ⟨fun c => (h c).2, sem_eq_zero_of_no_sems (by decide) r.2⟩) (Cert.Reference6Ideal.Value.run m g)

/-- The first layer's combine and its reference end with equal results, the stream that the next layer takes. -/
theorem early_combine : @Cert.algebraic_Kernel6Ideal_Reference6Ideal Cert.Kernel6Ideal.Gen.facts Cert.Reference6Ideal.Gen.facts := by
  intro m g m' g' _ hargs
  refine ⟨fun c => (Cert.Kernel6Ideal.Gen.dats m 0 c).arrAt 4 Cert.Kernel6Ideal.cfg0.N, Cert.Kernel6Ideal.Value.run_blocks m g, ?_⟩
  refine (θ_run _ _ _).mono (fun r h c => ⟨(h c).1.trans ?_, (h c).2⟩) (Cert.Reference6Ideal.Value.run m' g')
  obtain ⟨h0, h1, h2, h3⟩ := hargs c
  rw [Cert.Reference6Ideal.Read.val_main_v24_eq, h0, h1, h2, h3]
  exact (Cert.EarlyCombine.result4 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, by
  refine ⟨fun m ρ _ => Cert.Kernel.Gen.frame m ρ, fun m ρ _ => Cert.KernelIdeal.Gen.frame m ρ,
    reference_ends, fun m ρ _ => Cert.Kernel2.Gen.frame m ρ, fun m ρ _ => Cert.Kernel2Ideal.Gen.frame m ρ,
    inproj_reference_ends, fun m ρ _ => Cert.Kernel3.Gen.frame m ρ, fun m ρ _ => Cert.Kernel3Ideal.Gen.frame m ρ,
    merge_reference_ends, fun m ρ _ => Cert.Kernel4.Gen.frame m ρ, fun m ρ _ => Cert.Kernel4Ideal.Gen.frame m ρ,
    combine_reference_ends, fun m ρ _ => Cert.Kernel5.Gen.frame m ρ, fun m ρ _ => Cert.Kernel5Ideal.Gen.frame m ρ,
    ctx_reference_ends, fun m ρ _ => Cert.Kernel6.Gen.frame m ρ, fun m ρ _ => Cert.Kernel6Ideal.Gen.frame m ρ,
    early_reference_ends, trivial, attention, trivial, inproj, trivial, merge, trivial, combine, trivial, ctx_attention,
    trivial, early_combine⟩⟩

end Cert.Proof

end
